-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_he" .f32 0x3AAAAAAB#32 ((1 / 768 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x12x64 : Shape := ⟨4, ![4, 4096, 12, 64]⟩
abbrev S_ : Shape := ⟨0, ![]⟩

class Facts : Prop where
  bcast_S_S4x4096x12x64 : S_.BroadcastsInDim S4x4096x12x64 (![] : Fin 0 → Fin S4x4096x12x64.rank)
  reducesTo_S4x4096x12x64_S_d0_1_2_3 : S4x4096x12x64.ReducesTo [0, 1, 2, 3] S_
  h_S_ : 0 < S_.numel

variable [Facts]

def fn {F : FTy → Type} [FloatOps F] (main_arg0 : FVec F S4x4096x12x64 .f32) (main_arg1 : FVec F S4x4096x12x64 .f32) (main_arg2 : FVec F S4x4096x12x64 .f32) : IVec S_ 1 :=
  let main_v0 : FVec F S4x4096x12x64 .f32 := Host.absf main_arg0
  let main_cst : FVec F S_ .f32 := constant S_ .f32 0x7F800000#32
  let main_v1 : FVec F S4x4096x12x64 .f32 := broadcastInDim S4x4096x12x64 ![] bcast_S_S4x4096x12x64 main_cst
  let main_v2 : IVec S4x4096x12x64 1 := cmpf .olt main_v0 main_v1
  let main_c : IVec S_ 1 := constantI S_ 1 1#1
  let main_v3 : IVec S_ 1 := (fun x v => Host.reduce IntOp.andi x v reducesTo_S4x4096x12x64_S_d0_1_2_3 h_S_) main_v2 main_c
  let main_v4 : FVec F S4x4096x12x64 .f32 := Host.absf main_arg1
  let main_cst_0 : FVec F S_ .f32 := constant S_ .f32 0x7F800000#32
  let main_v5 : FVec F S4x4096x12x64 .f32 := broadcastInDim S4x4096x12x64 ![] bcast_S_S4x4096x12x64 main_cst_0
  let main_v6 : IVec S4x4096x12x64 1 := cmpf .olt main_v4 main_v5
  let main_c_1 : IVec S_ 1 := constantI S_ 1 1#1
  let main_v7 : IVec S_ 1 := (fun x v => Host.reduce IntOp.andi x v reducesTo_S4x4096x12x64_S_d0_1_2_3 h_S_) main_v6 main_c_1
  let main_v8 : IVec S_ 1 := andi main_v3 main_v7
  main_v8
-- ==== Kernel.lean ====
abbrev S4x4096x12x64 : Shape := ⟨4, ![4, 4096, 12, 64]⟩
abbrev S4x8x512x768 : Shape := ⟨4, ![4, 8, 512, 768]⟩
abbrev S4x4096x768 : Shape := ⟨3, ![4, 4096, 768]⟩
abbrev S4x8x1024 : Shape := ⟨3, ![4, 8, 1024]⟩
abbrev S1x1x512x768 : Shape := ⟨4, ![1, 1, 512, 768]⟩
abbrev S1x4096x768 : Shape := ⟨3, ![1, 4096, 768]⟩
abbrev S1x8x1024 : Shape := ⟨3, ![1, 8, 1024]⟩
abbrev S8x512x512 : Shape := ⟨3, ![8, 512, 512]⟩
abbrev S4096x768 : Shape := ⟨2, ![4096, 768]⟩
abbrev S1x512x768 : Shape := ⟨3, ![1, 512, 768]⟩
abbrev S512x768 : Shape := ⟨2, ![512, 768]⟩
abbrev S512x512 : Shape := ⟨2, ![512, 512]⟩
abbrev S1x512x512 : Shape := ⟨3, ![1, 512, 512]⟩
abbrev S512x1024 : Shape := ⟨2, ![512, 1024]⟩
abbrev S1024 : Shape := ⟨1, ![1024]⟩
abbrev S1x1024 : Shape := ⟨2, ![1, 1024]⟩
abbrev S8x1024 : Shape := ⟨2, ![8, 1024]⟩
abbrev S1x8 : Shape := ⟨2, ![1, 8]⟩
abbrev S4x8 : Shape := ⟨2, ![4, 8]⟩
abbrev S8x512 : Shape := ⟨2, ![8, 512]⟩
abbrev S7x1024 : Shape := ⟨2, ![7, 1024]⟩
abbrev S8x1 : Shape := ⟨2, ![8, 1]⟩
abbrev S8x511 : Shape := ⟨2, ![8, 511]⟩
abbrev S1x8x512 : Shape := ⟨3, ![1, 8, 512]⟩
abbrev S1 : Shape := ⟨1, ![1]⟩
abbrev S1x1x1 : Shape := ⟨3, ![1, 1, 1]⟩
abbrev S1x1 : Shape := ⟨2, ![1, 1]⟩
abbrev S4 : Shape := ⟨1, ![4]⟩
abbrev S4x1 : Shape := ⟨2, ![4, 1]⟩
abbrev S4x512x768 : Shape := ⟨3, ![4, 512, 768]⟩
abbrev S4x4608x768 : Shape := ⟨3, ![4, 4608, 768]⟩
abbrev S8 : Shape := ⟨1, ![8]⟩
abbrev S4x1x8 : Shape := ⟨3, ![4, 1, 8]⟩
abbrev S1x4608x768 : Shape := ⟨3, ![1, 4608, 768]⟩
abbrev S1x1x8 : Shape := ⟨3, ![1, 1, 8]⟩
abbrev S1x520x768 : Shape := ⟨3, ![1, 520, 768]⟩
abbrev S520x768 : Shape := ⟨2, ![520, 768]⟩

abbrev nBuf : Space → Nat
  | .hbm => 17
  | .vmem => 18
  | .smem => 1
  | _ => 0

abbrev bufTy : (tb : Table) → Fin (tcTables nBuf tb) → BufTy
  | .hbm, ⟨0, _⟩ => ⟨S4x4096x12x64, .f32⟩
  | .hbm, ⟨1, _⟩ => ⟨S4x4096x12x64, .f32⟩
  | .hbm, ⟨2, _⟩ => ⟨S4x4096x12x64, .f32⟩
  | .hbm, ⟨3, _⟩ => ⟨S4x8x512x768, .f32⟩
  | .hbm, ⟨4, _⟩ => ⟨S4x4096x768, .f32⟩
  | .hbm, ⟨5, _⟩ => ⟨S4x8x512x768, .f32⟩
  | .hbm, ⟨6, _⟩ => ⟨S4x8x512x768, .f32⟩
  | .hbm, ⟨7, _⟩ => ⟨S4x4096x768, .f32⟩
  | .hbm, ⟨8, _⟩ => ⟨S4x8x1024, .f32⟩
  | .hbm, ⟨9, _⟩ => ⟨S1x8, .i32⟩
  | .hbm, ⟨10, _⟩ => ⟨S4x8, .f32⟩
  | .hbm, ⟨11, _⟩ => ⟨S4x4096x768, .f32⟩
  | .hbm, ⟨12, _⟩ => ⟨S4x512x768, .f32⟩
  | .hbm, ⟨13, _⟩ => ⟨S4x4608x768, .f32⟩
  | .hbm, ⟨14, _⟩ => ⟨S4x1x8, .f32⟩
  | .hbm, ⟨15, _⟩ => ⟨S4x4096x768, .f32⟩
  | .hbm, ⟨16, _⟩ => ⟨S4x4096x12x64, .f32⟩
  | .local _ .vmem, ⟨0, _⟩ => ⟨S1x1x512x768, .f32⟩
  | .local _ .vmem, ⟨1, _⟩ => ⟨S1x1x512x768, .f32⟩
  | .local _ .vmem, ⟨2, _⟩ => ⟨S1x4096x768, .f32⟩
  | .local _ .vmem, ⟨3, _⟩ => ⟨S1x4096x768, .f32⟩
  | .local _ .vmem, ⟨4, _⟩ => ⟨S1x8x1024, .f32⟩
  | .local _ .vmem, ⟨5, _⟩ => ⟨S1x8x1024, .f32⟩
  | .local _ .vmem, ⟨6, _⟩ => ⟨S8x512x512, .f32⟩
  | .local _ .vmem, ⟨7, _⟩ => ⟨S4096x768, .bf16⟩
  | .local _ .vmem, ⟨8, _⟩ => ⟨S4096x768, .bf16⟩
  | .local _ .vmem, ⟨9, _⟩ => ⟨S4x8x1024, .f32⟩
  | .local _ .vmem, ⟨10, _⟩ => ⟨S1x8, .i32⟩
  | .local _ .vmem, ⟨11, _⟩ => ⟨S4x8, .f32⟩
  | .local _ .vmem, ⟨12, _⟩ => ⟨S1x4608x768, .f32⟩
  | .local _ .vmem, ⟨13, _⟩ => ⟨S1x4608x768, .f32⟩
  | .local _ .vmem, ⟨14, _⟩ => ⟨S1x1x8, .f32⟩
  | .local _ .vmem, ⟨15, _⟩ => ⟨S1x1x8, .f32⟩
  | .local _ .vmem, ⟨16, _⟩ => ⟨S1x512x768, .f32⟩
  | .local _ .vmem, ⟨17, _⟩ => ⟨S1x512x768, .f32⟩
  | .local _ .smem, ⟨0, _⟩ => ⟨S8, .i32⟩
  | _, _ => ⟨S4x4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c0_i32_4 : BitVec 32 := 0#32
  let v9 : BitVec 32 := Scalar.subi arg1 c0_i32_4
  let c8_i32 : BitVec 32 := 8#32
  let v10 : BitVec 32 := Scalar.addi v9 c8_i32
  let c8_i32_5 : BitVec 32 := 8#32
  let v11 : BitVec 32 := Scalar.remsi v10 c8_i32_5
  let c512_i32 : BitVec 32 := 512#32
  let v12 : BitVec 32 := Scalar.muli v11 c512_i32
  v12
def k0_off1 (i : grid0.Coords) (c0_i32_4 : BitVec 32) : Fin 2 → Nat :=
  let arg1 : BitVec 32 := BitVec.ofNat 32 (i 1).val
  let v9 : BitVec 32 := Scalar.subi arg1 c0_i32_4
  let c8_i32 : BitVec 32 := 8#32
  let v10 : BitVec 32 := Scalar.addi v9 c8_i32
  let c8_i32_5 : BitVec 32 := 8#32
  let v11 : BitVec 32 := Scalar.remsi v10 c8_i32_5
  let c512_i32 : BitVec 32 := 512#32
  let v12 : BitVec 32 := Scalar.muli v11 c512_i32
  let v13 : BitVec 32 := v12
  let v14 : Index := Scalar.indexCast v13
  let c0_6 : Index := 0#32
  ![v14.toNat, 0]
def k0_mult2 (i : grid0.Coords) : BitVec 32 :=
  let arg1 : BitVec 32 := BitVec.ofNat 32 (i 1).val
  let c1_i32 : BitVec 32 := 1#32
  let v29 : BitVec 32 := Scalar.subi arg1 c1_i32
  let c8_i32_16 : BitVec 32 := 8#32
  let v30 : BitVec 32 := Scalar.addi v29 c8_i32_16
  let c8_i32_17 : BitVec 32 := 8#32
  let v31 : BitVec 32 := Scalar.remsi v30 c8_i32_17
  let c512_i32_18 : BitVec 32 := 512#32
  let v32 : BitVec 32 := Scalar.muli v31 c512_i32_18
  v32
def k0_mult3 (i : grid0.Coords) : BitVec 32 :=
  let arg1 : BitVec 32 := BitVec.ofNat 32 (i 1).val
  let c2_i32 : BitVec 32 := 2#32
  let v49 : BitVec 32 := Scalar.subi arg1 c2_i32
  let c8_i32_29 : BitVec 32 := 8#32
  let v50 : BitVec 32 := Scalar.addi v49 c8_i32_29
  let c8_i32_30 : BitVec 32 := 8#32
  let v51 : BitVec 32 := Scalar.remsi v50 c8_i32_30
  let c512_i32_31 : BitVec 32 := 512#32
  let v52 : BitVec 32 := Scalar.muli v51 c512_i32_31
  v52
def k0_mult4 (i : grid0.Coords) : BitVec 32 :=
  let arg1 : BitVec 32 := BitVec.ofNat 32 (i 1).val
  let c3_i32 : BitVec 32 := 3#32
  let v69 : BitVec 32 := Scalar.subi arg1 c3_i32
  let c8_i32_42 : BitVec 32 := 8#32
  let v70 : BitVec 32 := Scalar.addi v69 c8_i32_42
  let c8_i32_43 : BitVec 32 := 8#32
  let v71 : BitVec 32 := Scalar.remsi v70 c8_i32_43
  let c512_i32_44 : BitVec 32 := 512#32
  let v72 : BitVec 32 := Scalar.muli v71 c512_i32_44
  v72
def k0_mult5 (i : grid0.Coords) : BitVec 32 :=
  let arg1 : BitVec 32 := BitVec.ofNat 32 (i 1).val
  let c4_i32 : BitVec 32 := 4#32
  let v89 : BitVec 32 := Scalar.subi arg1 c4_i32
  let c8_i32_55 : BitVec 32 := 8#32
  let v90 : BitVec 32 := Scalar.addi v89 c8_i32_55
  let c8_i32_56 : BitVec 32 := 8#32
  let v91 : BitVec 32 := Scalar.remsi v90 c8_i32_56
  let c512_i32_57 : BitVec 32 := 512#32
  let v92 : BitVec 32 := Scalar.muli v91 c512_i32_57
  v92
def k0_mult6 (i : grid0.Coords) : BitVec 32 :=
  let arg1 : BitVec 32 := BitVec.ofNat 32 (i 1).val
  let c5_i32 : BitVec 32 := 5#32
  let v109 : BitVec 32 := Scalar.subi arg1 c5_i32
  let c8_i32_68 : BitVec 32 := 8#32
  let v110 : BitVec 32 := Scalar.addi v109 c8_i32_68
  let c8_i32_69 : BitVec 32 := 8#32
  let v111 : BitVec 32 := Scalar.remsi v110 c8_i32_69
  let c512_i32_70 : BitVec 32 := 512#32
  let v112 : BitVec 32 := Scalar.muli v111 c512_i32_70
  v112
def k0_mult7 (i : grid0.Coords) : BitVec 32 :=
  let arg1 : BitVec 32 := BitVec.ofNat 32 (i 1).val
  let c6_i32 : BitVec 32 := 6#32
  let v129 : BitVec 32 := Scalar.subi arg1 c6_i32
  let c8_i32_81 : BitVec 32 := 8#32
  let v130 : BitVec 32 := Scalar.addi v129 c8_i32_81
  let c8_i32_82 : BitVec 32 := 8#32
  let v131 : BitVec 32 := Scalar.remsi v130 c8_i32_82
  let c512_i32_83 : BitVec 32 := 512#32
  let v132 : BitVec 32 := Scalar.muli v131 c512_i32_83
  v132
def k0_mult8 (i : grid0.Coords) : BitVec 32 :=
  let arg1 : BitVec 32 := BitVec.ofNat 32 (i 1).val
  let c7_i32 : BitVec 32 := 7#32
  let v149 : BitVec 32 := Scalar.subi arg1 c7_i32
  let c8_i32_94 : BitVec 32 := 8#32
  let v150 : BitVec 32 := Scalar.addi v149 c8_i32_94
  let c8_i32_95 : BitVec 32 := 8#32
  let v151 : BitVec 32 := Scalar.remsi v150 c8_i32_95
  let c512_i32_96 : BitVec 32 := 512#32
  let v152 : BitVec 32 := Scalar.muli v151 c512_i32_96
  v152
def k0_cond2 (i : grid0.Coords) : BitVec 1 :=
  let arg1 : BitVec 32 := BitVec.ofNat 32 (i 1).val
  let c7_i32_107 : BitVec 32 := 7#32
  let v169 : BitVec 1 := Scalar.cmpi .eq arg1 c7_i32_107
  let v170 : BitVec 32 := Scalar.extui v169
  let c0_i32_108 : BitVec 32 := 0#32
  let v171 : BitVec 1 := Scalar.cmpi .ne v170 c0_i32_108
  v171

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

abbrev stage1_0 : Fin 1 → Memref sig .tc .vmem S4x8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x8 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![4, 8], ![false, false]⟩

abbrev pre2 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k2_mult1 (i : grid2.Coords) (v2 : BitVec 32) : BitVec 32 :=
  let arg1 : BitVec 32 := BitVec.ofNat 32 (i 1).val
  let c512_i32 : BitVec 32 := 512#32
  let v0 : BitVec 32 := Scalar.muli arg1 c512_i32
  let v3 : BitVec 32 := Scalar.addi v0 v2
  let c4096_i32 : BitVec 32 := 4096#32
  let v4 : BitVec 32 := Scalar.remsi v3 c4096_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v4 c8_i32
  let c0_i32_3 : BitVec 32 := 0#32
  let v18 : BitVec 1 := Scalar.cmpi .ne v17 c0_i32_3
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  v22

def k2_off1 (i : grid2.Coords) (v2 : BitVec 32) : Fin 3 → Nat :=
  let c0_5 : Index := 0#32
  let arg1 : BitVec 32 := BitVec.ofNat 32 (i 1).val
  let c512_i32 : BitVec 32 := 512#32
  let v0 : BitVec 32 := Scalar.muli arg1 c512_i32
  let v3 : BitVec 32 := Scalar.addi v0 v2
  let c4096_i32 : BitVec 32 := 4096#32
  let v4 : BitVec 32 := Scalar.remsi v3 c4096_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c8_i32 : BitVec 32 := 8#32
  let c0_i32_1 : BitVec 32 := 0#32
  let v11 : BitVec 1 := Scalar.cmpi .sgt c8_i32 c0_i32_1
  let v12 : BitVec 32 := Scalar.extui v11
  let c0_i32_2 : BitVec 32 := 0#32
  let v13 : BitVec 1 := Scalar.cmpi .slt c8_i32 c0_i32_2
  let v14 : BitVec 32 := Scalar.extui v13
  let v15 : BitVec 32 := Scalar.subi v12 v14
  let v16 : BitVec 1 := Scalar.cmpi .ne v10 v15
  let v17 : BitVec 32 := Scalar.remsi v4 c8_i32
  let c0_i32_3 : BitVec 32 := 0#32
  let v18 : BitVec 1 := Scalar.cmpi .ne v17 c0_i32_3
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c8_i32_4 : BitVec 32 := 8#32
  let v22 : BitVec 32 := Scalar.muli v21 c8_i32_4
  let v23 : BitVec 32 := v22
  let v25 : Index := Scalar.indexCast v23
  let c0_6 : Index := 0#32
  ![0, v25.toNat, 0]

def k2_chk1 (i : grid2.Coords) (v2 : BitVec 32) : Prop :=
  (8 ∣ (k2_mult1 i v2).toNat) ∧
  (∀ a, (k2_off1 i v2) a + S1x520x768.size a ≤ S1x4608x768.size a)
theorem k2_mult1_dvd : ∀ (i : grid2.Coords) (v2 : BitVec 32) (k2_hw1 : k2_chk1 i v2), 8 ∣ (k2_mult1 i v2).toNat := fun i v2 k2_hw1 => k2_hw1.1
theorem k2_off1_inb : ∀ (i : grid2.Coords) (v2 : BitVec 32) (k2_hw1 : k2_chk1 i v2), ∀ a, (k2_off1 i v2) a + S1x520x768.size a ≤ S1x4608x768.size a := fun i v2 k2_hw1 => k2_hw1.2

def k2_mult2 (i : grid2.Coords) (v37 : BitVec 32) : BitVec 32 :=
  let arg1 : BitVec 32 := BitVec.ofNat 32 (i 1).val
  let c512_i32 : BitVec 32 := 512#32
  let v0 : BitVec 32 := Scalar.muli arg1 c512_i32
  let v38 : BitVec 32 := Scalar.addi v0 v37
  let c4096_i32_10 : BitVec 32 := 4096#32
  let v39 : BitVec 32 := Scalar.remsi v38 c4096_i32_10
  let c0_i32_12 : BitVec 32 := 0#32
  let v41 : BitVec 1 := Scalar.cmpi .sgt v39 c0_i32_12
  let v42 : BitVec 32 := Scalar.extui v41
  let c0_i32_13 : BitVec 32 := 0#32
  let v43 : BitVec 1 := Scalar.cmpi .slt v39 c0_i32_13
  let v44 : BitVec 32 := Scalar.extui v43
  let v45 : BitVec 32 := Scalar.subi v42 v44
  let c8_i32_11 : BitVec 32 := 8#32
  let c0_i32_14 : BitVec 32 := 0#32
  let v46 : BitVec 1 := Scalar.cmpi .sgt c8_i32_11 c0_i32_14
  let v47 : BitVec 32 := Scalar.extui v46
  let c0_i32_15 : BitVec 32 := 0#32
  let v48 : BitVec 1 := Scalar.cmpi .slt c8_i32_11 c0_i32_15
  let v49 : BitVec 32 := Scalar.extui v48
  let v50 : BitVec 32 := Scalar.subi v47 v49
  let v51 : BitVec 1 := Scalar.cmpi .ne v45 v50
  let v52 : BitVec 32 := Scalar.remsi v39 c8_i32_11
  let c0_i32_16 : BitVec 32 := 0#32
  let v53 : BitVec 1 := Scalar.cmpi .ne v52 c0_i32_16
  let v54 : BitVec 1 := Scalar.andi v51 v53
  let v40 : BitVec 32 := Scalar.divsi v39 c8_i32_11
  let c1_i32_17 : BitVec 32 := 1#32
  let v55 : BitVec 32 := Scalar.subi v40 c1_i32_17
  let v56 : BitVec 32 := Scalar.select v54 v55 v40
  let c8_i32_18 : BitVec 32 := 8#32
  let v57 : BitVec 32 := Scalar.muli v56 c8_i32_18
  v57

def k2_off2 (i : grid2.Coords) (v37 : BitVec 32) : Fin 3 → Nat :=
  let c0_19 : Index := 0#32
  let arg1 : BitVec 32 := BitVec.ofNat 32 (i 1).val
  let c512_i32 : BitVec 32 := 512#32
  let v0 : BitVec 32 := Scalar.muli arg1 c512_i32
  let v38 : BitVec 32 := Scalar.addi v0 v37
  let c4096_i32_10 : BitVec 32 := 4096#32
  let v39 : BitVec 32 := Scalar.remsi v38 c4096_i32_10
  let c0_i32_12 : BitVec 32 := 0#32
  let v41 : BitVec 1 := Scalar.cmpi .sgt v39 c0_i32_12
  let v42 : BitVec 32 := Scalar.extui v41
  let c0_i32_13 : BitVec 32 := 0#32
  let v43 : BitVec 1 := Scalar.cmpi .slt v39 c0_i32_13
  let v44 : BitVec 32 := Scalar.extui v43
  let v45 : BitVec 32 := Scalar.subi v42 v44
  let c8_i32_11 : BitVec 32 := 8#32
  let c0_i32_14 : BitVec 32 := 0#32
  let v46 : BitVec 1 := Scalar.cmpi .sgt c8_i32_11 c0_i32_14
  let v47 : BitVec 32 := Scalar.extui v46
  let c0_i32_15 : BitVec 32 := 0#32
  let v48 : BitVec 1 := Scalar.cmpi .slt c8_i32_11 c0_i32_15
  let v49 : BitVec 32 := Scalar.extui v48
  let v50 : BitVec 32 := Scalar.subi v47 v49
  let v51 : BitVec 1 := Scalar.cmpi .ne v45 v50
  let v52 : BitVec 32 := Scalar.remsi v39 c8_i32_11
  let c0_i32_16 : BitVec 32 := 0#32
  let v53 : BitVec 1 := Scalar.cmpi .ne v52 c0_i32_16
  let v54 : BitVec 1 := Scalar.andi v51 v53
  let v40 : BitVec 32 := Scalar.divsi v39 c8_i32_11
  let c1_i32_17 : BitVec 32 := 1#32
  let v55 : BitVec 32 := Scalar.subi v40 c1_i32_17
  let v56 : BitVec 32 := Scalar.select v54 v55 v40
  let c8_i32_18 : BitVec 32 := 8#32
  let v57 : BitVec 32 := Scalar.muli v56 c8_i32_18
  let v58 : BitVec 32 := v57
  let v60 : Index := Scalar.indexCast v58
  let c0_20 : Index := 0#32
  ![0, v60.toNat, 0]

def k2_chk2 (i : grid2.Coords) (v37 : BitVec 32) : Prop :=
  (8 ∣ (k2_mult2 i v37).toNat) ∧
  (∀ a, (k2_off2 i v37) a + S1x520x768.size a ≤ S1x4608x768.size a)
theorem k2_mult2_dvd : ∀ (i : grid2.Coords) (v37 : BitVec 32) (k2_hw2 : k2_chk2 i v37), 8 ∣ (k2_mult2 i v37).toNat := fun i v37 k2_hw2 => k2_hw2.1
theorem k2_off2_inb : ∀ (i : grid2.Coords) (v37 : BitVec 32) (k2_hw2 : k2_chk2 i v37), ∀ a, (k2_off2 i v37) a + S1x520x768.size a ≤ S1x4608x768.size a := fun i v37 k2_hw2 => k2_hw2.2

def k2_mult3 (i : grid2.Coords) (v72 : BitVec 32) : BitVec 32 :=
  let arg1 : BitVec 32 := BitVec.ofNat 32 (i 1).val
  let c512_i32 : BitVec 32 := 512#32
  let v0 : BitVec 32 := Scalar.muli arg1 c512_i32
  let v73 : BitVec 32 := Scalar.addi v0 v72
  let c4096_i32_25 : BitVec 32 := 4096#32
  let v74 : BitVec 32 := Scalar.remsi v73 c4096_i32_25
  let c0_i32_27 : BitVec 32 := 0#32
  let v76 : BitVec 1 := Scalar.cmpi .sgt v74 c0_i32_27
  let v77 : BitVec 32 := Scalar.extui v76
  let c0_i32_28 : BitVec 32 := 0#32
  let v78 : BitVec 1 := Scalar.cmpi .slt v74 c0_i32_28
  let v79 : BitVec 32 := Scalar.extui v78
  let v80 : BitVec 32 := Scalar.subi v77 v79
  let c8_i32_26 : BitVec 32 := 8#32
  let c0_i32_29 : BitVec 32 := 0#32
  let v81 : BitVec 1 := Scalar.cmpi .sgt c8_i32_26 c0_i32_29
  let v82 : BitVec 32 := Scalar.extui v81
  let c0_i32_30 : BitVec 32 := 0#32
  let v83 : BitVec 1 := Scalar.cmpi .slt c8_i32_26 c0_i32_30
  let v84 : BitVec 32 := Scalar.extui v83
  let v85 : BitVec 32 := Scalar.subi v82 v84
  let v86 : BitVec 1 := Scalar.cmpi .ne v80 v85
  let v87 : BitVec 32 := Scalar.remsi v74 c8_i32_26
  let c0_i32_31 : BitVec 32 := 0#32
  let v88 : BitVec 1 := Scalar.cmpi .ne v87 c0_i32_31
  let v89 : BitVec 1 := Scalar.andi v86 v88
  let v75 : BitVec 32 := Scalar.divsi v74 c8_i32_26
  let c1_i32_32 : BitVec 32 := 1#32
  let v90 : BitVec 32 := Scalar.subi v75 c1_i32_32
  let v91 : BitVec 32 := Scalar.select v89 v90 v75
  let c8_i32_33 : BitVec 32 := 8#32
  let v92 : BitVec 32 := Scalar.muli v91 c8_i32_33
  v92

def k2_off3 (i : grid2.Coords) (v72 : BitVec 32) : Fin 3 → Nat :=
  let c0_34 : Index := 0#32
  let arg1 : BitVec 32 := BitVec.ofNat 32 (i 1).val
  let c512_i32 : BitVec 32 := 512#32
  let v0 : BitVec 32 := Scalar.muli arg1 c512_i32
  let v73 : BitVec 32 := Scalar.addi v0 v72
  let c4096_i32_25 : BitVec 32 := 4096#32
  let v74 : BitVec 32 := Scalar.remsi v73 c4096_i32_25
  let c0_i32_27 : BitVec 32 := 0#32
  let v76 : BitVec 1 := Scalar.cmpi .sgt v74 c0_i32_27
  let v77 : BitVec 32 := Scalar.extui v76
  let c0_i32_28 : BitVec 32 := 0#32
  let v78 : BitVec 1 := Scalar.cmpi .slt v74 c0_i32_28
  let v79 : BitVec 32 := Scalar.extui v78
  let v80 : BitVec 32 := Scalar.subi v77 v79
  let c8_i32_26 : BitVec 32 := 8#32
  let c0_i32_29 : BitVec 32 := 0#32
  let v81 : BitVec 1 := Scalar.cmpi .sgt c8_i32_26 c0_i32_29
  let v82 : BitVec 32 := Scalar.extui v81
  let c0_i32_30 : BitVec 32 := 0#32
  let v83 : BitVec 1 := Scalar.cmpi .slt c8_i32_26 c0_i32_30
  let v84 : BitVec 32 := Scalar.extui v83
  let v85 : BitVec 32 := Scalar.subi v82 v84
  let v86 : BitVec 1 := Scalar.cmpi .ne v80 v85
  let v87 : BitVec 32 := Scalar.remsi v74 c8_i32_26
  let c0_i32_31 : BitVec 32 := 0#32
  let v88 : BitVec 1 := Scalar.cmpi .ne v87 c0_i32_31
  let v89 : BitVec 1 := Scalar.andi v86 v88
  let v75 : BitVec 32 := Scalar.divsi v74 c8_i32_26
  let c1_i32_32 : BitVec 32 := 1#32
  let v90 : BitVec 32 := Scalar.subi v75 c1_i32_32
  let v91 : BitVec 32 := Scalar.select v89 v90 v75
  let c8_i32_33 : BitVec 32 := 8#32
  let v92 : BitVec 32 := Scalar.muli v91 c8_i32_33
  let v93 : BitVec 32 := v92
  let v95 : Index := Scalar.indexCast v93
  let c0_35 : Index := 0#32
  ![0, v95.toNat, 0]

def k2_chk3 (i : grid2.Coords) (v72 : BitVec 32) : Prop :=
  (8 ∣ (k2_mult3 i v72).toNat) ∧
  (∀ a, (k2_off3 i v72) a + S1x520x768.size a ≤ S1x4608x768.size a)
theorem k2_mult3_dvd : ∀ (i : grid2.Coords) (v72 : BitVec 32) (k2_hw3 : k2_chk3 i v72), 8 ∣ (k2_mult3 i v72).toNat := fun i v72 k2_hw3 => k2_hw3.1
theorem k2_off3_inb : ∀ (i : grid2.Coords) (v72 : BitVec 32) (k2_hw3 : k2_chk3 i v72), ∀ a, (k2_off3 i v72) a + S1x520x768.size a ≤ S1x4608x768.size a := fun i v72 k2_hw3 => k2_hw3.2

def k2_mult4 (i : grid2.Coords) (v107 : BitVec 32) : BitVec 32 :=
  let arg1 : BitVec 32 := BitVec.ofNat 32 (i 1).val
  let c512_i32 : BitVec 32 := 512#32
  let v0 : BitVec 32 := Scalar.muli arg1 c512_i32
  let v108 : BitVec 32 := Scalar.addi v0 v107
  let c4096_i32_40 : BitVec 32 := 4096#32
  let v109 : BitVec 32 := Scalar.remsi v108 c4096_i32_40
  let c0_i32_42 : BitVec 32 := 0#32
  let v111 : BitVec 1 := Scalar.cmpi .sgt v109 c0_i32_42
  let v112 : BitVec 32 := Scalar.extui v111
  let c0_i32_43 : BitVec 32 := 0#32
  let v113 : BitVec 1 := Scalar.cmpi .slt v109 c0_i32_43
  let v114 : BitVec 32 := Scalar.extui v113
  let v115 : BitVec 32 := Scalar.subi v112 v114
  let c8_i32_41 : BitVec 32 := 8#32
  let c0_i32_44 : BitVec 32 := 0#32
  let v116 : BitVec 1 := Scalar.cmpi .sgt c8_i32_41 c0_i32_44
  let v117 : BitVec 32 := Scalar.extui v116
  let c0_i32_45 : BitVec 32 := 0#32
  let v118 : BitVec 1 := Scalar.cmpi .slt c8_i32_41 c0_i32_45
  let v119 : BitVec 32 := Scalar.extui v118
  let v120 : BitVec 32 := Scalar.subi v117 v119
  let v121 : BitVec 1 := Scalar.cmpi .ne v115 v120
  let v122 : BitVec 32 := Scalar.remsi v109 c8_i32_41
  let c0_i32_46 : BitVec 32 := 0#32
  let v123 : BitVec 1 := Scalar.cmpi .ne v122 c0_i32_46
  let v124 : BitVec 1 := Scalar.andi v121 v123
  let v110 : BitVec 32 := Scalar.divsi v109 c8_i32_41
  let c1_i32_47 : BitVec 32 := 1#32
  let v125 : BitVec 32 := Scalar.subi v110 c1_i32_47
  let v126 : BitVec 32 := Scalar.select v124 v125 v110
  let c8_i32_48 : BitVec 32 := 8#32
  let v127 : BitVec 32 := Scalar.muli v126 c8_i32_48
  v127

def k2_off4 (i : grid2.Coords) (v107 : BitVec 32) : Fin 3 → Nat :=
  let c0_49 : Index := 0#32
  let arg1 : BitVec 32 := BitVec.ofNat 32 (i 1).val
  let c512_i32 : BitVec 32 := 512#32
  let v0 : BitVec 32 := Scalar.muli arg1 c512_i32
  let v108 : BitVec 32 := Scalar.addi v0 v107
  let c4096_i32_40 : BitVec 32 := 4096#32
  let v109 : BitVec 32 := Scalar.remsi v108 c4096_i32_40
  let c0_i32_42 : BitVec 32 := 0#32
  let v111 : BitVec 1 := Scalar.cmpi .sgt v109 c0_i32_42
  let v112 : BitVec 32 := Scalar.extui v111
  let c0_i32_43 : BitVec 32 := 0#32
  let v113 : BitVec 1 := Scalar.cmpi .slt v109 c0_i32_43
  let v114 : BitVec 32 := Scalar.extui v113
  let v115 : BitVec 32 := Scalar.subi v112 v114
  let c8_i32_41 : BitVec 32 := 8#32
  let c0_i32_44 : BitVec 32 := 0#32
  let v116 : BitVec 1 := Scalar.cmpi .sgt c8_i32_41 c0_i32_44
  let v117 : BitVec 32 := Scalar.extui v116
  let c0_i32_45 : BitVec 32 := 0#32
  let v118 : BitVec 1 := Scalar.cmpi .slt c8_i32_41 c0_i32_45
  let v119 : BitVec 32 := Scalar.extui v118
  let v120 : BitVec 32 := Scalar.subi v117 v119
  let v121 : BitVec 1 := Scalar.cmpi .ne v115 v120
  let v122 : BitVec 32 := Scalar.remsi v109 c8_i32_41
  let c0_i32_46 : BitVec 32 := 0#32
  let v123 : BitVec 1 := Scalar.cmpi .ne v122 c0_i32_46
  let v124 : BitVec 1 := Scalar.andi v121 v123
  let v110 : BitVec 32 := Scalar.divsi v109 c8_i32_41
  let c1_i32_47 : BitVec 32 := 1#32
  let v125 : BitVec 32 := Scalar.subi v110 c1_i32_47
  let v126 : BitVec 32 := Scalar.select v124 v125 v110
  let c8_i32_48 : BitVec 32 := 8#32
  let v127 : BitVec 32 := Scalar.muli v126 c8_i32_48
  let v128 : BitVec 32 := v127
  let v130 : Index := Scalar.indexCast v128
  let c0_50 : Index := 0#32
  ![0, v130.toNat, 0]

def k2_chk4 (i : grid2.Coords) (v107 : BitVec 32) : Prop :=
  (8 ∣ (k2_mult4 i v107).toNat) ∧
  (∀ a, (k2_off4 i v107) a + S1x520x768.size a ≤ S1x4608x768.size a)
theorem k2_mult4_dvd : ∀ (i : grid2.Coords) (v107 : BitVec 32) (k2_hw4 : k2_chk4 i v107), 8 ∣ (k2_mult4 i v107).toNat := fun i v107 k2_hw4 => k2_hw4.1
theorem k2_off4_inb : ∀ (i : grid2.Coords) (v107 : BitVec 32) (k2_hw4 : k2_chk4 i v107), ∀ a, (k2_off4 i v107) a + S1x520x768.size a ≤ S1x4608x768.size a := fun i v107 k2_hw4 => k2_hw4.2

def k2_mult5 (i : grid2.Coords) (v142 : BitVec 32) : BitVec 32 :=
  let arg1 : BitVec 32 := BitVec.ofNat 32 (i 1).val
  let c512_i32 : BitVec 32 := 512#32
  let v0 : BitVec 32 := Scalar.muli arg1 c512_i32
  let v143 : BitVec 32 := Scalar.addi v0 v142
  let c4096_i32_55 : BitVec 32 := 4096#32
  let v144 : BitVec 32 := Scalar.remsi v143 c4096_i32_55
  let c0_i32_57 : BitVec 32 := 0#32
  let v146 : BitVec 1 := Scalar.cmpi .sgt v144 c0_i32_57
  let v147 : BitVec 32 := Scalar.extui v146
  let c0_i32_58 : BitVec 32 := 0#32
  let v148 : BitVec 1 := Scalar.cmpi .slt v144 c0_i32_58
  let v149 : BitVec 32 := Scalar.extui v148
  let v150 : BitVec 32 := Scalar.subi v147 v149
  let c8_i32_56 : BitVec 32 := 8#32
  let c0_i32_59 : BitVec 32 := 0#32
  let v151 : BitVec 1 := Scalar.cmpi .sgt c8_i32_56 c0_i32_59
  let v152 : BitVec 32 := Scalar.extui v151
  let c0_i32_60 : BitVec 32 := 0#32
  let v153 : BitVec 1 := Scalar.cmpi .slt c8_i32_56 c0_i32_60
  let v154 : BitVec 32 := Scalar.extui v153
  let v155 : BitVec 32 := Scalar.subi v152 v154
  let v156 : BitVec 1 := Scalar.cmpi .ne v150 v155
  let v157 : BitVec 32 := Scalar.remsi v144 c8_i32_56
  let c0_i32_61 : BitVec 32 := 0#32
  let v158 : BitVec 1 := Scalar.cmpi .ne v157 c0_i32_61
  let v159 : BitVec 1 := Scalar.andi v156 v158
  let v145 : BitVec 32 := Scalar.divsi v144 c8_i32_56
  let c1_i32_62 : BitVec 32 := 1#32
  let v160 : BitVec 32 := Scalar.subi v145 c1_i32_62
  let v161 : BitVec 32 := Scalar.select v159 v160 v145
  let c8_i32_63 : BitVec 32 := 8#32
  let v162 : BitVec 32 := Scalar.muli v161 c8_i32_63
  v162

def k2_off5 (i : grid2.Coords) (v142 : BitVec 32) : Fin 3 → Nat :=
  let c0_64 : Index := 0#32
  let arg1 : BitVec 32 := BitVec.ofNat 32 (i 1).val
  let c512_i32 : BitVec 32 := 512#32
  let v0 : BitVec 32 := Scalar.muli arg1 c512_i32
  let v143 : BitVec 32 := Scalar.addi v0 v142
  let c4096_i32_55 : BitVec 32 := 4096#32
  let v144 : BitVec 32 := Scalar.remsi v143 c4096_i32_55
  let c0_i32_57 : BitVec 32 := 0#32
  let v146 : BitVec 1 := Scalar.cmpi .sgt v144 c0_i32_57
  let v147 : BitVec 32 := Scalar.extui v146
  let c0_i32_58 : BitVec 32 := 0#32
  let v148 : BitVec 1 := Scalar.cmpi .slt v144 c0_i32_58
  let v149 : BitVec 32 := Scalar.extui v148
  let v150 : BitVec 32 := Scalar.subi v147 v149
  let c8_i32_56 : BitVec 32 := 8#32
  let c0_i32_59 : BitVec 32 := 0#32
  let v151 : BitVec 1 := Scalar.cmpi .sgt c8_i32_56 c0_i32_59
  let v152 : BitVec 32 := Scalar.extui v151
  let c0_i32_60 : BitVec 32 := 0#32
  let v153 : BitVec 1 := Scalar.cmpi .slt c8_i32_56 c0_i32_60
  let v154 : BitVec 32 := Scalar.extui v153
  let v155 : BitVec 32 := Scalar.subi v152 v154
  let v156 : BitVec 1 := Scalar.cmpi .ne v150 v155
  let v157 : BitVec 32 := Scalar.remsi v144 c8_i32_56
  let c0_i32_61 : BitVec 32 := 0#32
  let v158 : BitVec 1 := Scalar.cmpi .ne v157 c0_i32_61
  let v159 : BitVec 1 := Scalar.andi v156 v158
  let v145 : BitVec 32 := Scalar.divsi v144 c8_i32_56
  let c1_i32_62 : BitVec 32 := 1#32
  let v160 : BitVec 32 := Scalar.subi v145 c1_i32_62
  let v161 : BitVec 32 := Scalar.select v159 v160 v145
  let c8_i32_63 : BitVec 32 := 8#32
  let v162 : BitVec 32 := Scalar.muli v161 c8_i32_63
  let v163 : BitVec 32 := v162
  let v165 : Index := Scalar.indexCast v163
  let c0_65 : Index := 0#32
  ![0, v165.toNat, 0]

def k2_chk5 (i : grid2.Coords) (v142 : BitVec 32) : Prop :=
  (8 ∣ (k2_mult5 i v142).toNat) ∧
  (∀ a, (k2_off5 i v142) a + S1x520x768.size a ≤ S1x4608x768.size a)
theorem k2_mult5_dvd : ∀ (i : grid2.Coords) (v142 : BitVec 32) (k2_hw5 : k2_chk5 i v142), 8 ∣ (k2_mult5 i v142).toNat := fun i v142 k2_hw5 => k2_hw5.1
theorem k2_off5_inb : ∀ (i : grid2.Coords) (v142 : BitVec 32) (k2_hw5 : k2_chk5 i v142), ∀ a, (k2_off5 i v142) a + S1x520x768.size a ≤ S1x4608x768.size a := fun i v142 k2_hw5 => k2_hw5.2

def k2_mult6 (i : grid2.Coords) (v177 : BitVec 32) : BitVec 32 :=
  let arg1 : BitVec 32 := BitVec.ofNat 32 (i 1).val
  let c512_i32 : BitVec 32 := 512#32
  let v0 : BitVec 32 := Scalar.muli arg1 c512_i32
  let v178 : BitVec 32 := Scalar.addi v0 v177
  let c4096_i32_70 : BitVec 32 := 4096#32
  let v179 : BitVec 32 := Scalar.remsi v178 c4096_i32_70
  let c0_i32_72 : BitVec 32 := 0#32
  let v181 : BitVec 1 := Scalar.cmpi .sgt v179 c0_i32_72
  let v182 : BitVec 32 := Scalar.extui v181
  let c0_i32_73 : BitVec 32 := 0#32
  let v183 : BitVec 1 := Scalar.cmpi .slt v179 c0_i32_73
  let v184 : BitVec 32 := Scalar.extui v183
  let v185 : BitVec 32 := Scalar.subi v182 v184
  let c8_i32_71 : BitVec 32 := 8#32
  let c0_i32_74 : BitVec 32 := 0#32
  let v186 : BitVec 1 := Scalar.cmpi .sgt c8_i32_71 c0_i32_74
  let v187 : BitVec 32 := Scalar.extui v186
  let c0_i32_75 : BitVec 32 := 0#32
  let v188 : BitVec 1 := Scalar.cmpi .slt c8_i32_71 c0_i32_75
  let v189 : BitVec 32 := Scalar.extui v188
  let v190 : BitVec 32 := Scalar.subi v187 v189
  let v191 : BitVec 1 := Scalar.cmpi .ne v185 v190
  let v192 : BitVec 32 := Scalar.remsi v179 c8_i32_71
  let c0_i32_76 : BitVec 32 := 0#32
  let v193 : BitVec 1 := Scalar.cmpi .ne v192 c0_i32_76
  let v194 : BitVec 1 := Scalar.andi v191 v193
  let v180 : BitVec 32 := Scalar.divsi v179 c8_i32_71
  let c1_i32_77 : BitVec 32 := 1#32
  let v195 : BitVec 32 := Scalar.subi v180 c1_i32_77
  let v196 : BitVec 32 := Scalar.select v194 v195 v180
  let c8_i32_78 : BitVec 32 := 8#32
  let v197 : BitVec 32 := Scalar.muli v196 c8_i32_78
  v197

def k2_off6 (i : grid2.Coords) (v177 : BitVec 32) : Fin 3 → Nat :=
  let c0_79 : Index := 0#32
  let arg1 : BitVec 32 := BitVec.ofNat 32 (i 1).val
  let c512_i32 : BitVec 32 := 512#32
  let v0 : BitVec 32 := Scalar.muli arg1 c512_i32
  let v178 : BitVec 32 := Scalar.addi v0 v177
  let c4096_i32_70 : BitVec 32 := 4096#32
  let v179 : BitVec 32 := Scalar.remsi v178 c4096_i32_70
  let c0_i32_72 : BitVec 32 := 0#32
  let v181 : BitVec 1 := Scalar.cmpi .sgt v179 c0_i32_72
  let v182 : BitVec 32 := Scalar.extui v181
  let c0_i32_73 : BitVec 32 := 0#32
  let v183 : BitVec 1 := Scalar.cmpi .slt v179 c0_i32_73
  let v184 : BitVec 32 := Scalar.extui v183
  let v185 : BitVec 32 := Scalar.subi v182 v184
  let c8_i32_71 : BitVec 32 := 8#32
  let c0_i32_74 : BitVec 32 := 0#32
  let v186 : BitVec 1 := Scalar.cmpi .sgt c8_i32_71 c0_i32_74
  let v187 : BitVec 32 := Scalar.extui v186
  let c0_i32_75 : BitVec 32 := 0#32
  let v188 : BitVec 1 := Scalar.cmpi .slt c8_i32_71 c0_i32_75
  let v189 : BitVec 32 := Scalar.extui v188
  let v190 : BitVec 32 := Scalar.subi v187 v189
  let v191 : BitVec 1 := Scalar.cmpi .ne v185 v190
  let v192 : BitVec 32 := Scalar.remsi v179 c8_i32_71
  let c0_i32_76 : BitVec 32 := 0#32
  let v193 : BitVec 1 := Scalar.cmpi .ne v192 c0_i32_76
  let v194 : BitVec 1 := Scalar.andi v191 v193
  let v180 : BitVec 32 := Scalar.divsi v179 c8_i32_71
  let c1_i32_77 : BitVec 32 := 1#32
  let v195 : BitVec 32 := Scalar.subi v180 c1_i32_77
  let v196 : BitVec 32 := Scalar.select v194 v195 v180
  let c8_i32_78 : BitVec 32 := 8#32
  let v197 : BitVec 32 := Scalar.muli v196 c8_i32_78
  let v198 : BitVec 32 := v197
  let v200 : Index := Scalar.indexCast v198
  let c0_80 : Index := 0#32
  ![0, v200.toNat, 0]

def k2_chk6 (i : grid2.Coords) (v177 : BitVec 32) : Prop :=
  (8 ∣ (k2_mult6 i v177).toNat) ∧
  (∀ a, (k2_off6 i v177) a + S1x520x768.size a ≤ S1x4608x768.size a)
theorem k2_mult6_dvd : ∀ (i : grid2.Coords) (v177 : BitVec 32) (k2_hw6 : k2_chk6 i v177), 8 ∣ (k2_mult6 i v177).toNat := fun i v177 k2_hw6 => k2_hw6.1
theorem k2_off6_inb : ∀ (i : grid2.Coords) (v177 : BitVec 32) (k2_hw6 : k2_chk6 i v177), ∀ a, (k2_off6 i v177) a + S1x520x768.size a ≤ S1x4608x768.size a := fun i v177 k2_hw6 => k2_hw6.2

def k2_mult7 (i : grid2.Coords) (v212 : BitVec 32) : BitVec 32 :=
  let arg1 : BitVec 32 := BitVec.ofNat 32 (i 1).val
  let c512_i32 : BitVec 32 := 512#32
  let v0 : BitVec 32 := Scalar.muli arg1 c512_i32
  let v213 : BitVec 32 := Scalar.addi v0 v212
  let c4096_i32_85 : BitVec 32 := 4096#32
  let v214 : BitVec 32 := Scalar.remsi v213 c4096_i32_85
  let c0_i32_87 : BitVec 32 := 0#32
  let v216 : BitVec 1 := Scalar.cmpi .sgt v214 c0_i32_87
  let v217 : BitVec 32 := Scalar.extui v216
  let c0_i32_88 : BitVec 32 := 0#32
  let v218 : BitVec 1 := Scalar.cmpi .slt v214 c0_i32_88
  let v219 : BitVec 32 := Scalar.extui v218
  let v220 : BitVec 32 := Scalar.subi v217 v219
  let c8_i32_86 : BitVec 32 := 8#32
  let c0_i32_89 : BitVec 32 := 0#32
  let v221 : BitVec 1 := Scalar.cmpi .sgt c8_i32_86 c0_i32_89
  let v222 : BitVec 32 := Scalar.extui v221
  let c0_i32_90 : BitVec 32 := 0#32
  let v223 : BitVec 1 := Scalar.cmpi .slt c8_i32_86 c0_i32_90
  let v224 : BitVec 32 := Scalar.extui v223
  let v225 : BitVec 32 := Scalar.subi v222 v224
  let v226 : BitVec 1 := Scalar.cmpi .ne v220 v225
  let v227 : BitVec 32 := Scalar.remsi v214 c8_i32_86
  let c0_i32_91 : BitVec 32 := 0#32
  let v228 : BitVec 1 := Scalar.cmpi .ne v227 c0_i32_91
  let v229 : BitVec 1 := Scalar.andi v226 v228
  let v215 : BitVec 32 := Scalar.divsi v214 c8_i32_86
  let c1_i32_92 : BitVec 32 := 1#32
  let v230 : BitVec 32 := Scalar.subi v215 c1_i32_92
  let v231 : BitVec 32 := Scalar.select v229 v230 v215
  let c8_i32_93 : BitVec 32 := 8#32
  let v232 : BitVec 32 := Scalar.muli v231 c8_i32_93
  v232

def k2_off7 (i : grid2.Coords) (v212 : BitVec 32) : Fin 3 → Nat :=
  let c0_94 : Index := 0#32
  let arg1 : BitVec 32 := BitVec.ofNat 32 (i 1).val
  let c512_i32 : BitVec 32 := 512#32
  let v0 : BitVec 32 := Scalar.muli arg1 c512_i32
  let v213 : BitVec 32 := Scalar.addi v0 v212
  let c4096_i32_85 : BitVec 32 := 4096#32
  let v214 : BitVec 32 := Scalar.remsi v213 c4096_i32_85
  let c0_i32_87 : BitVec 32 := 0#32
  let v216 : BitVec 1 := Scalar.cmpi .sgt v214 c0_i32_87
  let v217 : BitVec 32 := Scalar.extui v216
  let c0_i32_88 : BitVec 32 := 0#32
  let v218 : BitVec 1 := Scalar.cmpi .slt v214 c0_i32_88
  let v219 : BitVec 32 := Scalar.extui v218
  let v220 : BitVec 32 := Scalar.subi v217 v219
  let c8_i32_86 : BitVec 32 := 8#32
  let c0_i32_89 : BitVec 32 := 0#32
  let v221 : BitVec 1 := Scalar.cmpi .sgt c8_i32_86 c0_i32_89
  let v222 : BitVec 32 := Scalar.extui v221
  let c0_i32_90 : BitVec 32 := 0#32
  let v223 : BitVec 1 := Scalar.cmpi .slt c8_i32_86 c0_i32_90
  let v224 : BitVec 32 := Scalar.extui v223
  let v225 : BitVec 32 := Scalar.subi v222 v224
  let v226 : BitVec 1 := Scalar.cmpi .ne v220 v225
  let v227 : BitVec 32 := Scalar.remsi v214 c8_i32_86
  let c0_i32_91 : BitVec 32 := 0#32
  let v228 : BitVec 1 := Scalar.cmpi .ne v227 c0_i32_91
  let v229 : BitVec 1 := Scalar.andi v226 v228
  let v215 : BitVec 32 := Scalar.divsi v214 c8_i32_86
  let c1_i32_92 : BitVec 32 := 1#32
  let v230 : BitVec 32 := Scalar.subi v215 c1_i32_92
  let v231 : BitVec 32 := Scalar.select v229 v230 v215
  let c8_i32_93 : BitVec 32 := 8#32
  let v232 : BitVec 32 := Scalar.muli v231 c8_i32_93
  let v233 : BitVec 32 := v232
  let v235 : Index := Scalar.indexCast v233
  let c0_95 : Index := 0#32
  ![0, v235.toNat, 0]

def k2_chk7 (i : grid2.Coords) (v212 : BitVec 32) : Prop :=
  (8 ∣ (k2_mult7 i v212).toNat) ∧
  (∀ a, (k2_off7 i v212) a + S1x520x768.size a ≤ S1x4608x768.size a)
theorem k2_mult7_dvd : ∀ (i : grid2.Coords) (v212 : BitVec 32) (k2_hw7 : k2_chk7 i v212), 8 ∣ (k2_mult7 i v212).toNat := fun i v212 k2_hw7 => k2_hw7.1
theorem k2_off7_inb : ∀ (i : grid2.Coords) (v212 : BitVec 32) (k2_hw7 : k2_chk7 i v212), ∀ a, (k2_off7 i v212) a + S1x520x768.size a ≤ S1x4608x768.size a := fun i v212 k2_hw7 => k2_hw7.2

def k2_mult8 (i : grid2.Coords) (v247 : BitVec 32) : BitVec 32 :=
  let arg1 : BitVec 32 := BitVec.ofNat 32 (i 1).val
  let c512_i32 : BitVec 32 := 512#32
  let v0 : BitVec 32 := Scalar.muli arg1 c512_i32
  let v248 : BitVec 32 := Scalar.addi v0 v247
  let c4096_i32_100 : BitVec 32 := 4096#32
  let v249 : BitVec 32 := Scalar.remsi v248 c4096_i32_100
  let c0_i32_102 : BitVec 32 := 0#32
  let v251 : BitVec 1 := Scalar.cmpi .sgt v249 c0_i32_102
  let v252 : BitVec 32 := Scalar.extui v251
  let c0_i32_103 : BitVec 32 := 0#32
  let v253 : BitVec 1 := Scalar.cmpi .slt v249 c0_i32_103
  let v254 : BitVec 32 := Scalar.extui v253
  let v255 : BitVec 32 := Scalar.subi v252 v254
  let c8_i32_101 : BitVec 32 := 8#32
  let c0_i32_104 : BitVec 32 := 0#32
  let v256 : BitVec 1 := Scalar.cmpi .sgt c8_i32_101 c0_i32_104
  let v257 : BitVec 32 := Scalar.extui v256
  let c0_i32_105 : BitVec 32 := 0#32
  let v258 : BitVec 1 := Scalar.cmpi .slt c8_i32_101 c0_i32_105
  let v259 : BitVec 32 := Scalar.extui v258
  let v260 : BitVec 32 := Scalar.subi v257 v259
  let v261 : BitVec 1 := Scalar.cmpi .ne v255 v260
  let v262 : BitVec 32 := Scalar.remsi v249 c8_i32_101
  let c0_i32_106 : BitVec 32 := 0#32
  let v263 : BitVec 1 := Scalar.cmpi .ne v262 c0_i32_106
  let v264 : BitVec 1 := Scalar.andi v261 v263
  let v250 : BitVec 32 := Scalar.divsi v249 c8_i32_101
  let c1_i32_107 : BitVec 32 := 1#32
  let v265 : BitVec 32 := Scalar.subi v250 c1_i32_107
  let v266 : BitVec 32 := Scalar.select v264 v265 v250
  let c8_i32_108 : BitVec 32 := 8#32
  let v267 : BitVec 32 := Scalar.muli v266 c8_i32_108
  v267

def k2_off8 (i : grid2.Coords) (v247 : BitVec 32) : Fin 3 → Nat :=
  let c0_109 : Index := 0#32
  let arg1 : BitVec 32 := BitVec.ofNat 32 (i 1).val
  let c512_i32 : BitVec 32 := 512#32
  let v0 : BitVec 32 := Scalar.muli arg1 c512_i32
  let v248 : BitVec 32 := Scalar.addi v0 v247
  let c4096_i32_100 : BitVec 32 := 4096#32
  let v249 : BitVec 32 := Scalar.remsi v248 c4096_i32_100
  let c0_i32_102 : BitVec 32 := 0#32
  let v251 : BitVec 1 := Scalar.cmpi .sgt v249 c0_i32_102
  let v252 : BitVec 32 := Scalar.extui v251
  let c0_i32_103 : BitVec 32 := 0#32
  let v253 : BitVec 1 := Scalar.cmpi .slt v249 c0_i32_103
  let v254 : BitVec 32 := Scalar.extui v253
  let v255 : BitVec 32 := Scalar.subi v252 v254
  let c8_i32_101 : BitVec 32 := 8#32
  let c0_i32_104 : BitVec 32 := 0#32
  let v256 : BitVec 1 := Scalar.cmpi .sgt c8_i32_101 c0_i32_104
  let v257 : BitVec 32 := Scalar.extui v256
  let c0_i32_105 : BitVec 32 := 0#32
  let v258 : BitVec 1 := Scalar.cmpi .slt c8_i32_101 c0_i32_105
  let v259 : BitVec 32 := Scalar.extui v258
  let v260 : BitVec 32 := Scalar.subi v257 v259
  let v261 : BitVec 1 := Scalar.cmpi .ne v255 v260
  let v262 : BitVec 32 := Scalar.remsi v249 c8_i32_101
  let c0_i32_106 : BitVec 32 := 0#32
  let v263 : BitVec 1 := Scalar.cmpi .ne v262 c0_i32_106
  let v264 : BitVec 1 := Scalar.andi v261 v263
  let v250 : BitVec 32 := Scalar.divsi v249 c8_i32_101
  let c1_i32_107 : BitVec 32 := 1#32
  let v265 : BitVec 32 := Scalar.subi v250 c1_i32_107
  let v266 : BitVec 32 := Scalar.select v264 v265 v250
  let c8_i32_108 : BitVec 32 := 8#32
  let v267 : BitVec 32 := Scalar.muli v266 c8_i32_108
  let v268 : BitVec 32 := v267
  let v270 : Index := Scalar.indexCast v268
  let c0_110 : Index := 0#32
  ![0, v270.toNat, 0]

def k2_chk8 (i : grid2.Coords) (v247 : BitVec 32) : Prop :=
  (8 ∣ (k2_mult8 i v247).toNat) ∧
  (∀ a, (k2_off8 i v247) a + S1x520x768.size a ≤ S1x4608x768.size a)
theorem k2_mult8_dvd : ∀ (i : grid2.Coords) (v247 : BitVec 32) (k2_hw8 : k2_chk8 i v247), 8 ∣ (k2_mult8 i v247).toNat := fun i v247 k2_hw8 => k2_hw8.1
theorem k2_off8_inb : ∀ (i : grid2.Coords) (v247 : BitVec 32) (k2_hw8 : k2_chk8 i v247), ∀ a, (k2_off8 i v247) a + S1x520x768.size a ≤ S1x4608x768.size a := fun i v247 k2_hw8 => k2_hw8.2

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x4608x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KernelIdeal.lean ====
variable {F : FTy → Type} [FloatOps F] [Named F]
def κ : String → Option EReal := fun
  | "inv_he" => some ((1 / 768 : ℝ) : EReal)
  | _ => none
-- ==== ReferenceIdeal.lean ====
abbrev S4x4096x12x64 : Shape := ⟨4, ![4, 4096, 12, 64]⟩
abbrev S4x12x64x4096 : Shape := ⟨4, ![4, 12, 64, 4096]⟩
abbrev S4096x4096 : Shape := ⟨2, ![4096, 4096]⟩
abbrev S_ : Shape := ⟨0, ![]⟩
abbrev S4x64x4096 : Shape := ⟨3, ![4, 64, 4096]⟩
abbrev S4x4096 : Shape := ⟨2, ![4, 4096]⟩
abbrev S4096 : Shape := ⟨1, ![4096]⟩
abbrev S8 : Shape := ⟨1, ![8]⟩
abbrev S1 : Shape := ⟨1, ![1]⟩
abbrev S4x1 : Shape := ⟨2, ![4, 1]⟩
abbrev S4x8 : Shape := ⟨2, ![4, 8]⟩
abbrev S4 : Shape := ⟨1, ![4]⟩
abbrev S4x12x64x8192 : Shape := ⟨4, ![4, 12, 64, 8192]⟩
abbrev S4x1x1x1 : Shape := ⟨4, ![4, 1, 1, 1]⟩

abbrev nBuf : Space → Nat
  | .hbm => 203
  | .vmem => 0
  | .smem => 0
  | _ => 0

abbrev hbmTy0_0 (i : Nat) : BufTy := match i % 128 with
  | 0 => ⟨S4x4096x12x64, .f32⟩
  | 1 => ⟨S4x4096x12x64, .f32⟩
  | 2 => ⟨S4x4096x12x64, .f32⟩
  | 3 => ⟨S4x12x64x4096, .f32⟩
  | 4 => ⟨S4x12x64x4096, .f32⟩
  | 5 => ⟨S4x12x64x4096, .f32⟩
  | 6 => ⟨S4096x4096, .i32⟩
  | 7 => ⟨S4096x4096, .i32⟩
  | 8 => ⟨S_, .f32⟩
  | 9 => ⟨S_, .f32⟩
  | 10 => ⟨S_, .f32⟩
  | 11 => ⟨S_, .f32⟩
  | 12 => ⟨S4096x4096, .i32⟩
  | 13 => ⟨S4096x4096, .f32⟩
  | 14 => ⟨S_, .f32⟩
  | 15 => ⟨S4096x4096, .f32⟩
  | 16 => ⟨S4096x4096, .f32⟩
  | 17 => ⟨S4096x4096, .f32⟩
  | 18 => ⟨S4096x4096, .f32⟩
  | 19 => ⟨S4096x4096, .f32⟩
  | 20 => ⟨S4096x4096, .f32⟩
  | 21 => ⟨S4x12x64x4096, .f32⟩
  | 22 => ⟨S4x12x64x4096, .f32⟩
  | 23 => ⟨S4x12x64x4096, .f32⟩
  | 24 => ⟨S4x12x64x4096, .f32⟩
  | 25 => ⟨S4x12x64x4096, .f32⟩
  | 26 => ⟨S4x12x64x4096, .f32⟩
  | 27 => ⟨S4x12x64x4096, .f32⟩
  | 28 => ⟨S4x12x64x4096, .f32⟩
  | 29 => ⟨S4x12x64x4096, .f32⟩
  | 30 => ⟨S4x12x64x4096, .f32⟩
  | 31 => ⟨S4x12x64x4096, .f32⟩
  | 32 => ⟨S4x12x64x4096, .f32⟩
  | 33 => ⟨S4x12x64x4096, .f32⟩
  | 34 => ⟨S4x12x64x4096, .f32⟩
  | 35 => ⟨S4x12x64x4096, .f32⟩
  | 36 => ⟨S_, .f32⟩
  | 37 => ⟨S4x12x64x4096, .f32⟩
  | 38 => ⟨S4x12x64x4096, .f32⟩
  | 39 => ⟨S_, .f32⟩
  | 40 => ⟨S4x64x4096, .f32⟩
  | 41 => ⟨S_, .f32⟩
  | 42 => ⟨S4x64x4096, .f32⟩
  | 43 => ⟨S4x64x4096, .f32⟩
  | 44 => ⟨S_, .f32⟩
  | 45 => ⟨S4x4096, .f32⟩
  | 46 => ⟨S_, .f32⟩
  | 47 => ⟨S4x4096, .f32⟩
  | 48 => ⟨S4x4096, .f32⟩
  | 49 => ⟨S_, .f32⟩
  | 50 => ⟨S4096, .f32⟩
  | 51 => ⟨S_, .f32⟩
  | 52 => ⟨S4096, .f32⟩
  | 53 => ⟨S4096, .f32⟩
  | 54 => ⟨S8, .f32⟩
  | 55 => ⟨S8, .i32⟩
  | 56 => ⟨S1, .i32⟩
  | 57 => ⟨S_, .i32⟩
  | 58 => ⟨S_, .i32⟩
  | 59 => ⟨S4x1, .f32⟩
  | 60 => ⟨S1, .i32⟩
  | 61 => ⟨S_, .i32⟩
  | 62 => ⟨S_, .i32⟩
  | 63 => ⟨S4x1, .f32⟩
  | 64 => ⟨S1, .i32⟩
  | 65 => ⟨S_, .i32⟩
  | 66 => ⟨S_, .i32⟩
  | 67 => ⟨S4x1, .f32⟩
  | 68 => ⟨S1, .i32⟩
  | 69 => ⟨S_, .i32⟩
  | 70 => ⟨S_, .i32⟩
  | 71 => ⟨S4x1, .f32⟩
  | 72 => ⟨S1, .i32⟩
  | 73 => ⟨S_, .i32⟩
  | 74 => ⟨S_, .i32⟩
  | 75 => ⟨S4x1, .f32⟩
  | 76 => ⟨S1, .i32⟩
  | 77 => ⟨S_, .i32⟩
  | 78 => ⟨S_, .i32⟩
  | 79 => ⟨S4x1, .f32⟩
  | 80 => ⟨S1, .i32⟩
  | 81 => ⟨S_, .i32⟩
  | 82 => ⟨S_, .i32⟩
  | 83 => ⟨S4x1, .f32⟩
  | 84 => ⟨S1, .i32⟩
  | 85 => ⟨S_, .i32⟩
  | 86 => ⟨S_, .i32⟩
  | 87 => ⟨S4x1, .f32⟩
  | 88 => ⟨S4x8, .f32⟩
  | 89 => ⟨S_, .f32⟩
  | 90 => ⟨S4, .f32⟩
  | 91 => ⟨S_, .f32⟩
  | 92 => ⟨S4, .f32⟩
  | 93 => ⟨S4, .f32⟩
  | 94 => ⟨S4x1, .f32⟩
  | 95 => ⟨S4x8, .f32⟩
  | 96 => ⟨S4x8, .f32⟩
  | 97 => ⟨S4x8, .f32⟩
  | 98 => ⟨S_, .f32⟩
  | 99 => ⟨S4, .f32⟩
  | 100 => ⟨S4x1, .f32⟩
  | 101 => ⟨S4x8, .f32⟩
  | 102 => ⟨S4x8, .f32⟩
  | 103 => ⟨S4x12x64x8192, .f32⟩
  | 104 => ⟨S_, .f32⟩
  | 105 => ⟨S4x12x64x4096, .f32⟩
  | 106 => ⟨S1, .i32⟩
  | 107 => ⟨S_, .i32⟩
  | 108 => ⟨S_, .i32⟩
  | 109 => ⟨S_, .i32⟩
  | 110 => ⟨S_, .i32⟩
  | 111 => ⟨S4x12x64x4096, .f32⟩
  | 112 => ⟨S4x1, .f32⟩
  | 113 => ⟨S4, .f32⟩
  | 114 => ⟨S4x1x1x1, .f32⟩
  | 115 => ⟨S4x12x64x4096, .f32⟩
  | 116 => ⟨S4x12x64x4096, .f32⟩
  | 117 => ⟨S4x12x64x4096, .f32⟩
  | 118 => ⟨S1, .i32⟩
  | 119 => ⟨S_, .i32⟩
  | 120 => ⟨S_, .i32⟩
  | 121 => ⟨S_, .i32⟩
  | 122 => ⟨S_, .i32⟩
  | 123 => ⟨S4x12x64x4096, .f32⟩
  | 124 => ⟨S4x1, .f32⟩
  | 125 => ⟨S4, .f32⟩
  | 126 => ⟨S4x1x1x1, .f32⟩
  | 127 => ⟨S4x12x64x4096, .f32⟩
  | _ => ⟨S4x4096x12x64, .f32⟩

abbrev hbmTy0_1 (i : Nat) : BufTy := match i % 128 with
  | 0 => ⟨S4x12x64x4096, .f32⟩
  | 1 => ⟨S4x12x64x4096, .f32⟩
  | 2 => ⟨S1, .i32⟩
  | 3 => ⟨S_, .i32⟩
  | 4 => ⟨S_, .i32⟩
  | 5 => ⟨S_, .i32⟩
  | 6 => ⟨S_, .i32⟩
  | 7 => ⟨S4x12x64x4096, .f32⟩
  | 8 => ⟨S4x1, .f32⟩
  | 9 => ⟨S4, .f32⟩
  | 10 => ⟨S4x1x1x1, .f32⟩
  | 11 => ⟨S4x12x64x4096, .f32⟩
  | 12 => ⟨S4x12x64x4096, .f32⟩
  | 13 => ⟨S4x12x64x4096, .f32⟩
  | 14 => ⟨S1, .i32⟩
  | 15 => ⟨S_, .i32⟩
  | 16 => ⟨S_, .i32⟩
  | 17 => ⟨S_, .i32⟩
  | 18 => ⟨S_, .i32⟩
  | 19 => ⟨S4x12x64x4096, .f32⟩
  | 20 => ⟨S4x1, .f32⟩
  | 21 => ⟨S4, .f32⟩
  | 22 => ⟨S4x1x1x1, .f32⟩
  | 23 => ⟨S4x12x64x4096, .f32⟩
  | 24 => ⟨S4x12x64x4096, .f32⟩
  | 25 => ⟨S4x12x64x4096, .f32⟩
  | 26 => ⟨S1, .i32⟩
  | 27 => ⟨S_, .i32⟩
  | 28 => ⟨S_, .i32⟩
  | 29 => ⟨S_, .i32⟩
  | 30 => ⟨S_, .i32⟩
  | 31 => ⟨S4x12x64x4096, .f32⟩
  | 32 => ⟨S4x1, .f32⟩
  | 33 => ⟨S4, .f32⟩
  | 34 => ⟨S4x1x1x1, .f32⟩
  | 35 => ⟨S4x12x64x4096, .f32⟩
  | 36 => ⟨S4x12x64x4096, .f32⟩
  | 37 => ⟨S4x12x64x4096, .f32⟩
  | 38 => ⟨S1, .i32⟩
  | 39 => ⟨S_, .i32⟩
  | 40 => ⟨S_, .i32⟩
  | 41 => ⟨S_, .i32⟩
  | 42 => ⟨S_, .i32⟩
  | 43 => ⟨S4x12x64x4096, .f32⟩
  | 44 => ⟨S4x1, .f32⟩
  | 45 => ⟨S4, .f32⟩
  | 46 => ⟨S4x1x1x1, .f32⟩
  | 47 => ⟨S4x12x64x4096, .f32⟩
  | 48 => ⟨S4x12x64x4096, .f32⟩
  | 49 => ⟨S4x12x64x4096, .f32⟩
  | 50 => ⟨S1, .i32⟩
  | 51 => ⟨S_, .i32⟩
  | 52 => ⟨S_, .i32⟩
  | 53 => ⟨S_, .i32⟩
  | 54 => ⟨S_, .i32⟩
  | 55 => ⟨S4x12x64x4096, .f32⟩
  | 56 => ⟨S4x1, .f32⟩
  | 57 => ⟨S4, .f32⟩
  | 58 => ⟨S4x1x1x1, .f32⟩
  | 59 => ⟨S4x12x64x4096, .f32⟩
  | 60 => ⟨S4x12x64x4096, .f32⟩
  | 61 => ⟨S4x12x64x4096, .f32⟩
  | 62 => ⟨S1, .i32⟩
  | 63 => ⟨S_, .i32⟩
  | 64 => ⟨S_, .i32⟩
  | 65 => ⟨S_, .i32⟩
  | 66 => ⟨S_, .i32⟩
  | 67 => ⟨S4x12x64x4096, .f32⟩
  | 68 => ⟨S4x1, .f32⟩
  | 69 => ⟨S4, .f32⟩
  | 70 => ⟨S4x1x1x1, .f32⟩
  | 71 => ⟨S4x12x64x4096, .f32⟩
  | 72 => ⟨S4x12x64x4096, .f32⟩
  | 73 => ⟨S4x12x64x4096, .f32⟩
  | 74 => ⟨S4x4096x12x64, .f32⟩
  | _ => ⟨S4x4096x12x64, .f32⟩

abbrev hbmTy (i : Nat) : BufTy := match i / 128 with
  | 0 => hbmTy0_0 i
  | 1 => hbmTy0_1 i
  | _ => ⟨S4x4096x12x64, .f32⟩

abbrev bufTy : (tb : Table) → Fin (tcTables nBuf tb) → BufTy
  | .hbm, ⟨i, _⟩ => hbmTy i
  | _, _ => ⟨S4x4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_values : Ref sig .tc := ⟨.hbm, 54, rfl⟩
abbrev main_indices : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_15 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_18 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_19 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_20 : Ref sig .tc := ⟨.hbm, 108, rfl⟩
abbrev main_c_21 : Ref sig .tc := ⟨.hbm, 109, rfl⟩
abbrev main_c_22 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_23 : Ref sig .tc := ⟨.hbm, 120, rfl⟩
abbrev main_c_24 : Ref sig .tc := ⟨.hbm, 121, rfl⟩
abbrev main_c_25 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_26 : Ref sig .tc := ⟨.hbm, 132, rfl⟩
abbrev main_c_27 : Ref sig .tc := ⟨.hbm, 133, rfl⟩
abbrev main_c_28 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_29 : Ref sig .tc := ⟨.hbm, 144, rfl⟩
abbrev main_c_30 : Ref sig .tc := ⟨.hbm, 145, rfl⟩
abbrev main_c_31 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_32 : Ref sig .tc := ⟨.hbm, 156, rfl⟩
abbrev main_c_33 : Ref sig .tc := ⟨.hbm, 157, rfl⟩
abbrev main_c_34 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_c_35 : Ref sig .tc := ⟨.hbm, 168, rfl⟩
abbrev main_c_36 : Ref sig .tc := ⟨.hbm, 169, rfl⟩
abbrev main_c_37 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_c_38 : Ref sig .tc := ⟨.hbm, 180, rfl⟩
abbrev main_c_39 : Ref sig .tc := ⟨.hbm, 181, rfl⟩
abbrev main_c_40 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_41 : Ref sig .tc := ⟨.hbm, 192, rfl⟩
abbrev main_c_42 : Ref sig .tc := ⟨.hbm, 193, rfl⟩
abbrev main_c_43 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩

abbrev nD : Nat := 1
abbrev τ : Topo := Topo.v7x

variable {F : FTy → Type} [FloatOps F]
-- ==== Proof.KernelIdeal.Common.lean ====
/- What the modules on the kernel's three calls share: the branch conditions of the correlation body in closed
   form, and the scratch buffers as memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The correlation body's first branch: taken at a batch entry's first query block. -/
abbrev isFirst (i : grid0.Coords) : Prop :=
  (Scalar.cmpi .ne (Scalar.extui (Scalar.cmpi .eq (BitVec.ofNat 32 (i 1).val) 0#32)) 0#32) = 1#1

/-- The correlation body's second branch: taken at a batch entry's last query block. -/
abbrev isLast (i : grid0.Coords) : Prop := k0_cond2 i = 1#1

theorem isFirst_iff (t : Fin cfg0.N) : isFirst (grid0.coords t) ↔ t.val % 8 = 0 := by
  have ht : t.val < 32 := Nat.lt_of_lt_of_eq t.isLt N_0
  have e1 : (grid0.coords t 1).val = t.val / 1 % 8 := Pipeline.Grid.coords_val t 1 (by decide) rfl
  simp only [isFirst, e1]
  word_cmp

theorem isLast_iff (t : Fin cfg0.N) : isLast (grid0.coords t) ↔ t.val % 8 = 7 := by
  have ht : t.val < 32 := Nat.lt_of_lt_of_eq t.isLt N_0
  have e1 : (grid0.coords t 1).val = t.val / 1 % 8 := Pipeline.Grid.coords_val t 1 (by decide) rfl
  simp only [isLast, k0_cond2, e1]
  word_cmp

/-- The correlation call's scratch buffers: the eight block products, the keys' high and low parts. -/
abbrev accM : Memref sig .tc .vmem S8x512x512 .f32 := Memref.whole cc0_scratch0
abbrev khM : Memref sig .tc .vmem S4096x768 .bf16 := Memref.whole cc0_scratch1
abbrev klM : Memref sig .tc .vmem S4096x768 .bf16 := Memref.whole cc0_scratch2

end Cert.KernelIdeal.Own

end
-- ==== Proof.KernelIdeal.CorrVal.lean ====
/- What one grid point of the correlation call computes, as functions of what its buffers hold: the keys' high and
   low parts, the eight block products after the point, and the diagonal sums of the last one. -/
module

public import proofs.«01_k».proof.Proof.KernelIdeal.Common
public import Idealize.ShloMosaic.Lib.ValueLayout

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
variable {F : FTy → Type} [FloatOps F]

/-- Block product `c` inside the accumulator. -/
abbrev slab (c : Fin 8) : Rect S8x512x512 :=
  Rect.unit ![c.val, 0, 0] S1x512x512.size (by
    intro a; have := c.isLt
    match a with
    | ⟨0, _⟩ => show c.val + 1 ≤ 8; omega
    | ⟨1, _⟩ => exact Nat.le_of_eq rfl
    | ⟨2, _⟩ => exact Nat.le_of_eq rfl)

/-- The rows of the key buffers that meet block product `c` at a grid point. -/
abbrev keyRows (i : grid0.Coords) (c : Fin 8) : Rect S4096x768 :=
  Rect.unit (k0_off1 i (BitVec.ofNat 32 c.val)) S512x768.size (k0_off1_inb i c)

/-- The whole of the query block. -/
abbrev qAll : Rect S1x1x512x768 := Rect.unit ![0, 0, 0, 0] S1x1x512x768.size inb_S1x1x512x768_S1x1x512x768_0_0_0_0

/-- Block product `c` after a grid point, from what it held before. -/
def tileOf (i : grid0.Coords) (q : Vec F S1x1x512x768 .f32) (kh kl : Vec F S4096x768 .bf16) (c : Fin 8) (s : FVec F S1x512x512 .f32) :
    FVec F S1x512x512 .f32 :=
  k0_pay46 (k0_pay43 (View.ld (Val := Elt F) (e' := .f32) q qAll)) (k0_pay44 (View.ld (Val := Elt F) (e' := .f32) q qAll))
    (View.ld (Val := Elt F) (e' := .bf16) kh (keyRows i c)) (View.ld (Val := Elt F) (e' := .bf16) kl (keyRows i c)) s

/-- Block product `c` after a grid point, from the whole accumulator. -/
def tile (i : grid0.Coords) (q : Vec F S1x1x512x768 .f32) (kh kl : Vec F S4096x768 .bf16) (a : Vec F S8x512x512 .f32) (c : Fin 8) :
    FVec F S1x512x512 .f32 :=
  tileOf i q kh kl c (View.ld (Val := Elt F) (e' := .f32) a (slab c))

/-- The eight block products after a grid point. -/
def accNext (i : grid0.Coords) (q : Vec F S1x1x512x768 .f32) (kh kl : Vec F S4096x768 .bf16) (a : Vec F S8x512x512 .f32) :
    Vec F S8x512x512 .f32 :=
  fun y => tile i q kh kl a (y 0) (ix3 0 (y 1) (y 2))

theorem accNext_slab (i : grid0.Coords) (q : Vec F S1x1x512x768 .f32) (kh kl : Vec F S4096x768 .bf16) (a : Vec F S8x512x512 .f32) (c : Fin 8)
    (x : (slab c).shape.Idx) : tile i q kh kl a c x = accNext i q kh kl a ((slab c).emb x) := by
  have h0 : (x 0).val < 1 := (x 0).isLt
  have e0 : ((slab c).emb x) 0 = c := Fin.ext (by show c.val + 1 * (x 0).val = c.val; omega)
  unfold accNext
  rw [e0]
  refine congrArg _ (funext fun b => Fin.ext ?_)
  match b with
  | ⟨0, _⟩ => show (x 0).val = 0; omega
  | ⟨1, _⟩ => show (x 1).val = 0 + 1 * (x 1).val; omega
  | ⟨2, _⟩ => show (x 2).val = 0 + 1 * (x 2).val; omega

/-- The keys rounded to bf16. -/
def khOf (k : Vec F S1x4096x768 .f32) : Vec F S4096x768 .bf16 :=
  fun y => truncf (s := S4096x768) .bf16 (fun z => k (ix3 0 (z 0) (z 1))) bitsLt_bf16_f32 y

/-- What the rounding left over, rounded. -/
def klOf (k : Vec F S1x4096x768 .f32) : Vec F S4096x768 .bf16 :=
  fun y => truncf (s := S4096x768) .bf16 (subf (s := S4096x768) (fun z => k (ix3 0 (z 0) (z 1)))
    (extf .f32 (khOf k) bitsLt_bf16_f32)) bitsLt_bf16_f32 y

/-- Row block `c` of the keys, in their window and in the scratch buffers. -/
abbrev kWin (c : Fin 8) : Rect S1x4096x768 :=
  Rect.unit ![0, 512 * c.val, 0] S1x512x768.size (by
    intro a; have := c.isLt
    match a with
    | ⟨0, _⟩ => exact Nat.le_of_eq rfl
    | ⟨1, _⟩ => show 512 * c.val + 512 ≤ 4096; omega
    | ⟨2, _⟩ => exact Nat.le_of_eq rfl)
abbrev kScr (c : Fin 8) : Rect S4096x768 :=
  Rect.unit ![512 * c.val, 0] S512x768.size (by
    intro a; have := c.isLt
    match a with
    | ⟨0, _⟩ => show 512 * c.val + 512 ≤ 4096; omega
    | ⟨1, _⟩ => exact Nat.le_of_eq rfl)

theorem pay4_apply (k : Vec F S1x4096x768 .f32) (c : Fin 8) (x : (kScr c).shape.Idx) :
    k0_pay4 (View.ld (Val := Elt F) (e' := .f32) k (kWin c)) x = k (ix3 0 (((kScr c).emb x) 0) (((kScr c).emb x) 1)) := by
  have ex : x = ValueIdx.ix2 (n0 := 512) (n1 := 768) (x 0) (x 1) := eq_ix2 x
  rw [ex]
  show shapeCast S512x768 (View.ld (Val := Elt F) (e' := .f32) k (kWin c)) shapeCasts_S1x512x768_S512x768 _ = _
  refine (shapeCast_1ab_ab_apply (a := 512) (b := 768) (View.ld (Val := Elt F) (e' := .f32) k (kWin c)) _ _ _).trans ?_
  refine congrArg k (funext fun b => Fin.ext ?_)
  match b with
  | ⟨0, _⟩ => rfl
  | ⟨1, _⟩ => rfl
  | ⟨2, _⟩ => rfl

theorem pay5_apply (k : Vec F S1x4096x768 .f32) (c : Fin 8) (x : (kScr c).shape.Idx) :
    k0_pay5 (View.ld (Val := Elt F) (e' := .f32) k (kWin c)) x = khOf k ((kScr c).emb x) :=
  congrArg (fun z => FloatOps.truncf .bf16 bitsLt_bf16_f32 z) (pay4_apply k c x)

theorem khOf_rows (k : Vec F S1x4096x768 .f32) (c : Fin 8) (x : (kScr c).shape.Idx) :
    k0_pay6 (View.ld (Val := Elt F) (e' := .f32) k (kWin c)) x = khOf k ((kScr c).emb x) :=
  (congrFun (shapeCast_self (k0_pay5 _) _) x).trans (pay5_apply k c x)

theorem klOf_rows (k : Vec F S1x4096x768 .f32) (c : Fin 8) (x : (kScr c).shape.Idx) :
    k0_pay7 (View.ld (Val := Elt F) (e' := .f32) k (kWin c)) x = klOf k ((kScr c).emb x) := by
  refine (congrFun (shapeCast_self (truncf .bf16 (subf (k0_pay4 _) (extf .f32 (k0_pay5 _) bitsLt_bf16_f32)) bitsLt_bf16_f32) _) x).trans ?_
  exact congrArg (fun z => FloatOps.truncf .bf16 bitsLt_bf16_f32 z)
    (congrArg₂ (fun a b => FloatOps.subf a b) (pay4_apply k c x)
      (congrArg (fun z => FloatOps.extf .f32 bitsLt_bf16_f32 z) (pay5_apply k c x)))

/-- The diagonal sums of the eight block products: what a batch entry's last point writes back. -/
def diagOf (a : Vec F S8x512x512 .f32) : FVec F S1x8x1024 .f32 :=
  let s (c : Fin 8) := View.ld (Val := Elt F) (e' := .f32) a (slab c)
  k0_pay2 k0_pay26 (k0_pay27 (s 0)) (k0_pay27 (s 1)) (k0_pay27 (s 2)) (k0_pay27 (s 3)) (k0_pay27 (s 4)) (s 5) (s 6) (s 7)

/-! ## The first point of a batch entry, where the products are zeroed before they are added to -/

variable (v : View sig .tc .vmem S8x512x512 .f32) (i : grid0.Coords) (q : Vec F S1x1x512x768 .f32) (kh kl : Vec F S4096x768 .bf16)

/-- The writes `L` hold the first `n` block products as they are after the point, and the others at zero. -/
def Upto (n : ℕ) (L : List (View.Piece (Elt F) S8x512x512 .f32)) : Prop :=
  ∀ y, v.read (Elt F) (v.writes (Elt F) v.junk L) y = if (y 0).val < n then accNext i q kh kl k0_pay3 y else k0_pay3 y

variable {v i q kh kl}

theorem Upto.succ (c : Fin 8) {L : List (View.Piece (Elt F) S8x512x512 .f32)} (h : Upto v i q kh kl c.val L)
    {w : (slab c).shape.Idx → Elt F .f32}
    (hw : w = tileOf i q kh kl c (View.ld (Val := Elt F) (e' := .f32) (v.read (Elt F) (v.writes (Elt F) v.junk L)) (slab c))) :
    Upto v i q kh kl (c.val + 1) (⟨slab c, w⟩ :: L) := by
  intro y
  by_cases hy : (y 0).val = c.val
  · have hx : (slab c).emb (ix3 (n0 := 1) (n1 := 512) (n2 := 512) 0 (y 1) (y 2)) = y := by
      funext b; apply Fin.ext
      match b with
      | ⟨0, _⟩ => show c.val + 1 * 0 = (y 0).val; omega
      | ⟨1, _⟩ => show 0 + 1 * (y 1).val = (y 1).val; omega
      | ⟨2, _⟩ => show 0 + 1 * (y 2).val = (y 2).val; omega
    rw [if_pos (by omega), ← hx, View.read_writes_cons_emb, ← accNext_slab, hw]
    refine congrFun (congrArg (tileOf i q kh kl c) (funext fun x => ?_)) _
    have h0 : (x 0).val < 1 := (x 0).isLt
    exact (h _).trans (if_neg (by show ¬(c.val + 1 * (x 0).val < c.val); omega))
  · rw [View.read_writes_cons_miss_of_axis v _ ⟨slab c, w⟩ L y 0 c.val 1 rfl rfl rfl (by omega), h y]
    by_cases h2 : (y 0).val < c.val
    · rw [if_pos h2, if_pos (by omega)]
    · rw [if_neg h2, if_neg (by omega)]

theorem Upto.zero (r : Rect S8x512x512) (w : r.shape.Idx → Elt F .f32)
    (hr : ∀ y, ∃ x, r.emb x = y ∧ w x = k0_pay3 y) : Upto v i q kh kl 0 [⟨r, w⟩] := by
  intro y
  obtain ⟨x, rfl, hx⟩ := hr y
  rw [View.read_writes_cons_emb, if_neg (Nat.not_lt_zero _), hx]

end Cert.KernelIdeal.Own

end
-- ==== Proof.KernelIdeal.CorrRunLast.lean ====
/- The correlation body at the last point of a batch entry, run on any whole buffers. -/
module

public import proofs.«01_k».proof.Proof.KernelIdeal.CorrVal
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
theorem corrLast (c : Dev nD) (i : grid0.Coords) (arg2 : Memref sig .tc .vmem S1x1x512x768 .f32) (harg2 : arg2.IsWhole) (arg3 : Memref sig .tc .vmem S1x4096x768 .f32) (harg3 : arg3.IsWhole) (arg4 : Memref sig .tc .vmem S1x8x1024 .f32) (harg4 : arg4.IsWhole) (arg5 : Memref sig .tc .vmem S8x512x512 .f32) (harg5 : arg5.IsWhole) (arg6 : Memref sig .tc .vmem S4096x768 .bf16) (harg6 : arg6.IsWhole) (arg7 : Memref sig .tc .vmem S4096x768 .bf16) (harg7 : arg7.IsWhole) (hc0 : ¬isFirst i) (hc1 : isLast i)
    (x0 : Vec F S1x1x512x768 .f32) (x1 : Vec F S1x4096x768 .f32) (xs0 : Vec F S8x512x512 .f32) (xs1 : Vec F S4096x768 .bf16) (xs2 : Vec F S4096x768 .bf16) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg4 fullShare (diagOf (accNext i x0 xs1 xs2 xs0)) ∗ owns (c : Thread nD τ) arg5 fullShare (accNext i x0 xs1 xs2 xs0) ∗ owns (c : Thread nD τ) arg6 fullShare xs1 ∗ owns (c : Thread nD τ) arg7 fullShare xs2) -∗ K ⟨⟩))
      ⊢ wp frame (wpE (defs₀ (F := F)) Variants.none c none) E (cc0__corr_kernel i arg2 harg2 arg3 harg3 arg4 harg4 arg5 harg5 arg6 harg6 arg7 harg7) K := by
    simp only [cc0__corr_kernel_eq_skeleton]; unfold cc0__corr_kernel_skel
    simp only [k0_part4_eq_skeleton, k0_part5_eq_skeleton, k0_part6_eq_skeleton, k0_part7_eq_skeleton, k0_part8_eq_skeleton, k0_part3_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    have hpc : ∀ p ∈ corrLast.sl.HS0_8 c i arg2 harg2 arg5 harg5 arg6 harg6 arg7 harg7 x0 xs0 xs1 xs2, ∀ x : p.1.shape.Idx,
        p.2 x = accNext i (arg2.view.read (Elt F) (harg2.unread x0)) (arg6.view.read (Elt F) (harg6.unread xs1))
          (arg7.view.read (Elt F) (harg7.unread xs2)) (arg5.view.read (Elt F) (harg5.unread xs0)) (p.1.emb x) := by
      refine List.forall_mem_cons.2 ⟨accNext_slab i _ _ _ _ 7, ?_⟩
      refine List.forall_mem_cons.2 ⟨accNext_slab i _ _ _ _ 6, ?_⟩
      refine List.forall_mem_cons.2 ⟨accNext_slab i _ _ _ _ 5, ?_⟩
      refine List.forall_mem_cons.2 ⟨accNext_slab i _ _ _ _ 4, ?_⟩
      refine List.forall_mem_cons.2 ⟨accNext_slab i _ _ _ _ 3, ?_⟩
      refine List.forall_mem_cons.2 ⟨accNext_slab i _ _ _ _ 2, ?_⟩
      refine List.forall_mem_cons.2 ⟨accNext_slab i _ _ _ _ 1, ?_⟩
      exact List.forall_mem_cons.2 ⟨accNext_slab i _ _ _ _ 0, fun p hp => absurd hp List.not_mem_nil⟩
    rw [hf0, hfs0, hfs1, hfs2] at hpc
    have hcov : ∀ y : S8x512x512.Idx, ∃ p ∈ corrLast.sl.HS0_8 c i arg2 harg2 arg5 harg5 arg6 harg6 arg7 harg7 x0 xs0 xs1 xs2, y ∈ p.1.set :=
      View.cover_of_tiledL _ S1x512x512.size (by sl_kernel_rfl)
    have hread : ∀ f, arg5.view.read (Elt F) (arg5.view.writes (Elt F) f (corrLast.sl.HS0_8 c i arg2 harg2 arg5 harg5 arg6 harg6 arg7 harg7 x0 xs0 xs1 xs2))
        = accNext i x0 xs1 xs2 xs0 :=
      fun f => funext fun y => View.read_writes_apply_of_pieces _ f _ _ hpc y (hcov y)
    isplitl [H2]
    · iexists _; isplitr; swap; · iexact H2
      ipureintro
      refine (View.read_writes_full _ _ _ _ _).trans ?_
      rw [← hread arg5.view.junk]
      rfl
    isplitl [HS0]
    · iexists _; isplitr; swap; · iexact HS0
      ipureintro
      exact hread _
    isplitl [HS1]
    · iexists _; isplitr; · ipureintro; exact harg6.read_unread _
      iexact HS1
    iexists _; isplitr; · ipureintro; exact harg7.read_unread _
    iexact HS2

end Cert.KernelIdeal.Own

end
-- ==== Proof.KernelIdeal.CorrRunMid.lean ====
/- The correlation body at a point in the middle of a batch entry, run on any whole buffers. -/
module

public import proofs.«01_k».proof.Proof.KernelIdeal.CorrRunLast
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
theorem corrMid (c : Dev nD) (i : grid0.Coords) (arg2 : Memref sig .tc .vmem S1x1x512x768 .f32) (harg2 : arg2.IsWhole) (arg3 : Memref sig .tc .vmem S1x4096x768 .f32) (harg3 : arg3.IsWhole) (arg4 : Memref sig .tc .vmem S1x8x1024 .f32) (harg4 : arg4.IsWhole) (arg5 : Memref sig .tc .vmem S8x512x512 .f32) (harg5 : arg5.IsWhole) (arg6 : Memref sig .tc .vmem S4096x768 .bf16) (harg6 : arg6.IsWhole) (arg7 : Memref sig .tc .vmem S4096x768 .bf16) (harg7 : arg7.IsWhole) (hc0 : ¬isFirst i) (hc1 : ¬isLast i)
    (x0 : Vec F S1x1x512x768 .f32) (x1 : Vec F S1x4096x768 .f32) (xs0 : Vec F S8x512x512 .f32) (xs1 : Vec F S4096x768 .bf16) (xs2 : Vec F S4096x768 .bf16) (E : Set ℕ) (K : PUnit → sProp 𝕄) :
    iprop(owns (c : Thread nD τ) arg2 fullShare x0 ∗ owns (c : Thread nD τ) arg3 fullShare x1 ∗ owns (c : Thread nD τ) arg5 fullShare xs0 ∗ owns (c : Thread nD τ) arg6 fullShare xs1 ∗ owns (c : Thread nD τ) arg7 fullShare xs2
        ∗ (iprop(owns (c : Thread nD τ) arg2 fullShare x0 ∗ owns (c : Thread nD τ) arg3 fullShare x1 ∗ owns (c : Thread nD τ) arg5 fullShare (accNext i x0 xs1 xs2 xs0) ∗ owns (c : Thread nD τ) arg6 fullShare xs1 ∗ owns (c : Thread nD τ) arg7 fullShare xs2) -∗ K ⟨⟩))
      ⊢ wp frame (wpE (defs₀ (F := F)) Variants.none c none) E (cc0__corr_kernel i arg2 harg2 arg3 harg3 arg4 harg4 arg5 harg5 arg6 harg6 arg7 harg7) K := by
    simp only [cc0__corr_kernel_eq_skeleton]; unfold cc0__corr_kernel_skel
    simp only [k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg5.eq_unread hfs0; obtain rfl := harg6.eq_unread hfs1; obtain rfl := harg7.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; isplitr; swap; · iexact HS0
      ipureintro
      have hG : ∀ x1 x2 x3 x4, x1 = x0 → x2 = xs1 → x3 = xs2 → x4 = xs0 → accNext i x1 x2 x3 x4 = accNext i x0 xs1 xs2 xs0 := by
        rintro _ _ _ _ rfl rfl rfl rfl; rfl
      rw [← hG _ _ _ _ hf0 hfs1 hfs2 hfs0]
      refine funext fun y => View.read_writes_apply_of_pieces _ _ _ _ ?_ y (View.cover_of_tiledL (s := S8x512x512) _ S1x512x512.size (by sl_kernel_rfl) y)
      refine List.forall_mem_cons.2 ⟨accNext_slab i _ _ _ _ 7, ?_⟩
      refine List.forall_mem_cons.2 ⟨accNext_slab i _ _ _ _ 6, ?_⟩
      refine List.forall_mem_cons.2 ⟨accNext_slab i _ _ _ _ 5, ?_⟩
      refine List.forall_mem_cons.2 ⟨accNext_slab i _ _ _ _ 4, ?_⟩
      refine List.forall_mem_cons.2 ⟨accNext_slab i _ _ _ _ 3, ?_⟩
      refine List.forall_mem_cons.2 ⟨accNext_slab i _ _ _ _ 2, ?_⟩
      refine List.forall_mem_cons.2 ⟨accNext_slab i _ _ _ _ 1, ?_⟩
      exact List.forall_mem_cons.2 ⟨accNext_slab i _ _ _ _ 0, fun p hp => absurd hp List.not_mem_nil⟩
    isplitl [HS1]
    · iexists _; isplitr; · ipureintro; exact harg6.read_unread _
      iexact HS1
    iexists _; isplitr; · ipureintro; exact harg7.read_unread _
    iexact HS2

end Cert.KernelIdeal.Own

end
-- ==== Proof.KernelIdeal.CorrRunFirst.lean ====
/- The correlation body at the first point of a batch entry, run on any whole buffers. -/
module

public import proofs.«01_k».proof.Proof.KernelIdeal.CorrRunMid
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
theorem corrFirst (c : Dev nD) (i : grid0.Coords) (arg2 : Memref sig .tc .vmem S1x1x512x768 .f32) (harg2 : arg2.IsWhole) (arg3 : Memref sig .tc .vmem S1x4096x768 .f32) (harg3 : arg3.IsWhole) (arg4 : Memref sig .tc .vmem S1x8x1024 .f32) (harg4 : arg4.IsWhole) (arg5 : Memref sig .tc .vmem S8x512x512 .f32) (harg5 : arg5.IsWhole) (arg6 : Memref sig .tc .vmem S4096x768 .bf16) (harg6 : arg6.IsWhole) (arg7 : Memref sig .tc .vmem S4096x768 .bf16) (harg7 : arg7.IsWhole) (hc0 : isFirst i) (hc1 : ¬isLast i)
    (x0 : Vec F S1x1x512x768 .f32) (x1 : Vec F S1x4096x768 .f32) (E : Set ℕ) (K : PUnit → sProp 𝕄) :
    iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg5 fullShare (accNext i x0 (khOf x1) (klOf x1) k0_pay3) ∗ owns (c : Thread nD τ) arg6 fullShare (khOf x1) ∗ owns (c : Thread nD τ) arg7 fullShare (klOf x1)) -∗ K ⟨⟩))
      ⊢ wp frame (wpE (defs₀ (F := F)) Variants.none c none) E (cc0__corr_kernel i arg2 harg2 arg3 harg3 arg4 harg4 arg5 harg5 arg6 harg6 arg7 harg7) K := by
    simp only [cc0__corr_kernel_eq_skeleton]; unfold cc0__corr_kernel_skel
    simp only [k0_part1_eq_skeleton, k0_part2_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%ds0, %fs0, -, HS0⟩, ⟨%ds1, %fs1, -, HS1⟩, ⟨%ds2, %fs2, -, HS2⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    have hkh : ∀ f, arg6.view.read (Elt F) (arg6.view.writes (Elt F) f (corrFirst.sl.HS1_8 c arg3 harg3 x1)) = khOf (arg3.view.read (Elt F) (harg3.unread x1)) := by
      refine fun f => funext fun y => View.read_writes_apply_of_pieces _ f _ _ ?_ y (View.cover_of_tiledL (s := S4096x768) _ S512x768.size (by sl_kernel_rfl) y)
      refine List.forall_mem_cons.2 ⟨khOf_rows _ 7, ?_⟩
      refine List.forall_mem_cons.2 ⟨khOf_rows _ 6, ?_⟩
      refine List.forall_mem_cons.2 ⟨khOf_rows _ 5, ?_⟩
      refine List.forall_mem_cons.2 ⟨khOf_rows _ 4, ?_⟩
      refine List.forall_mem_cons.2 ⟨khOf_rows _ 3, ?_⟩
      refine List.forall_mem_cons.2 ⟨khOf_rows _ 2, ?_⟩
      refine List.forall_mem_cons.2 ⟨khOf_rows _ 1, ?_⟩
      exact List.forall_mem_cons.2 ⟨khOf_rows _ 0, fun p hp => absurd hp List.not_mem_nil⟩
    have hkl : ∀ f, arg7.view.read (Elt F) (arg7.view.writes (Elt F) f (corrFirst.sl.HS2_8 c arg3 harg3 x1)) = klOf (arg3.view.read (Elt F) (harg3.unread x1)) := by
      refine fun f => funext fun y => View.read_writes_apply_of_pieces _ f _ _ ?_ y (View.cover_of_tiledL (s := S4096x768) _ S512x768.size (by sl_kernel_rfl) y)
      refine List.forall_mem_cons.2 ⟨klOf_rows _ 7, ?_⟩
      refine List.forall_mem_cons.2 ⟨klOf_rows _ 6, ?_⟩
      refine List.forall_mem_cons.2 ⟨klOf_rows _ 5, ?_⟩
      refine List.forall_mem_cons.2 ⟨klOf_rows _ 4, ?_⟩
      refine List.forall_mem_cons.2 ⟨klOf_rows _ 3, ?_⟩
      refine List.forall_mem_cons.2 ⟨klOf_rows _ 2, ?_⟩
      refine List.forall_mem_cons.2 ⟨klOf_rows _ 1, ?_⟩
      exact List.forall_mem_cons.2 ⟨klOf_rows _ 0, fun p hp => absurd hp List.not_mem_nil⟩
    have hu : ∀ q kh kl, q = arg2.view.read (Elt F) (harg2.unread x0) →
        kh = arg6.view.read (Elt F) (arg6.view.writes (Elt F) arg6.view.junk (corrFirst.sl.HS1_8 c arg3 harg3 x1)) →
        kl = arg7.view.read (Elt F) (arg7.view.writes (Elt F) arg7.view.junk (corrFirst.sl.HS2_8 c arg3 harg3 x1)) →
        Upto arg5.view i q kh kl 8 (⟨slab 7, k0_pay1 (corrFirst.sl.r_4 c i arg2 harg2 arg3 harg3 arg5 arg6 arg7 x0 x1)⟩ ::
            corrFirst.sl.HS0_8 c i arg2 harg2 arg3 harg3 arg5 arg6 arg7 x0 x1) := by
      rintro _ _ _ rfl rfl rfl
      refine Upto.succ 7 (Upto.succ 6 (Upto.succ 5 (Upto.succ 4 (Upto.succ 3 (Upto.succ 2 (Upto.succ 1 (Upto.succ 0 (Upto.zero _ _ fun y => ?_) ?_) ?_) ?_) ?_) ?_) ?_) ?_) ?_
      · exact ⟨y, funext fun b => Fin.ext (by
          match b with
          | ⟨0, _⟩ => show 0 + 1 * (y 0).val = (y 0).val; omega
          | ⟨1, _⟩ => show 0 + 1 * (y 1).val = (y 1).val; omega
          | ⟨2, _⟩ => show 0 + 1 * (y 2).val = (y 2).val; omega), rfl⟩
      all_goals rfl
    have hU := hu x0 (khOf x1) (klOf x1) hf0.symm (by rw [hkh, hf1]) (by rw [hkl, hf1])
    rw [hf1] at hkh hkl
    isplitl [HS0]
    · iexists _; isplitr; swap; · iexact HS0
      ipureintro
      refine funext fun y => (View.read_writes_apply_eq _ _ arg5.view arg5.view.junk y _ (View.cover_of_wholeMem (s := S8x512x512) _ (by sl_whole_mem) y)).trans ?_
      exact (hU y).trans (if_pos (y 0).isLt)
    isplitl [HS1]
    · iexists _; isplitr; swap; · iexact HS1
      ipureintro; exact hkh _
    iexists _; isplitr; swap; · iexact HS2
    ipureintro; exact hkl _

end Cert.KernelIdeal.Own

end
-- ==== Proof.KernelIdeal.CorrDat.lean ====
/- The correlation call's proof data: what its scratch holds after each point, its invariant, and the body at every point. -/
module

public import proofs.«01_k».proof.Proof.KernelIdeal.CorrRunFirst
public import proofs.«01_k».proof.Proof.KernelIdeal.CorrRunLast
public import Idealize.ShloMosaic.Lib.Pipeline.FrameBody

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation BodyObligationLoose)

variable {F : FTy → Type} [FloatOps F] [Named F]

local notation "𝕄" => MT nD τ sig Unit (Elt F) ℕ (UR sig nD τ) ℕ

/-- What a region finds in each core's unscoped buffers. -/
abbrev Vals (F : FTy → Type) : Type := Dev nD → Valuation τ sig (Elt F)

variable (V : Vals F)

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The three scratch buffers' contents: the eight block products, the keys' high and low parts. -/
structure Scr (F : FTy → Type) : Type where
  acc : Vec F S8x512x512 .f32
  kh : Vec F S4096x768 .bf16
  kl : Vec F S4096x768 .bf16

/-- After a batch entry's first point. -/
def scrFirst (c : Dev nD) (t : Fin cfg0.N) : Scr F :=
  ⟨accNext (grid0.coords t) (iblk0 V c 0 t) (khOf (iblk0 V c 1 t)) (klOf (iblk0 V c 1 t)) k0_pay3, khOf (iblk0 V c 1 t), klOf (iblk0 V c 1 t)⟩

/-- After a later point, from what the point before left. -/
def scrNext (c : Dev nD) (t : Fin cfg0.N) (s : Scr F) : Scr F :=
  ⟨accNext (grid0.coords t) (iblk0 V c 0 t) s.kh s.kl s.acc, s.kh, s.kl⟩

/-- After point `n`. -/
def scrAt (c : Dev nD) : (n : ℕ) → n < cfg0.N → Scr F
  | 0, h => scrFirst V c ⟨0, h⟩
  | n + 1, h => if (n + 1) % 8 = 0 then scrFirst V c ⟨n + 1, h⟩ else scrNext V c ⟨n + 1, h⟩ (scrAt c n (Nat.lt_of_succ_lt h))

theorem scrAt_first (c : Dev nD) (t : Fin cfg0.N) (h : t.val % 8 = 0) : scrAt V c t.val t.isLt = scrFirst V c t := by
  obtain ⟨n, hn⟩ := t
  cases n with
  | zero => rfl
  | succ n => exact if_pos h

theorem scrAt_next (c : Dev nD) (t : Fin cfg0.N) (h : ¬t.val % 8 = 0) :
    scrAt V c t.val t.isLt = scrNext V c t (scrAt V c (t.val - 1) (Nat.lt_of_le_of_lt (Nat.sub_le _ _) t.isLt)) := by
  obtain ⟨n, hn⟩ := t
  cases n with
  | zero => exact absurd (Nat.zero_mod _) h
  | succ n => exact if_neg h

/-- The scoped buffers that the correlation call does not use. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

theorem rest0_eq (c : Dev nD) : (Pipeline.scopedRest spec0 c : sProp 𝕄)
    = iprop((∃ d, owns (c : Thread nD τ) accM fullShare d) ∗ (∃ d, owns (c : Thread nD τ) khM fullShare d) ∗ (∃ d, owns (c : Thread nD τ) klM fullShare d) ∗ others0 c) := by
  rw [scopedRest0_eq]; simp only [accM, khM, klM, owns_whole]; rfl

/-- The invariant before point `n`: the scratch at what the point before left. -/
def Phi0 (c : Dev nD) : (n : ℕ) → n ≤ cfg0.N → sProp 𝕄
  | 0, _ => Pipeline.scopedRest spec0 c
  | n + 1, h => iprop(owns (c : Thread nD τ) accM fullShare (scrAt V c n h).acc ∗ owns (c : Thread nD τ) khM fullShare (scrAt V c n h).kh ∗ owns (c : Thread nD τ) klM fullShare (scrAt V c n h).kl ∗ others0 c)

theorem Phi0_zero (c : Dev nD) (n : ℕ) (h : n ≤ cfg0.N) (hz : n = 0) : Phi0 V c n h = Pipeline.scopedRest spec0 c := by
  subst hz; rfl

theorem Phi0_succ (c : Dev nD) (n : ℕ) (h : n < cfg0.N) : Phi0 V c (n + 1) h
    = iprop(owns (c : Thread nD τ) accM fullShare (scrAt V c n h).acc ∗ owns (c : Thread nD τ) khM fullShare (scrAt V c n h).kh ∗ owns (c : Thread nD τ) klM fullShare (scrAt V c n h).kl ∗ others0 c) := rfl

theorem Phi0_pos (c : Dev nD) (n : ℕ) (h : n ≤ cfg0.N) (hz : n ≠ 0) : Phi0 V c n h
    = iprop(owns (c : Thread nD τ) accM fullShare (scrAt V c (n - 1) (by omega)).acc ∗ owns (c : Thread nD τ) khM fullShare (scrAt V c (n - 1) (by omega)).kh ∗ owns (c : Thread nD τ) klM fullShare (scrAt V c (n - 1) (by omega)).kl ∗ others0 c) := by
  cases n with
  | zero => exact absurd rfl hz
  | succ n => rfl

/-- At any point the invariant gives the scratch back at some contents. -/
theorem Phi0_forget (c : Dev nD) (n : ℕ) (h : n ≤ cfg0.N) : Phi0 V c n h ⊢ Pipeline.scopedRest spec0 c := by
  by_cases hz : n = 0
  · rw [Phi0_zero V c n h hz]
  · rw [Phi0_pos V c n h hz, rest0_eq]
    iintro ⟨H0, H1, H2, Hr⟩
    isplitl [H0]; · iexists _; iexact H0
    isplitl [H1]; · iexists _; iexact H1
    isplitl [H2]; · iexists _; iexact H2
    iexact Hr

/-- The proof data: each input's buffer at its block, the output's at the diagonal sums of the scratch. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => diagOf (scrAt V c t.val t.isLt).acc
  Φ t := Phi0 V c t.val (Nat.le_of_lt_succ t.isLt)
  q _ := fullShare
  owed _ := 0

theorem dat0_A (c : Dev nD) (w : Fin cfg0.W) : (dat0 V c).A w = V c (Proc.devRef .tc (Pipeline.arrRef spec0 w)) := by
  dsimp only [dat0]

theorem dat0_Phi (c : Dev nD) (t : Fin cfg0.N) : (dat0 V c).Φ t.castSucc = Phi0 V c t.val (Nat.le_of_lt t.isLt) := by
  dsimp only [dat0]; exact Pipeline.Dat.Φ_castSucc (Phi0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = diagOf (scrAt V c t.val t.isLt).acc := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)

theorem leaves0_0 (c : Dev nD) (t : Fin cfg0.N) : (dat0 V c).leavesExact 0 t = (owns (c : Thread nD τ) (st0_0 t) fullShare (iblk0 V c 0 t) : sProp 𝕄) := by
  unfold Dat.leavesExact; rw [show cfg0.idle 0 (grid0.coords t) = false from rfl, after0_0]
theorem leaves0_1 (c : Dev nD) (t : Fin cfg0.N) : (dat0 V c).leavesExact 1 t = (owns (c : Thread nD τ) (st0_1 t) fullShare (iblk0 V c 1 t) : sProp 𝕄) := by
  unfold Dat.leavesExact; rw [show cfg0.idle 1 (grid0.coords t) = false from rfl, after0_1]
theorem leaves0_last (c : Dev nD) (t : Fin cfg0.N) (h : t.val % 8 = 7) :
    (dat0 V c).leavesExact 2 t = (owns (c : Thread nD τ) (st0_2 t) fullShare (diagOf (scrAt V c t.val t.isLt).acc) : sProp 𝕄) := by
  have hl : isLast (grid0.coords t) := (isLast_iff t).mpr h
  unfold Dat.leavesExact
  rw [show cfg0.idle 2 (grid0.coords t) = false from by show (!(k0_cond2 (grid0.coords t) == 1#1)) = false; rw [show k0_cond2 (grid0.coords t) = 1#1 from hl]; rfl, after0_2]
theorem leaves0_idle (c : Dev nD) (t : Fin cfg0.N) (h : ¬t.val % 8 = 7) :
    (dat0 V c).leavesExact 2 t = (iprop(∃ d, owns (c : Thread nD τ) (st0_2 t) fullShare ((dat0 V c).before 2 t d)) : sProp 𝕄) := by
  have hl : ¬isLast (grid0.coords t) := fun e => h ((isLast_iff t).mp e)
  unfold Dat.leavesExact
  rw [show cfg0.idle 2 (grid0.coords t) = true from by
      show (!(k0_cond2 (grid0.coords t) == 1#1)) = true
      rw [beq_eq_false_iff_ne.mpr hl]; rfl,
    show (cfg0.win 2).flush t = false from Bool.eq_false_iff.mpr fun e => h ((flush0_2 t).mp e)]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4000000 in
/-- The body at any point. -/
theorem body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, leaves0_0, leaves0_1]
  rw [show (dat0 V c).owesAt () t.succ = (dat0 V c).owesAt () t.castSucc from rfl]
  rw [show (dat0 V c).Φ t.succ = Phi0 V c (t.val + 1) t.isLt from rfl, Phi0_succ, dat0_Phi]
  by_cases h0 : t.val % 8 = 0
  · have h1 : ¬t.val % 8 = 7 := by omega
    rw [leaves0_idle V c t h1, scrAt_first V c t h0]
    refine (sep_mono (Phi0_forget V c _ _) .rfl).trans ?_
    rw [rest0_eq]
    iintro ⟨⟨HS0, HS1, HS2, Hr⟩, Ho, ⟨%d0, H0⟩, ⟨%d1, H1⟩, H2⟩
    iapply (corrFirst c (grid0.coords t) _ _ _ _ _ _ _ _ _ _ _ _ ((isFirst_iff t).mpr h0) (fun h => h1 ((isLast_iff t).mp h)) (iblk0 V c 0 t) (iblk0 V c 1 t) Set.univ _)
    isplitl [H0]; · iexact H0
    isplitl [H1]; · iexact H1
    isplitl [HS0]; · iexact HS0
    isplitl [HS1]; · iexact HS1
    isplitl [HS2]; · iexact HS2
    iintro ⟨H0, H1, HS0, HS1, HS2⟩
    isplitl [HS0 HS1 HS2 Hr]
    · isplitl [HS0]; · iexact HS0
      isplitl [HS1]; · iexact HS1
      isplitl [HS2]; · iexact HS2
      iexact Hr
    isplitl [Ho]; · iexact Ho
    isplitl [H0]; · iexact H0
    isplitl [H1]; · iexact H1
    iexact H2
  · have hz : t.val ≠ 0 := fun e => h0 (by rw [e])
    rw [Phi0_pos V c _ _ hz, scrAt_next V c t h0]
    by_cases h1 : t.val % 8 = 7
    · rw [leaves0_last V c t h1, scrAt_next V c t h0]
      iintro ⟨⟨HS0, HS1, HS2, Hr⟩, Ho, ⟨%d0, H0⟩, ⟨%d1, H1⟩, ⟨%d2, H2⟩⟩
      iapply (corrLast c (grid0.coords t) _ _ _ _ _ _ _ _ _ _ _ _ (fun h => h0 ((isFirst_iff t).mp h)) ((isLast_iff t).mpr h1) (iblk0 V c 0 t) (iblk0 V c 1 t) _ _ _ Set.univ _)
      isplitl [H0]; · iexact H0
      isplitl [H1]; · iexact H1
      isplitl [H2]; · iexists _; iexact H2
      isplitl [HS0]; · iexact HS0
      isplitl [HS1]; · iexact HS1
      isplitl [HS2]; · iexact HS2
      iintro ⟨H0, H1, H2, HS0, HS1, HS2⟩
      isplitl [HS0 HS1 HS2 Hr]
      · isplitl [HS0]; · iexact HS0
        isplitl [HS1]; · iexact HS1
        isplitl [HS2]; · iexact HS2
        iexact Hr
      isplitl [Ho]; · iexact Ho
      isplitl [H0]; · iexact H0
      isplitl [H1]; · iexact H1
      iexact H2
    · rw [leaves0_idle V c t h1]
      iintro ⟨⟨HS0, HS1, HS2, Hr⟩, Ho, ⟨%d0, H0⟩, ⟨%d1, H1⟩, H2⟩
      iapply (corrMid c (grid0.coords t) _ _ _ _ _ _ _ _ _ _ _ _ (fun h => h0 ((isFirst_iff t).mp h)) (fun h => h1 ((isLast_iff t).mp h)) (iblk0 V c 0 t) (iblk0 V c 1 t) _ _ _ Set.univ _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hr]
      · isplitl [HS0]; · iexact HS0
        isplitl [HS1]; · iexact HS1
        isplitl [HS2]; · iexact HS2
        iexact Hr
      isplitl [Ho]; · iexact Ho
      isplitl [H0]; · iexact H0
      isplitl [H1]; · iexact H1
      iexact H2

theorem row0 (t : Fin cfg0.N) : defs₀ (F := F) .tc cfg0.body (cfg0.bodyArgs t (cfg0.slots t)) = bodyAt0 t := by
  unfold defs₀; rw [Defs.onTc_tc]

/-- The body obligation of the correlation call. -/
theorem obl0 (c : Dev nD) : BodyObligation (dat0 V c) (defs₀ (F := F)) Variants.none () Set.univ := fun t => by
  rw [bigSep_W0, bigSep_W0, row0]
  exact triple_restated (body0 V c t) rfl .rfl fun _ => .rfl

end Cert.KernelIdeal.Own
-- ==== Proof.KernelIdeal.SelVal.lean ====
/- What the selection body computes: the delays it picks and the softmax weights, as functions of the four slabs it reads. -/
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- One over the number of heads and channels that a correlation is averaged over. -/
def invHe : F .f32 := Named.named κ "inv_he" 0x3AAAAAAB#32

theorem inb_slab (b : Fin 4) : ∀ a, (![b.val, 0, 0] : Fin 3 → ℕ) a + S1x8x1024.size a ≤ S4x8x1024.size a := by
  fin_cases b <;> decide

/-- Batch entry `b`'s correlation at the delays `512 * row + column`. -/
def corrOf (X : Vec F S4x8x1024 .f32) (b : Fin 4) : FVec F S8x512 .f32 :=
  k1_pay1 (View.ld X (Rect.unit (s := S4x8x1024) ![b.val, 0, 0] S1x8x1024.size (inb_slab b)))

/-- The sum of the four entries' correlations. -/
def corrSum (X : Vec F S4x8x1024 .f32) : FVec F S8x512 .f32 :=
  addf (addf (addf (corrOf X 0) (corrOf X 1)) (corrOf X 2)) (corrOf X 3)

/-- The delay that each place stands for. -/
def flatIota : IVec S8x512 32 :=
  addi (muli (iota .tc S8x512 32 [0] iota_S8x512_d0_w32) (broadcast S8x512 512#32)) (iota .tc S8x512 32 [1] iota_S8x512_d1_w32)

/-- The largest entry of `m`. -/
def topOf (m : FVec F S8x512 .f32) : F .f32 :=
  extractAt ![0, 0, 0] (shapeCast S1x1x1 (multiReduction .maximumf [1, 2] S1 (shapeCast S1x8x512 m shapeCasts_S8x512_S1x8x512) 0xFF800000#32 reduces_S1x8x512_S1 (.inl rfl) rfl) shapeCasts_S1_S1x1x1) inpos_S1x1x1_p0_0_0

/-- The least delay at which `m` is largest. -/
def pickOf (m : FVec F S8x512 .f32) : BitVec 32 :=
  extractAt ![0, 0, 0] (shapeCast S1x1x1 (multiReductionI .minsi [1, 2] S1 (shapeCast S1x8x512 (select (cmpf .oeq m (broadcast S8x512 (topOf m))) flatIota (broadcast S8x512 4096#32)) shapeCasts_S8x512_S1x8x512) 2147483647#32 reduces_S1x8x512_S1 rfl) shapeCasts_S1_S1x1x1) inpos_S1x1x1_p0_0_0

/-- Where that delay is. -/
def hitOf (m : FVec F S8x512 .f32) : IVec S8x512 1 := cmpi .eq flatIota (broadcast S8x512 (pickOf m))

/-- `m` with the picked delay taken out. -/
def nextOf (m : FVec F S8x512 .f32) : FVec F S8x512 .f32 :=
  select (hitOf m) (broadcast S8x512 (Scalar.ofBits .f32 0xFF800000#32)) m

/-- `r` at the delay picked in `m`, averaged. -/
def weightOf (r m : FVec F S8x512 .f32) : F .f32 :=
  Scalar.mulf (extractAt ![0, 0, 0] (shapeCast S1x1x1 (multiReduction .add [1, 2] S1 (shapeCast S1x8x512 (select (hitOf m) r (broadcast S8x512 (Scalar.ofBits .f32 0x00000000#32))) shapeCasts_S8x512_S1x8x512) 0x00000000#32 reduces_S1x8x512_S1 (.inl rfl) rfl) shapeCasts_S1_S1x1x1) inpos_S1x1x1_p0_0_0) invHe

/-- What is left of the sum after `n` rounds. -/
def leftAt (X : Vec F S4x8x1024 .f32) : ℕ → FVec F S8x512 .f32
  | 0 => corrSum X
  | n + 1 => nextOf (leftAt X n)

/-- The eight delays. -/
def idxOut (X : Vec F S4x8x1024 .f32) : IVec S1x8 32 :=
  concatenate S1x8 1 [⟨S1x1, broadcast S1x1 (pickOf (leftAt X 0))⟩, ⟨S1x1, broadcast S1x1 (pickOf (leftAt X 1))⟩, ⟨S1x1, broadcast S1x1 (pickOf (leftAt X 2))⟩, ⟨S1x1, broadcast S1x1 (pickOf (leftAt X 3))⟩, ⟨S1x1, broadcast S1x1 (pickOf (leftAt X 4))⟩, ⟨S1x1, broadcast S1x1 (pickOf (leftAt X 5))⟩, ⟨S1x1, broadcast S1x1 (pickOf (leftAt X 6))⟩, ⟨S1x1, broadcast S1x1 (pickOf (leftAt X 7))⟩] concatenates_S1x1_S1x1_S1x1_S1x1_S1x1_S1x1_S1x1_S1x1_S1x8_d1

/-- Batch entry `b`'s eight weights before the softmax. -/
def weightRow (X : Vec F S4x8x1024 .f32) (b : Fin 4) : FVec F S1x8 .f32 :=
  concatenate S1x8 1 [⟨S1x1, broadcast S1x1 (weightOf (corrOf X b) (leftAt X 0))⟩, ⟨S1x1, broadcast S1x1 (weightOf (corrOf X b) (leftAt X 1))⟩, ⟨S1x1, broadcast S1x1 (weightOf (corrOf X b) (leftAt X 2))⟩, ⟨S1x1, broadcast S1x1 (weightOf (corrOf X b) (leftAt X 3))⟩, ⟨S1x1, broadcast S1x1 (weightOf (corrOf X b) (leftAt X 4))⟩, ⟨S1x1, broadcast S1x1 (weightOf (corrOf X b) (leftAt X 5))⟩, ⟨S1x1, broadcast S1x1 (weightOf (corrOf X b) (leftAt X 6))⟩, ⟨S1x1, broadcast S1x1 (weightOf (corrOf X b) (leftAt X 7))⟩] concatenates_S1x1_S1x1_S1x1_S1x1_S1x1_S1x1_S1x1_S1x1_S1x8_d1

/-- The weights before the softmax. -/
def weightMat (X : Vec F S4x8x1024 .f32) : FVec F S4x8 .f32 :=
  concatenate S4x8 0 [⟨S1x8, weightRow X 0⟩, ⟨S1x8, weightRow X 1⟩, ⟨S1x8, weightRow X 2⟩, ⟨S1x8, weightRow X 3⟩] concatenates_S1x8_S1x8_S1x8_S1x8_S4x8_d0

/-- The exponentials of the rows less their largest entries. -/
def expOf (w : FVec F S4x8 .f32) : FVec F S4x8 .f32 :=
  exp (subf w (broadcastTo S4x8 (shapeCast S4x1 (multiReduction .maximumf [1] S4 w 0xFF800000#32 reduces_S4x8_S4 (.inl rfl) rfl) shapeCasts_S4_S4x1) broadcasts_S4x1_S4x8))

/-- The softmax of each row. -/
def softOf (w : FVec F S4x8 .f32) : FVec F S4x8 .f32 :=
  divf (expOf w) (broadcastTo S4x8 (shapeCast S4x1 (multiReduction .add [1] S4 (expOf w) 0x00000000#32 reduces_S4x8_S4 (.inl rfl) rfl) shapeCasts_S4_S4x1) broadcasts_S4x1_S4x8)

end Cert.KernelIdeal.Own
-- ==== Proof.KernelIdeal.SelRun.lean ====
/- The selection body run on any whole buffers. -/
module

public import proofs.«01_k».proof.Proof.KernelIdeal.SelVal
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 8000000 in
/-- The body on whole buffers leaves the eight delays in the second and the softmax weights in the third. -/
theorem selRun (c : Dev nD) (E : Set ℕ) (arg0 : Memref sig .tc .vmem S4x8x1024 .f32) (harg0 : arg0.IsWhole) (arg1 : Memref sig .tc .vmem S1x8 .i32) (harg1 : arg1.IsWhole) (arg2 : Memref sig .tc .vmem S4x8 .f32) (harg2 : arg2.IsWhole)
    (x0 : Vec F S4x8x1024 .f32) (K : PUnit → sProp 𝕄) :
    iprop(owns (c : Thread nD τ) arg0 fullShare x0 ∗ (∃ d, owns (c : Thread nD τ) arg1 fullShare d) ∗ (∃ d, owns (c : Thread nD τ) arg2 fullShare d)
        ∗ (iprop(owns (c : Thread nD τ) arg0 fullShare x0 ∗ owns (c : Thread nD τ) arg1 fullShare (idxOut x0) ∗ owns (c : Thread nD τ) arg2 fullShare (softOf (weightMat x0))) -∗ K ⟨⟩))
      ⊢ wp frame (wpE (defs₀ (F := F)) Variants.none c none) E (cc1__select_kernel arg0 harg0 arg1 harg1 arg2 harg2) K := by
  simp only [cc1__select_kernel_eq_skeleton]; unfold cc1__select_kernel_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_full _ _ _ _ _).trans ?_
    rfl
  iexists _; isplitr
  swap; · iexact H2
  ipureintro
  refine (View.read_writes_full _ _ _ _ _).trans ?_
  rfl

end Cert.KernelIdeal.Own
-- ==== Proof.KernelIdeal.SelDat.lean ====
/- The selection call's proof data and its body at its one point. -/
module

public import proofs.«01_k».proof.Proof.KernelIdeal.SelRun
public import proofs.«01_k».proof.Proof.KernelIdeal.CorrDat

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation BodyObligationLoose)

variable {F : FTy → Type} [FloatOps F] [Named F]

local notation "𝕄" => MT nD τ sig Unit (Elt F) ℕ (UR sig nD τ) ℕ

variable (V : Vals F)

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The proof data: the two results at what the body computes from the slabs. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => idxOut (iblk1 V c 0 t)
    | ⟨2, _⟩ => softOf (weightMat (iblk1 V c 0 t))
  Φ _ := Pipeline.scopedRest spec1 c
  q _ := fullShare
  owed _ := 0

theorem dat1_A (c : Dev nD) (w : Fin cfg1.W) : (dat1 V c).A w = V c (Proc.devRef .tc (Pipeline.arrRef spec1 w)) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = idxOut (iblk1 V c 0 t) := by dsimp only [dat1]
theorem after1_2 (c : Dev nD) (t : Fin cfg1.N) : (dat1 V c).after 2 t = softOf (weightMat (iblk1 V c 0 t)) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at its one point. -/
theorem body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, after1_0, after1_1, after1_2]
  rw [show (dat1 V c).owesAt () t.succ = (dat1 V c).owesAt () t.castSucc from rfl]
  rw [show (dat1 V c).Φ t.succ = (dat1 V c).Φ t.castSucc from rfl]
  iintro ⟨HΦ, Ho, ⟨%d0, H0⟩, ⟨%d1, H1⟩, ⟨%d2, H2⟩⟩
  iapply (selRun c Set.univ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row1 (t : Fin cfg1.N) : defs₀ (F := F) .tc cfg1.body (cfg1.bodyArgs t (cfg1.slots t)) = bodyAt1 t := by
  unfold defs₀; rw [Defs.onTc_tc]

/-- The body obligation of the selection call. -/
theorem obl1 (c : Dev nD) : BodyObligation (dat1 V c) (defs₀ (F := F)) Variants.none () Set.univ := fun t => by
  rw [bigSep_W1, bigSep_W1, row1]
  exact triple_restated (body1 V c t) rfl .rfl fun _ => .rfl

end Cert.KernelIdeal.Own
-- ==== Proof.KernelIdeal.SelArr.lean ====
/- The selection call's arrays: its one block is each whole array, so its results are the delays and the weights of the correlation it is given. -/
module

public import proofs.«01_k».proof.Proof.KernelIdeal.SelDat
public import Idealize.ShloMosaic.Lib.Pipeline.Value

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window)

variable {F : FTy → Type} [FloatOps F] [Named F]

variable (V : Vals F)

theorem emb1_0 (t : Fin cfg1.N) (y : S4x8x1024.Idx) : ((cfg1.win 0).blk t).view.emb y = y :=
  funext fun a => Fin.ext ((Pipeline.Window.rect_emb_val_of_index_zero (cfg1.win 0) t a rfl y))
theorem emb1_1 (t : Fin cfg1.N) (y : S1x8.Idx) : ((cfg1.win 1).blk t).view.emb y = y :=
  funext fun a => Fin.ext ((Pipeline.Window.rect_emb_val_of_index_zero (cfg1.win 1) t a rfl y))
theorem emb1_2 (t : Fin cfg1.N) (y : S4x8.Idx) : ((cfg1.win 2).blk t).view.emb y = y :=
  funext fun a => Fin.ext ((Pipeline.Window.rect_emb_val_of_index_zero (cfg1.win 2) t a rfl y))

theorem iblk1_0 (c : Dev nD) (t : Fin cfg1.N) : iblk1 V c 0 t = V c (Proc.devRef .tc main_v5) := by
  funext y
  unfold iblk1
  rw [View.read_apply, emb1_0]
  rfl

/-- The delays after the call. -/
theorem arr1_1 (c : Dev nD) : (dat1 V c).arrAt 1 cfg1.N = idxOut (V c (Proc.devRef .tc main_v5)) := by
  refine (dat1 V c).arrAt_eq_of_cover 1 _ (fun t _ => ?_) fun i => ⟨t1_0, flush1_1 _, ?_⟩
  · show (dat1 V c).after 1 t = _
    rw [after1_1, iblk1_0]
    funext y
    rw [View.read_apply, emb1_1]
    rfl
  · rw [← emb1_1 t1_0 i]; exact View.emb_mem_set _ _

/-- The weights after the call. -/
theorem arr1_2 (c : Dev nD) : (dat1 V c).arrAt 2 cfg1.N = softOf (weightMat (V c (Proc.devRef .tc main_v5))) := by
  refine (dat1 V c).arrAt_eq_of_cover 2 _ (fun t _ => ?_) fun i => ⟨t1_0, flush1_2 _, ?_⟩
  · show (dat1 V c).after 2 t = _
    rw [after1_2, iblk1_0]
    funext y
    rw [View.read_apply, emb1_2]
    rfl
  · rw [← emb1_2 t1_0 i]; exact View.emb_mem_set _ _

end Cert.KernelIdeal.Own
-- ==== Proof.KernelIdeal.AggVal.lean ====
/- What the gathering body computes at one point: eight shifted windows of the values, each times its weight, added up. -/
module

public import proofs.«01_k».proof.Proof.KernelIdeal.Common

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The table of delays as the body is handed it. -/
abbrev tabM : Memref sig .tc .smem S8 .i32 := Memref.whole main_v10

/-- The contents of the table on core `c`. -/
abbrev TabBuf (c : Dev nD) {S : Shape} {e : EltTy} (M : Memref sig .tc .smem S e) : Type := Buf (Elt F) (M.view.loc (c : Thread nD τ))

theorem inb_tab (k : Fin 8) : ∀ a, (![k.val] : Fin 1 → ℕ) a + S1.size a ≤ S8.size a := by
  fin_cases k <;> decide

theorem inb_wt (k : Fin 8) : ∀ a, (![0, 0, k.val] : Fin 3 → ℕ) a + S1x1x1.size a ≤ S1x1x8.size a := by
  fin_cases k <;> decide

/-- Delay `k` of a table. -/
def tabAt {c : Dev nD} (T : TabBuf (F := F) c tabM) (k : Fin 8) : BitVec 32 :=
  tabM.view.readAt (Elt F) (Rect.unit (s := S8) ![k.val] S1.size (inb_tab k)).toLoadRect T (Shape.Idx.first (numel1_S1.symm ▸ Nat.one_pos))

/-- The first row of the values that point `i` gathers for. -/
def rowBase (i : grid2.Coords) : BitVec 32 := Scalar.muli (BitVec.ofNat 32 (i 1).val) 512#32

/-- One delay's window of the values, shifted into place and times its weight, added to `acc`. -/
def aggStep (i : grid2.Coords) (x : BitVec 32) (h : k2_chk1 i x) (V : Vec F S1x4608x768 .f32) (w : Vec F S1x1x1 .f32) (acc : FVec F S512x768 .f32) : FVec F S512x768 .f32 :=
  k2_pay3 (rowBase i) acc x (View.ld V (Rect.unit (s := S1x4608x768) (k2_off1 i x) S1x520x768.size (k2_off1_inb i x h))) w

/-- Weight `k`. -/
def wtAt (W : Vec F S1x1x8 .f32) (k : Fin 8) : Vec F S1x1x1 .f32 :=
  View.ld W (Rect.unit (s := S1x1x8) ![0, 0, k.val] S1x1x1.size (inb_wt k))

/-- The sum over the first `n` delays. -/
def aggAcc (i : grid2.Coords) (xs : Fin 8 → BitVec 32) (hx : ∀ k, k2_chk1 i (xs k)) (V : Vec F S1x4608x768 .f32) (W : Vec F S1x1x8 .f32) : (n : ℕ) → n ≤ 8 → FVec F S512x768 .f32
  | 0, _ => broadcast S512x768 (Scalar.ofBits .f32 0x00000000#32)
  | n + 1, h => aggStep i (xs ⟨n, h⟩) (hx ⟨n, h⟩) V (wtAt W ⟨n, h⟩) (aggAcc i xs hx V W n (Nat.le_of_succ_le h))

/-- The block that point `i` writes. -/
def aggOut (i : grid2.Coords) (xs : Fin 8 → BitVec 32) (hx : ∀ k, k2_chk1 i (xs k)) (V : Vec F S1x4608x768 .f32) (W : Vec F S1x1x8 .f32) : FVec F S1x512x768 .f32 :=
  shapeCast S1x512x768 (aggAcc i xs hx V W 8 le_rfl) shapeCasts_S512x768_S1x512x768

end Cert.KernelIdeal.Own
-- ==== Proof.KernelIdeal.AggRun.lean ====
/- The gathering body run on any whole buffers and any table whose delays are in range. -/
module

public import proofs.«01_k».proof.Proof.KernelIdeal.AggVal
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The table held at the share `q`. -/
abbrev tabPt (c : Dev nD) {S : Shape} {e : EltTy} (M : Memref sig .tc .smem S e) (q : PosShare TreeShare) (f : TabBuf (F := F) c M) : sProp 𝕄 :=
  M.view.loc (c : Thread nD τ) ↦{q} f

set_option maxHeartbeats 2000000 in
/-- The body on whole buffers leaves in the third the eight windows' weighted sum. -/
theorem aggRun (c : Dev nD) (i : grid2.Coords) (arg3 : Memref sig .tc .vmem S1x4608x768 .f32) (harg3 : arg3.IsWhole) (arg4 : Memref sig .tc .vmem S1x1x8 .f32) (harg4 : arg4.IsWhole) (arg5 : Memref sig .tc .vmem S1x512x768 .f32) (harg5 : arg5.IsWhole)
    (x0 : Vec F S1x4608x768 .f32) (x1 : Vec F S1x1x8 .f32) (T : TabBuf (F := F) c tabM) (hT : ∀ k, k2_chk1 i (tabAt T k)) (E : Set ℕ) (K : PUnit → sProp 𝕄) :
    iprop(owns (c : Thread nD τ) arg3 fullShare x0 ∗ owns (c : Thread nD τ) arg4 fullShare x1 ∗ (∃ d, owns (c : Thread nD τ) arg5 fullShare d) ∗ tabPt c tabM fullShare T
        ∗ (iprop(owns (c : Thread nD τ) arg3 fullShare x0 ∗ owns (c : Thread nD τ) arg4 fullShare x1 ∗ owns (c : Thread nD τ) arg5 fullShare (aggOut i (tabAt T) hT x0 x1) ∗ tabPt c tabM fullShare T) -∗ K ⟨⟩))
      ⊢ wp frame (wpE (defs₀ (F := F)) Variants.none c none) E (cc2__agg_kernel i tabM (Memref.isWhole_whole _) arg3 harg3 arg4 harg4 arg5 harg5) K := by
  simp only [cc2__agg_kernel_eq_skeleton]; unfold cc2__agg_kernel_skel
  simp only [k2_part1_eq_skeleton, k2_part2_eq_skeleton, k2_part3_eq_skeleton, k2_part4_eq_skeleton, k2_part5_eq_skeleton, k2_part6_eq_skeleton, k2_part7_eq_skeleton]
  unfold owns
  iintro ⟨⟨%f0, %hf0, H0⟩, ⟨%f1, %hf1, H1⟩, ⟨%d2, %f2, -, H2⟩, HT0, Hk⟩
  subst hf0; subst hf1
  have h0 := hT 0
  have h1 := hT 1
  have h2 := hT 2
  have h3 := hT 3
  have h4 := hT 4
  have h5 := hT 5
  have h6 := hT 6
  have h7 := hT 7
  sl_exec (disch := first | sl_exact h0 | sl_exact h1 | sl_exact h2 | sl_exact h3 | sl_exact h4 | sl_exact h5 | sl_exact h6 | sl_exact h7)
  sl_step
  iapply Hk
  isplitl [H0]
  · iexists f0; isplitr; · ipureintro; rfl
    iexact H0
  isplitl [H1]
  · iexists f1; isplitr; · ipureintro; rfl
    iexact H1
  isplitl [H2]
  · iexists _; isplitr; swap; · iexact H2
    ipureintro
    refine (View.read_writes_full _ _ _ _ _).trans ?_
    rfl
  iexact HT0

end Cert.KernelIdeal.Own
-- ==== Proof.KernelIdeal.AggDat.lean ====
/- The gathering call's proof data, for a table of delays in range, and its body at every point. -/
module

public import proofs.«01_k».proof.Proof.KernelIdeal.AggRun
public import proofs.«01_k».proof.Proof.KernelIdeal.CorrDat

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation BodyObligationLoose)

variable {F : FTy → Type} [FloatOps F] [Named F]

local notation "𝕄" => MT nD τ sig Unit (Elt F) ℕ (UR sig nD τ) ℕ

variable (V : Vals F) (a : (pcfg2 (F := F)).Adm)

/-- Every delay of the table meets the body's side conditions at every point. -/
abbrev TabOk : Prop := ∀ (i : grid2.Coords) (k : Fin 8), k2_chk1 i (tabAt (F := F) (c := (0 : Dev nD)) (a.1 0) k)

variable (hT : TabOk a)

/-- Window `w`'s block at point `t`, read off its array as the region finds it. -/
def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Proc.devRef .tc (Pipeline.arrRef spec2 w)))

/-- The current staging buffers at point `t`. -/
abbrev st2_0 (t : Fin (cfg2 a).N) : Memref sig .tc .vmem S1x4608x768 .f32 := spec2_0.stage ((cfg2 a).slots t 0)
abbrev st2_1 (t : Fin (cfg2 a).N) : Memref sig .tc .vmem S1x1x8 .f32 := spec2_1.stage ((cfg2 a).slots t 1)
abbrev st2_2 (t : Fin (cfg2 a).N) : Memref sig .tc .vmem S1x512x768 .f32 := spec2_2.stage ((cfg2 a).slots t 2)

/-- The kernel body at point `t`. -/
abbrev bodyAt2 (t : Fin (cfg2 a).N) : Prog (TpuEff nD τ sig (Elt F) Λ₀ .tc) PUnit :=
  cc2__agg_kernel (grid2.coords t) (Memref.whole main_v10) (Memref.isWhole_whole _) (st2_0 a t) (hstage2_0 (((cfg2 a).slots t 0).cast nbuf2_0)) (st2_1 a t) (hstage2_1 (((cfg2 a).slots t 1).cast nbuf2_1)) (st2_2 a t) (hstage2_2 (((cfg2 a).slots t 2).cast nbuf2_2))

/-- The table held whole at the admissible contents. -/
abbrev tab2 (c : Dev nD) : sProp 𝕄 := Pipeline.prefHeld pre2 c (fun _ => fullShare) a.1

theorem tab2_eq (c : Dev nD) : (tab2 a c : sProp 𝕄) = tabPt c tabM fullShare (a.1 0) := by
  unfold tab2 Pipeline.prefHeld
  rw [show (Finset.univ : Finset (Fin 1)) = {(0 : Fin 1)} from by decide, bigSep_singleton]
  rfl

/-- The proof data: the result's block at the eight windows' weighted sum. -/
def dat2 (c : Dev nD) : Dat τ (Elt F) Unit ℕ (UR sig nD τ) ℕ (cfg2 a) c where
  A w := V c (Proc.devRef .tc (Pipeline.arrRef spec2 w))
  after w t := match w with
    | ⟨0, _⟩ => iblk2 V a c 0 t
    | ⟨1, _⟩ => iblk2 V a c 1 t
    | ⟨2, _⟩ => aggOut (grid2.coords t) (tabAt (F := F) (c := (0 : Dev nD)) (a.1 0)) (hT (grid2.coords t)) (iblk2 V a c 0 t) (iblk2 V a c 1 t)
  Φ _ := iprop(Pipeline.scopedRest spec2 c ∗ tab2 a c)
  q _ := fullShare
  owed _ := 0

theorem dat2_A (c : Dev nD) (w : Fin (cfg2 a).W) : (dat2 V a hT c).A w = V c (Proc.devRef .tc (Pipeline.arrRef spec2 w)) := by
  dsimp only [dat2]

theorem after2_0 (c : Dev nD) (t : Fin (cfg2 a).N) : (dat2 V a hT c).after 0 t = iblk2 V a c 0 t := by dsimp only [dat2]; try rfl
theorem after2_1 (c : Dev nD) (t : Fin (cfg2 a).N) : (dat2 V a hT c).after 1 t = iblk2 V a c 1 t := by dsimp only [dat2]; try rfl
theorem after2_2 (c : Dev nD) (t : Fin (cfg2 a).N) : (dat2 V a hT c).after 2 t = aggOut (grid2.coords t) (tabAt (F := F) (c := (0 : Dev nD)) (a.1 0)) (hT (grid2.coords t)) (iblk2 V a c 0 t) (iblk2 V a c 1 t) := by dsimp only [dat2]; try rfl

theorem before2_0 (c : Dev nD) (t : Fin (cfg2 a).N) (d) : (dat2 V a hT c).before 0 t d = iblk2 V a c 0 t :=
  ((dat2 V a hT c).before_in_eq_fetched 0 rfl (fun _ => rfl) (fun _ _ _ => rfl) (fun t => by rw [after2_0]; unfold Dat.blockOf iblk2; rw [dat2_A]; try rfl) t d).trans
    (by unfold Dat.fetched Dat.blockOf iblk2; rw [dat2_A]; try rfl)
theorem before2_1 (c : Dev nD) (t : Fin (cfg2 a).N) (d) : (dat2 V a hT c).before 1 t d = iblk2 V a c 1 t :=
  ((dat2 V a hT c).before_in_eq_fetched 1 rfl (fun _ => rfl) (fun _ _ _ => rfl) (fun t => by rw [after2_1]; unfold Dat.blockOf iblk2; rw [dat2_A]; try rfl) t d).trans
    (by unfold Dat.fetched Dat.blockOf iblk2; rw [dat2_A]; try rfl)

/-- What the body is called with at point `t`, -/
def bodyPre2 (c : Dev nD) (t : Fin (cfg2 a).N) : sProp 𝕄 :=
  iprop((dat2 V a hT c).Φ t.castSucc ∗ (dat2 V a hT c).owesAt () t.castSucc
    ∗ (∃ d, owns (c : Thread nD τ) (st2_0 a t) fullShare ((dat2 V a hT c).before 0 t d))
    ∗ (∃ d, owns (c : Thread nD τ) (st2_1 a t) fullShare ((dat2 V a hT c).before 1 t d))
    ∗ (∃ d, owns (c : Thread nD τ) (st2_2 a t) fullShare ((dat2 V a hT c).before 2 t d)))

/-- and what it returns. -/
def bodyPost2 (c : Dev nD) (t : Fin (cfg2 a).N) : sProp 𝕄 :=
  iprop((dat2 V a hT c).Φ t.succ ∗ (dat2 V a hT c).owesAt () t.succ
    ∗ owns (c : Thread nD τ) (st2_0 a t) fullShare ((dat2 V a hT c).after 0 t)
    ∗ owns (c : Thread nD τ) (st2_1 a t) fullShare ((dat2 V a hT c).after 1 t)
    ∗ owns (c : Thread nD τ) (st2_2 a t) fullShare ((dat2 V a hT c).after 2 t))

/-- The body at any point. -/
theorem body2 (c : Dev nD) (t : Fin (cfg2 a).N) :
    bodyPre2 V a hT c t ⊢ wp frame (wpE (defs₀ (F := F)) Variants.none c none) Set.univ (bodyAt2 a t) (fun _ => bodyPost2 V a hT c t) := by
  obtain rfl : c = 0 := Subsingleton.elim _ _
  unfold bodyPre2 bodyPost2 bodyAt2
  simp only [before2_0, before2_1]
  rw [show (dat2 V a hT 0).owesAt () t.succ = (dat2 V a hT 0).owesAt () t.castSucc from rfl, after2_0, after2_1, after2_2]
  rw [show (dat2 V a hT 0).Φ t.succ = iprop(Pipeline.scopedRest spec2 0 ∗ tab2 a 0) from rfl,
    show (dat2 V a hT 0).Φ t.castSucc = iprop(Pipeline.scopedRest spec2 0 ∗ tab2 a 0) from rfl, tab2_eq]
  iintro ⟨⟨HΦ, HT⟩, Ho, ⟨%d0, H0⟩, ⟨%d1, H1⟩, ⟨%d2, H2⟩⟩
  iapply (aggRun 0 (grid2.coords t) _ _ _ _ _ _ (iblk2 V a 0 0 t) (iblk2 V a 0 1 t) (a.1 0) (hT (grid2.coords t)) Set.univ _)
  isplitl [H0]; · iexact H0
  isplitl [H1]; · iexact H1
  isplitl [H2]; · iexists _; iexact H2
  isplitl [HT]; · iexact HT
  iintro ⟨H0, H1, H2, HT⟩
  isplitl [HΦ HT]
  · isplitl [HΦ]
    · iexact HΦ
    iexact HT
  isplitl [Ho]; · iexact Ho
  isplitl [H0]; · iexact H0
  isplitl [H1]; · iexact H1
  iexact H2

theorem row2 (t : Fin (cfg2 a).N) : defs₀ (F := F) .tc (cfg2 a).body ((cfg2 a).bodyArgs t ((cfg2 a).slots t)) = bodyAt2 a t := by
  unfold defs₀; rw [Defs.onTc_tc]

/-- The body obligation of the gathering call. -/
theorem obl2 (c : Dev nD) : BodyObligation (dat2 V a hT c) (defs₀ (F := F)) Variants.none () Set.univ := fun t => by
  rw [bigSep_W2, bigSep_W2, row2]
  exact triple_restated (body2 V a hT c t) rfl .rfl fun _ => .rfl

end Cert.KernelIdeal.Own
-- ==== Proof.KernelIdeal.SelPick.lean ====
/- The delay that a round picks: the least of the delays at which the sum is largest, so at most the length of a sequence. -/
module

public import proofs.«01_k».proof.Proof.KernelIdeal.SelVal
public import Idealize.ShloMosaic.Lib.ValueLayout
public import Idealize.ShloMosaic.Lib.Routing.Words
public import Idealize.ShloMosaic.Lib.WordArith

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
variable {F : FTy → Type} [FloatOps F] [Named F]

/-- A fold of the signed minimum is at most the start and every word met, and is one of them. -/
theorem fold_minsi_spec {ι : Type} [DecidableEq ι] (g : ι → BitVec 32) (s : Finset ι) (init : BitVec 32) :
    (s.fold IntOp.minsi init g).toInt ≤ init.toInt ∧ (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨by rw [Finset.fold_empty], fun i hi => absurd hi (Finset.notMem_empty i), Or.inl (by rw [Finset.fold_empty])⟩
  | insert a s has ih =>
    obtain ⟨h1, h2, h3⟩ := ih
    rw [Finset.fold_insert has]
    have hm : (IntOp.minsi (g a) (s.fold IntOp.minsi init g) = g a ∧ (g a).toInt ≤ (s.fold IntOp.minsi init g).toInt)
        ∨ (IntOp.minsi (g a) (s.fold IntOp.minsi init g) = s.fold IntOp.minsi init g ∧ (s.fold IntOp.minsi init g).toInt ≤ (g a).toInt) := by
      unfold IntOp.minsi
      split
      · next h => rw [BitVec.slt_iff_toInt_lt] at h; exact Or.inl ⟨rfl, by omega⟩
      · next h => rw [BitVec.slt_iff_toInt_lt] at h; exact Or.inr ⟨rfl, by omega⟩
    rcases hm with ⟨e, hle⟩ | ⟨e, hle⟩
    · rw [e]
      refine ⟨hle.trans h1, fun i hi => ?_, Or.inr ⟨a, Finset.mem_insert_self a s, rfl⟩⟩
      rcases Finset.mem_insert.mp hi with rfl | hi
      · exact le_rfl
      · exact hle.trans (h2 i hi)
    · rw [e]
      refine ⟨h1, fun i hi => ?_, ?_⟩
      · rcases Finset.mem_insert.mp hi with rfl | hi
        · exact hle
        · exact h2 i hi
      · rcases h3 with h3 | ⟨i, hi, h3⟩
        · exact Or.inl h3
        · exact Or.inr ⟨i, Finset.mem_insert_of_mem hi, h3⟩

/-- A delay, as its row and column. -/
theorem flatIota_apply (r : Fin 8) (c : Fin 512) : flatIota (ValueIdx.ix2 r c) = BitVec.ofNat 32 (512 * r.val + c.val) := by
  have hr := r.isLt
  have hc := c.isLt
  unfold flatIota
  have e0 : iota .tc S8x512 32 [0] iota_S8x512_d0_w32 (ValueIdx.ix2 r c) = BitVec.ofNat 32 r.val := by
    simp [iota]
  have e1 : iota .tc S8x512 32 [1] iota_S8x512_d1_w32 (ValueIdx.ix2 r c) = BitVec.ofNat 32 c.val := by
    simp [iota]
  show iota .tc S8x512 32 [0] iota_S8x512_d0_w32 (ValueIdx.ix2 r c) * 512#32 + iota .tc S8x512 32 [1] iota_S8x512_d1_w32 (ValueIdx.ix2 r c) = _
  rw [e0, e1]
  apply BitVec.eq_of_toNat_eq
  rw [BitVec.toNat_add, BitVec.toNat_mul, BitVec.toNat_ofNat, BitVec.toNat_ofNat, BitVec.toNat_ofNat, BitVec.toNat_ofNat]
  omega

/-- What the minimum is taken of at a place: its delay where the sum is largest, and the length of a sequence elsewhere. -/
def candAt (m : FVec F S8x512 .f32) (r : Fin 8) (c : Fin 512) : ℕ :=
  if FloatOps.cmpf .oeq (m (ValueIdx.ix2 r c)) (topOf m) = 1 then 512 * r.val + c.val else 4096

theorem candAt_le (m : FVec F S8x512 .f32) (r : Fin 8) (c : Fin 512) : candAt m r c ≤ 4096 := by
  have := r.isLt
  have := c.isLt
  unfold candAt
  split <;> omega

/-- The words the minimum is taken of. -/
def candVec (m : FVec F S8x512 .f32) : IVec S8x512 32 :=
  select (cmpf .oeq m (broadcast S8x512 (topOf m))) flatIota (broadcast S8x512 4096#32)

theorem candVec_apply (m : FVec F S8x512 .f32) (r : Fin 8) (c : Fin 512) : candVec m (ValueIdx.ix2 r c) = BitVec.ofNat 32 (candAt m r c) := by
  unfold candVec select cmpf broadcast Scalar.select
  rw [flatIota_apply]
  unfold candAt
  by_cases h : FloatOps.cmpf .oeq (m (ValueIdx.ix2 r c)) (topOf m) = 1
  · rw [if_pos h, if_pos h]
  · rw [if_neg h, if_neg h]

theorem cand_toInt (m : FVec F S8x512 .f32) (r : Fin 8) (c : Fin 512) : (candVec m (ValueIdx.ix2 r c)).toInt = candAt m r c := by
  rw [candVec_apply]
  exact WordArith.toInt_ofNat_small _ (by have := candAt_le m r c; omega)

/-- A whole 8 by 512 vector read under a leading axis of one, as one finite set of places. -/
theorem univ_places : (Finset.univ : Finset S1x8x512.Idx) = Finset.univ.map ⟨fun p : Fin 8 × Fin 512 => ix3 (0 : Fin 1) p.1 p.2, fun p q h => by
    have h1 := congrFun h 1
    have h2 := congrFun h 2
    exact Prod.ext h1 h2⟩ := by
  symm
  rw [Finset.eq_univ_iff_forall]
  intro i
  refine Finset.mem_map.mpr ⟨(i 1, i 2), Finset.mem_univ _, ?_⟩
  funext a
  match a with
  | ⟨0, _⟩ => exact (Subsingleton.elim (α := Fin 1) _ _)
  | ⟨1, _⟩ => rfl
  | ⟨2, _⟩ => rfl

/-- The places that reduce to the one result. -/
theorem filter_places (j : S1.Idx) : (Finset.univ.filter fun i : S1x8x512.Idx => reduces_S1x8x512_S1.drop i = j) = Finset.univ := by
  rw [Finset.filter_eq_self]
  intro i _
  funext a
  match a with
  | ⟨0, _⟩ => exact (Subsingleton.elim (α := Fin 1) _ _)

/-- The picked delay, as a fold. -/
theorem pickOf_fold (m : FVec F S8x512 .f32) :
    pickOf m = Finset.univ.fold IntOp.minsi 2147483647#32 (fun p : Fin 8 × Fin 512 => candVec m (ValueIdx.ix2 p.1 p.2)) := by
  refine (shapeCast_apply _ shapeCasts_S1_S1x1x1 _ (ix1 0) ?_).trans ((multiReductionI_eq_fold (s := S1x8x512) .minsi _ 2147483647#32 reduces_S1x8x512_S1 rfl (ix1 0)).trans ?_)
  · decide
  · rw [filter_places, univ_places, Finset.fold_map]
    refine Finset.fold_congr fun p _ => ?_
    exact shapeCast_ab_1ab_apply _ _ _ _ _

/-- The picked delay is at most every candidate and is one of them. -/
theorem pickOf_spec (m : FVec F S8x512 .f32) :
    (∀ r c, (pickOf m).toNat ≤ candAt m r c) ∧ ∃ r c, (pickOf m).toNat = candAt m r c := by
  classical
  obtain ⟨h1, h2, h3⟩ := fold_minsi_spec (fun p : Fin 8 × Fin 512 => candVec m (ValueIdx.ix2 p.1 p.2)) Finset.univ 2147483647#32
  rw [← pickOf_fold] at h1 h2 h3
  have h4 : ∃ r c, pickOf m = candVec m (ValueIdx.ix2 r c) := by
    rcases h3 with h | ⟨p, _, h⟩
    · exfalso
      have := h2 (0, 0) (Finset.mem_univ _)
      rw [h] at this
      replace this := this.trans_eq (cand_toInt m 0 0)
      have := candAt_le m 0 0
      have e : (2147483647#32 : BitVec 32).toInt = 2147483647 := by decide
      omega
    · exact ⟨p.1, p.2, h⟩
  have key : ∀ r c, (candVec m (ValueIdx.ix2 r c)).toNat = candAt m r c := fun r c => by
    rw [candVec_apply, BitVec.toNat_ofNat]
    have := candAt_le m r c
    exact Nat.mod_eq_of_lt (by omega)
  obtain ⟨r, c, h⟩ := h4
  refine ⟨fun r' c' => ?_, r, c, by rw [h, key]⟩
  have := h2 (r', c') (Finset.mem_univ _)
  rw [cand_toInt, h, cand_toInt] at this
  rw [h, key]
  exact_mod_cast this

/-- So it is at most the length of a sequence. -/
theorem pickOf_le (m : FVec F S8x512 .f32) : (pickOf m).toNat ≤ 4096 :=
  ((pickOf_spec m).1 0 0).trans (candAt_le m 0 0)

end Cert.KernelIdeal.Own
-- ==== Proof.KernelIdeal.AggWords.lean ====
/- The words the gathering call computes its offsets from, at a delay that is at most the length of a sequence. -/
module

public import proofs.«01_k».proof.Proof.KernelIdeal.AggVal
public import Idealize.ShloMosaic.Lib.Routing.Words
public import Idealize.ShloMosaic.Lib.WordArith

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Routing

/-- The row a delay's window starts at, before it is rounded down. -/
def startOf (i : grid2.Coords) (n : ℕ) : ℕ := (512 * (i 1).val + n) % 4096

theorem row_lt (i : grid2.Coords) : (i 1).val < 8 := (i 1).isLt

theorem rowBase_eq (i : grid2.Coords) : rowBase i = BitVec.ofNat 32 (512 * (i 1).val) := by
  have h := row_lt i
  unfold rowBase
  apply BitVec.eq_of_toNat_eq
  show (BitVec.ofNat 32 (i 1).val * 512#32).toNat = _
  rw [BitVec.toNat_mul, BitVec.toNat_ofNat, BitVec.toNat_ofNat, BitVec.toNat_ofNat]
  omega

/-- The remainder after the length of a sequence. -/
theorem start_word (i : grid2.Coords) (n : ℕ) (hn : n ≤ 4096) :
    Scalar.remsi (Scalar.addi (rowBase i) (BitVec.ofNat 32 n)) 4096#32 = BitVec.ofNat 32 (startOf i n) := by
  have h := row_lt i
  rw [rowBase_eq]
  have e : Scalar.addi (BitVec.ofNat 32 (512 * (i 1).val)) (BitVec.ofNat 32 n) = BitVec.ofNat 32 (512 * (i 1).val + n) := by
    apply BitVec.eq_of_toNat_eq
    show (BitVec.ofNat 32 (512 * (i 1).val) + BitVec.ofNat 32 n).toNat = _
    rw [BitVec.toNat_add, BitVec.toNat_ofNat, BitVec.toNat_ofNat, BitVec.toNat_ofNat]
    omega
  rw [e]
  exact remsi_word .scalar (a := 512 * (i 1).val + n) (b := 4096) (by omega) (by omega) (by omega)

/-- A word below the length of a sequence, rounded down to a multiple of eight as the body does it. -/
def floorWord (v4 : BitVec 32) : BitVec 32 :=
  Scalar.muli (Scalar.select
    (Scalar.andi (Scalar.cmpi .ne (Scalar.subi (Scalar.extui (Scalar.cmpi .sgt v4 0#32) : BitVec 32) (Scalar.extui (Scalar.cmpi .slt v4 0#32)))
      (Scalar.subi (Scalar.extui (Scalar.cmpi .sgt 8#32 0#32)) (Scalar.extui (Scalar.cmpi .slt 8#32 0#32))))
      (Scalar.cmpi .ne (Scalar.remsi v4 8#32) 0#32))
    (Scalar.subi (Scalar.divsi v4 8#32) 1#32) (Scalar.divsi v4 8#32)) 8#32

theorem floorWord_eq (s : ℕ) (hs : s < 4096) : floorWord (BitVec.ofNat 32 s) = BitVec.ofNat 32 (s / 8 * 8) := by
  have hr : Scalar.remsi (BitVec.ofNat 32 s) 8#32 = BitVec.ofNat 32 (s % 8) := remsi_word .scalar (a := s) (b := 8) (by omega) (by omega) (by omega)
  have hd : Scalar.divsi (BitVec.ofNat 32 s) 8#32 = BitVec.ofNat 32 (s / 8) := divsi_word .scalar (a := s) (b := 8) (by omega) (by omega) (by omega)
  have hm : Scalar.muli (BitVec.ofNat 32 (s / 8)) 8#32 = BitVec.ofNat 32 (s / 8 * 8) := by
    apply BitVec.eq_of_toNat_eq
    show (BitVec.ofNat 32 (s / 8) * 8#32).toNat = _
    rw [BitVec.toNat_mul, BitVec.toNat_ofNat, BitVec.toNat_ofNat, BitVec.toNat_ofNat]
    omega
  unfold floorWord
  rw [hr, hd]
  rcases Nat.eq_zero_or_pos s with rfl | h0
  · decide
  · have hpos : (BitVec.ofNat 32 s).toInt = s := WordArith.toInt_ofNat_small s (by omega)
    have e1 : Scalar.cmpi .sgt (BitVec.ofNat 32 s) 0#32 = 1#1 := by
      show BitVec.ofBool (BitVec.slt 0#32 (BitVec.ofNat 32 s)) = 1#1
      rw [WordArith.ofBool_eq_one_iff, BitVec.slt_iff_toInt_lt, hpos]; simp; omega
    have e2 : Scalar.cmpi .slt (BitVec.ofNat 32 s) 0#32 = 0#1 := by
      show BitVec.ofBool (BitVec.slt (BitVec.ofNat 32 s) 0#32) = 0#1
      rw [show BitVec.slt (BitVec.ofNat 32 s) 0#32 = false from by
        rw [Bool.eq_false_iff, Ne, BitVec.slt_iff_toInt_lt, hpos]; simp]
      rfl
    rw [e1, e2]
    have e3 : Scalar.cmpi .ne (Scalar.subi (Scalar.extui 1#1 : BitVec 32) (Scalar.extui 0#1))
      (Scalar.subi (Scalar.extui (Scalar.cmpi .sgt 8#32 0#32) : BitVec 32) (Scalar.extui (Scalar.cmpi .slt 8#32 0#32))) = 0#1 := by decide
    rw [e3]
    have e4 : ∀ y : BitVec 1, Scalar.andi 0#1 y = 0#1 := by decide
    rw [e4]
    exact hm

theorem mult_word (i : grid2.Coords) (n : ℕ) (hn : n ≤ 4096) : k2_mult1 i (BitVec.ofNat 32 n) = BitVec.ofNat 32 (startOf i n / 8 * 8) := by
  rw [← floorWord_eq (startOf i n) (Nat.mod_lt _ (by omega)), ← start_word i n hn]
  rfl

theorem off_word (i : grid2.Coords) (n : ℕ) (hn : n ≤ 4096) : k2_off1 i (BitVec.ofNat 32 n) = ![0, startOf i n / 8 * 8, 0] := by
  have hlt : startOf i n < 4096 := Nat.mod_lt _ (by omega)
  have h : k2_off1 i (BitVec.ofNat 32 n) = ![0, (k2_mult1 i (BitVec.ofNat 32 n)).toNat, 0] := rfl
  rw [h, mult_word i n hn, BitVec.toNat_ofNat, Nat.mod_eq_of_lt (by omega)]

/-- The side conditions hold at every delay that is at most the length of a sequence. -/
theorem chk_of_le (i : grid2.Coords) (x : BitVec 32) (hx : x.toNat ≤ 4096) : k2_chk1 i x := by
  obtain ⟨n, hn, rfl⟩ : ∃ n, n ≤ 4096 ∧ x = BitVec.ofNat 32 n := ⟨x.toNat, hx, by simp⟩
  have hlt : startOf i n < 4096 := Nat.mod_lt _ (by omega)
  refine ⟨?_, ?_⟩
  · rw [mult_word i n hn, BitVec.toNat_ofNat, Nat.mod_eq_of_lt (by omega)]
    exact Nat.dvd_mul_left _ _
  · rw [off_word i n hn]
    intro a
    match a with
    | ⟨0, _⟩ => show 0 + 1 ≤ 1; omega
    | ⟨1, _⟩ => show startOf i n / 8 * 8 + 520 ≤ 4608; omega
    | ⟨2, _⟩ => show 0 + 768 ≤ 768; omega

end Cert.KernelIdeal.Own
-- ==== Proof.KernelIdeal.Table.lean ====
/- The table of delays the gathering call is given: every entry is a picked delay, so it is in range. -/
module

public import proofs.«01_k».proof.Proof.KernelIdeal.SelPick
public import proofs.«01_k».proof.Proof.KernelIdeal.AggWords

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
variable {F : FTy → Type} [FloatOps F] [Named F]

/-- A row of eight scalars, read at a place. -/
theorem row8_apply {α : Type} (f : Fin 8 → α) (h) (k : Fin 8) :
    concatenate S1x8 1 [⟨S1x1, broadcast S1x1 (f 0)⟩, ⟨S1x1, broadcast S1x1 (f 1)⟩, ⟨S1x1, broadcast S1x1 (f 2)⟩, ⟨S1x1, broadcast S1x1 (f 3)⟩, ⟨S1x1, broadcast S1x1 (f 4)⟩, ⟨S1x1, broadcast S1x1 (f 5)⟩, ⟨S1x1, broadcast S1x1 (f 6)⟩, ⟨S1x1, broadcast S1x1 (f 7)⟩] h (ValueIdx.ix2 (0 : Fin 1) k) = f k :=
  concatenate_ofFn_unit_apply (t := S1x8) (s₁ := S1x1) 1 (N := 8) (fun k : Fin 8 => broadcast S1x1 (f k)) h rfl rfl (ValueIdx.ix2 (0 : Fin 1) k) k rfl
    (ValueIdx.ix2 (0 : Fin 1) (0 : Fin 1)) fun b hb => by
      match b with
      | ⟨0, _⟩ => rfl
      | ⟨1, _⟩ => exact absurd rfl hb

/-- Delay `k` of the row of picked delays. -/
theorem idxOut_apply (X : Vec F S4x8x1024 .f32) (k : Fin 8) : idxOut X (ValueIdx.ix2 (0 : Fin 1) k) = pickOf (leftAt X k.val) :=
  row8_apply (fun k : Fin 8 => pickOf (leftAt X k.val)) _ k

/-- A delay of the table, by its place. -/
theorem tabAt_apply {c : Dev nD} (T : TabBuf (F := F) c tabM) (k : Fin 8) : tabAt T k = (T : S8.Idx → BitVec 32) (ix1 k) := by
  unfold tabAt
  rw [View.readAt_apply]
  refine congrArg (T : S8.Idx → BitVec 32) ?_
  funext a
  match a with
  | ⟨0, _⟩ => exact Fin.ext (by show k.val + 1 * 0 = k.val; omega)

end Cert.KernelIdeal.Own
-- ==== Proof.KernelIdeal.Flow.lean ====
/- What every buffer holds between two calls: the launch contents, each host operation, and what each call leaves. -/
module

public import proofs.«01_k».proof.Proof.KernelIdeal.CorrDat
public import proofs.«01_k».proof.Proof.KernelIdeal.SelArr
public import proofs.«01_k».proof.Proof.KernelIdeal.AggDat
public import proofs.«01_k».proof.Proof.KernelIdeal.Table
public import proofs.«01_k».proof.Proof.Gen.KernelIdeal.Regions
public import Idealize.ShloMosaic.Lib.Pipeline.RegionArraysT

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
open Idealize.ShloMosaic.Pipeline (Dat Cfg Window)
variable {F : FTy → Type} [FloatOps F] [Named F]

variable (m : (ℓ : Loc nD τ sig) → Buf (Elt F) ℓ)

/-- The table of delays is the selection's first result, flattened. -/
theorem host2_v10 (V : Valuation τ sig (Elt F)) :
    StableHlo.after hostOps2 V (Proc.devRef .tc main_v10) = shapeCast S8 (V (Proc.devRef .tc main_v6_0)) shapeCasts_S1x8_S8 := by
  after_results
  rfl

/-- After the correlation call. -/
def W2 (c : Dev nD) : Valuation τ sig (Elt F) := Function.update (V1 m c) main_v5 ((dat0 (V1 m) c).arrAt 2 cfg0.N)

/-- After the selection call. -/
def W3 (c : Dev nD) : Valuation τ sig (Elt F) :=
  Function.update (Function.update (W2 m c) main_v6_0 ((dat1 (W2 m) c).arrAt 1 cfg1.N)) main_v6_1 ((dat1 (W2 m) c).arrAt 2 cfg1.N)

/-- Before the gathering call. -/
def W4 (c : Dev nD) : Valuation τ sig (Elt F) := StableHlo.after hostOps2 (W3 m c)

theorem W2_v5 (c : Dev nD) : W2 m c (Proc.devRef .tc main_v5) = (dat0 (V1 m) c).arrAt 2 cfg0.N := by
  unfold W2; exact Function.update_self _ _ _

theorem W3_v6_1 (c : Dev nD) : W3 m c (Proc.devRef .tc main_v6_1) = softOf (weightMat (W2 m c (Proc.devRef .tc main_v5))) := by
  unfold W3; exact (Function.update_self _ _ _).trans (arr1_2 _ c)

theorem W3_v6_0 (c : Dev nD) : W3 m c (Proc.devRef .tc main_v6_0) = idxOut (W2 m c (Proc.devRef .tc main_v5)) := by
  unfold W3
  rw [Function.update_of_ne (StableHlo.devRef_ne_of_ne (by decide)), Function.update_self]
  exact arr1_1 _ c

/-- The table of delays. -/
theorem W4_v10 (c : Dev nD) : W4 m c (Proc.devRef .tc main_v10) = shapeCast S8 (idxOut (W2 m c (Proc.devRef .tc main_v5))) shapeCasts_S1x8_S8 := by
  rw [← W3_v6_0]
  exact host2_v10 _

theorem ok2_all (pf : pre2.Contents (Elt F)) : ok2 pf := trivial

/-- The tables the gathering call is run at. -/
def tblPf : pre2.Contents (Elt F) := fun k => W4 m (0 : Dev nD) (Proc.devRef .tc (pre2.ref k))

/-- The tables, admissible as any are. -/
def tbl : (pcfg2 (F := F)).Adm := ⟨tblPf m, ok2_all (tblPf m)⟩

/-- The one table, as the body reads it. -/
def tblRow : TabBuf (F := F) (0 : Dev nD) tabM := W4 m (0 : Dev nD) (Proc.devRef .tc main_v10)

theorem tblRow_apply (k : Fin 8) : tabAt (tblRow m) k = pickOf (leftAt (W2 m 0 (Proc.devRef .tc main_v5)) k.val) := by
  rw [tabAt_apply]
  have e : (tblRow m : S8.Idx → BitVec 32) = shapeCast S8 (idxOut (W2 m 0 (Proc.devRef .tc main_v5))) shapeCasts_S1x8_S8 := W4_v10 m 0
  rw [e, shapeCast_apply _ shapeCasts_S1x8_S8 (ix1 k) (ValueIdx.ix2 (0 : Fin 1) k) (by revert k; decide), idxOut_apply]

theorem tbl_ok : TabOk (tbl m) := fun i k => by
  have h : k2_chk1 i (tabAt (tblRow m) k) := chk_of_le i _ (by rw [tblRow_apply]; exact pickOf_le _)
  exact h

/-- What the gathering call leaves in its result. -/
def gathered (c : Dev nD) : Buf (Elt F) ((c : Thread nD τ).loc main_v12) := (dat2 (W4 m) (tbl m) (tbl_ok m) c).arrAt 2 (cfg2 (tbl m)).N

/-- After the gathering call. -/
def W5 (c : Dev nD) : Valuation τ sig (Elt F) := Function.update (W4 m c) main_v12 (gathered m c)

theorem W5_v12 (c : Dev nD) : W5 m c (Proc.devRef .tc main_v12) = gathered m c := by
  unfold W5; exact Function.update_self _ _ _

/-- What the calls leave. -/
def outs : Outs (F := F) := fun J r c => if J = 2 then W2 m c r else if J = 3 then W3 m c r else W5 m c r

theorem V2_eq (c : Dev nD) : V2 m (outs m) c = W2 m c := by
  show Function.update (V1 m c) main_v5 (W2 m c main_v5) = _
  rw [W2_v5]; rfl

theorem V3_eq (c : Dev nD) : V3 m (outs m) c = W3 m c := by
  have e1 : outs m 3 main_v6_1 c = (dat1 (W2 m) c).arrAt 2 cfg1.N := by
    show W3 m c (Proc.devRef .tc main_v6_1) = _
    unfold W3; exact Function.update_self _ _ _
  have e0 : outs m 3 main_v6_0 c = (dat1 (W2 m) c).arrAt 1 cfg1.N := by
    show W3 m c (Proc.devRef .tc main_v6_0) = _
    unfold W3; rw [Function.update_of_ne (StableHlo.devRef_ne_of_ne (by decide)), Function.update_self]
  unfold V3 W3
  rw [V2_eq, e0, e1]

theorem V4_eq (c : Dev nD) : V4 m (outs m) c = W4 m c := by
  show StableHlo.after hostOps2 (V3 m (outs m) c) = _
  rw [V3_eq]; rfl

theorem outs_5 (r : Ref sig .tc) (c : Dev nD) : outs m 5 r c = W5 m c (Proc.devRef .tc r) := rfl

theorem V5_eq (c : Dev nD) : V5 m (outs m) c = W5 m c := by
  have e : outs m 5 main_v12 c = gathered m c := (outs_5 m main_v12 c).trans (W5_v12 m c)
  unfold V5 W5
  rw [V4_eq, e]

end Cert.KernelIdeal.Own
-- ==== Proof.KernelIdeal.Run.lean ====
/- The run of the whole program: three calls between host operations, every buffer's final contents stated. -/
module

public import proofs.«01_k».proof.Proof.KernelIdeal.Flow
public import Idealize.ShloMosaic.Lib.Pipeline.RegionArraysTS
public import Idealize.ShloMosaic.Lib.Pipeline.RegionArraysS
public import Idealize.ShloMosaic.Lib.StableHlo.RunHlo

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
open Idealize.ShloMosaic.Pipeline (Dat Cfg Window RegionSeg Seg)
variable {F : FTy → Type} [FloatOps F] [Named F]

local notation "𝕄" => MT nD τ sig Unit (Elt F) ℕ (UR sig nD τ) ℕ

variable (m : (ℓ : Loc nD τ sig) → Buf (Elt F) ℓ)

/-- The tables each call is run at: only the gathering call has any. -/
def adm : (p : Fin 3) → (pcfgs (F := F) p).Adm
  | ⟨0, _⟩ => cfg0.toPCfg_adm
  | ⟨1, _⟩ => cfg1.toPCfg_adm
  | ⟨2, _⟩ => tbl m

/-- Each call's proof data, entered at the contents before it. -/
def pdats : (p : Fin 3) → (c : Dev nD) → Dat τ (Elt F) Unit ℕ (UR sig nD τ) ℕ (Pipeline.pin (pcfgs (F := F)) (adm m) p) c
  | ⟨0, _⟩ => dat0 (V1 m)
  | ⟨1, _⟩ => dat1 (W2 m)
  | ⟨2, _⟩ => dat2 (W4 m) (tbl m) (tbl_ok m)

/-- The one level is assigned at the calls' own cells. -/
def lvSet : GSem nD τ sig → Finset Unit := fun g => if g.1.2 = .tc then {()} else ∅

theorem lvSet_off : ∀ g : GSem nD τ sig, g.1.2 ≠ .tc → lvSet g = ∅ := fun _ h => if_neg h

theorem cut (p : Fin 3) : Pipeline.LevelCut (pcfgs (F := F)) (adm m) () lvSet (fun _ _ => 0) p (fun _ : Dev nD => (0 : CellTallies nD τ sig Unit)) (fun _ => 0) where
  hι _ _ _ := by unfold lvSet; rw [if_pos rfl]; exact Finset.mem_singleton_self _
  hιb _ _ _ := le_rfl
  hD _ _ _ h := absurd h (lt_irrefl 0)

/-- What rides along beside the buffers. -/
def side (c : Dev nD) : sProp 𝕄 :=
  iprop((∃ Wd, owes (c : Thread nD τ) (0 : CellTallies nD τ sig Unit) Wd) ∗ emp ∗ (∃ r, prngReg c r))

/-- The correlation call. -/
def reg0 : RegionSeg (pcfgs (F := F)) (adm m) (pdats m) () defs₀ Variants.none lvSet (fun _ _ => 0) 0 :=
  RegionSeg.ofHeldIn (pcfgs (F := F)) (adm m) (pdats m) () defs₀ Variants.none lvSet (fun _ _ => 0) 0 (fun _ => 0)
    (Pipeline.ucRefs τ sig) (fun _ => iprop(emp)) (fun _ => iprop(emp)) launch0 rfl
    (fun c => (obl0 (V1 m) c).loose) (fun _ _ => rfl) (fun _ => rfl) (fun c => (dat0 (V1 m) c).share_full fun _ => rfl)
    (fun c => by
      show _ ⊢ Pipeline.scopedRest spec0 c
      iintro ⟨H, -⟩; iexact H)
    (fun c => (show _ ⊢ Pipeline.scopedRest spec0 c from Phi0_forget (V1 m) c cfg0.N le_rfl).trans (by
      iintro H; isplitl [H]; · iexact H
      iempintro))
    (fun _ => 0) (cut m 0) (fun c => iprop(∃ r, prngReg c r)) (V1 m) (fun c w => dat0_A (V1 m) c w)

/-- The selection call. -/
def reg1 : RegionSeg (pcfgs (F := F)) (adm m) (pdats m) () defs₀ Variants.none lvSet (fun _ _ => 0) 1 :=
  RegionSeg.ofHeldIn (pcfgs (F := F)) (adm m) (pdats m) () defs₀ Variants.none lvSet (fun _ _ => 0) 1 (fun _ => 0)
    (Pipeline.ucRefs τ sig) (fun _ => iprop(emp)) (fun _ => iprop(emp)) launch1 rfl
    (fun c => (obl1 (W2 m) c).loose) (fun _ _ => rfl) (fun _ => rfl) (fun c => (dat1 (W2 m) c).share_full fun _ => rfl)
    (fun c => by
      show _ ⊢ Pipeline.scopedRest spec1 c
      iintro ⟨H, -⟩; iexact H)
    (fun c => (show _ ⊢ Pipeline.scopedRest spec1 c from .rfl).trans (by
      iintro H; isplitl [H]; · iexact H
      iempintro))
    (fun _ => 0) (cut m 1) (fun c => iprop(∃ r, prngReg c r)) (W2 m) (fun c w => dat1_A (W2 m) c w)

/-- The gathering call. -/
def reg2 : RegionSeg (pcfgs (F := F)) (adm m) (pdats m) () defs₀ Variants.none lvSet (fun _ _ => 0) 2 :=
  RegionSeg.ofHeldInT (pcfgs (F := F)) (adm m) (pdats m) () defs₀ Variants.none lvSet (fun _ _ => 0) 2 (fun _ => 0)
    (Pipeline.ucRefs τ sig) (fun _ => iprop(emp)) (fun _ => iprop(emp)) launch2
    (fun c => (obl2 (W4 m) (tbl m) (tbl_ok m) c).loose) (fun _ _ => rfl) (fun _ => rfl) (fun c => (dat2 (W4 m) (tbl m) (tbl_ok m) c).share_full fun _ => rfl)
    (fun c => by
      show _ ⊢ iprop(Pipeline.scopedRest spec2 c ∗ tab2 (tbl m) c)
      iintro ⟨⟨H, -⟩, HT⟩; isplitl [H]; · iexact H
      iexact HT)
    (fun c => (show _ ⊢ iprop(Pipeline.scopedRest spec2 c ∗ tab2 (tbl m) c) from .rfl).trans (by
      iintro ⟨H, HT⟩; isplitl [H]
      · isplitl [H]; · iexact H
        iempintro
      iexact HT))
    (fun _ => 0) (cut m 2) (fun c => iprop(∃ r, prngReg c r)) (W4 m) (fun c w => dat2_A (W4 m) (tbl m) (tbl_ok m) c w)
    (fun c k => by obtain rfl : c = 0 := Subsingleton.elim _ _; rfl)

theorem left0 (V : Vals F) (c : Dev nD) : Pipeline.afterRegion (dat0 V c) (V c) = Function.update (V c) main_v5 ((dat0 V c).arrAt 2 cfg0.N) := by
  funext b
  by_cases hb : b = Proc.devRef .tc main_v5
  · subst hb
    rw [Function.update_self]
    exact Pipeline.afterRegion_arr (dat0 V c) (V c) (launch0 (F := F)).win.arr_inj 2
  · rw [Function.update_of_ne hb]
    by_cases hm : b ∈ Pipeline.arrRefs (τ := τ) spec0
    · obtain ⟨r, hr, rfl⟩ := Finset.mem_map.mp hm
      obtain ⟨w, -, rfl⟩ := Finset.mem_image.mp hr
      refine (Pipeline.afterRegion_arr (dat0 V c) (V c) (launch0 (F := F)).win.arr_inj w).trans ?_
      match w with
      | ⟨0, _⟩ => exact ((dat0 V c).arrAt_in 0 rfl _).trans (dat0_A V c 0)
      | ⟨1, _⟩ => exact ((dat0 V c).arrAt_in 1 rfl _).trans (dat0_A V c 1)
      | ⟨2, _⟩ => exact absurd rfl hb
    · exact Pipeline.afterRegion_off (dat0 V c) (V c) Finset.univ b (Finset.mem_sdiff.mpr ⟨Finset.mem_univ _, hm⟩)

theorem left1 (V : Vals F) (c : Dev nD) : Pipeline.afterRegion (dat1 V c) (V c)
    = Function.update (Function.update (V c) main_v6_0 ((dat1 V c).arrAt 1 cfg1.N)) main_v6_1 ((dat1 V c).arrAt 2 cfg1.N) := by
  funext b
  by_cases hb : b = Proc.devRef .tc main_v6_1
  · subst hb
    rw [Function.update_self]
    exact Pipeline.afterRegion_arr (dat1 V c) (V c) (launch1 (F := F)).win.arr_inj 2
  · rw [Function.update_of_ne hb]
    by_cases hb' : b = Proc.devRef .tc main_v6_0
    · subst hb'
      rw [Function.update_self]
      exact Pipeline.afterRegion_arr (dat1 V c) (V c) (launch1 (F := F)).win.arr_inj 1
    rw [Function.update_of_ne hb']
    by_cases hm : b ∈ Pipeline.arrRefs (τ := τ) spec1
    · obtain ⟨r, hr, rfl⟩ := Finset.mem_map.mp hm
      obtain ⟨w, -, rfl⟩ := Finset.mem_image.mp hr
      refine (Pipeline.afterRegion_arr (dat1 V c) (V c) (launch1 (F := F)).win.arr_inj w).trans ?_
      match w with
      | ⟨0, _⟩ => exact ((dat1 V c).arrAt_in 0 rfl _).trans (dat1_A V c 0)
      | ⟨1, _⟩ => exact absurd rfl hb'
      | ⟨2, _⟩ => exact absurd rfl hb
    · exact Pipeline.afterRegion_off (dat1 V c) (V c) Finset.univ b (Finset.mem_sdiff.mpr ⟨Finset.mem_univ _, hm⟩)

theorem left2 (V : Vals F) (a : (pcfg2 (F := F)).Adm) (hT : TabOk a) (c : Dev nD) (X : Buf (Elt F) ((c : Thread nD τ).loc main_v12)) (hX : (dat2 V a hT c).arrAt 2 (cfg2 a).N = X) : Pipeline.afterRegion (dat2 V a hT c) (V c)
    = Function.update (V c) main_v12 X := by
  funext b
  by_cases hb : b = Proc.devRef .tc main_v12
  · subst hb
    rw [Function.update_self]
    exact (Pipeline.afterRegion_arr (dat2 V a hT c) (V c) (launch2 (F := F)).win.arr_inj 2).trans hX
  · rw [Function.update_of_ne hb]
    by_cases hm : b ∈ Pipeline.arrRefs (τ := τ) spec2
    · obtain ⟨r, hr, rfl⟩ := Finset.mem_map.mp hm
      obtain ⟨w, -, rfl⟩ := Finset.mem_image.mp hr
      refine (Pipeline.afterRegion_arr (dat2 V a hT c) (V c) (launch2 (F := F)).win.arr_inj w).trans ?_
      match w with
      | ⟨0, _⟩ => exact ((dat2 V a hT c).arrAt_in 0 rfl _).trans (dat2_A V a hT c 0)
      | ⟨1, _⟩ => exact ((dat2 V a hT c).arrAt_in 1 rfl _).trans (dat2_A V a hT c 1)
      | ⟨2, _⟩ => exact absurd rfl hb
    · exact Pipeline.afterRegion_off (dat2 V a hT c) (V c) Finset.univ b (Finset.mem_sdiff.mpr ⟨Finset.mem_univ _, hm⟩)

theorem sub0 : Pipeline.arrRefs (τ := τ) spec0 ⊆ Pipeline.ucRefs τ sig := Pipeline.arrRefs_sub_ucRefs spec0 fun w => by fin_cases w <;> rfl
theorem sub1 : Pipeline.arrRefs (τ := τ) spec1 ⊆ Pipeline.ucRefs τ sig := Pipeline.arrRefs_sub_ucRefs spec1 fun w => by fin_cases w <;> rfl
theorem sub2 : Pipeline.arrRefs (τ := τ) spec2 ⊆ Pipeline.ucRefs τ sig := Pipeline.arrRefs_sub_ucRefs spec2 fun w => by fin_cases w <;> rfl
theorem subT : Pipeline.tblRefs (τ := τ) pre2 ⊆ Pipeline.ucRefs τ sig := Pipeline.tblRefs_sub_ucRefs pre2 fun w => by fin_cases w; rfl

theorem in0 (c : Dev nD) : iprop(StableHlo.held (c : Thread nD τ) (Pipeline.ucRefs τ sig) (V1 m c) ∗ side c) ⊢ (reg0 m).pre c := by
  unfold side reg0
  exact RegionSeg.ofHeldIn_pre (p := (0 : Fin 3)) (S := Pipeline.ucRefs τ sig) (pcs := pcfgs (F := F)) (a := adm m) (pdats := pdats m) (ι := ()) (D := fun _ => 0) (X := fun _ => iprop(emp)) (Y := fun _ => iprop(emp)) (R := fun c => iprop(∃ r, prngReg c r)) (W := V1 m) sub0 c

theorem pd0 (c : Dev nD) : pdats m 0 c = dat0 (V1 m) c := rfl

theorem end0 (c : Dev nD) : Pipeline.afterRegion (pdats m 0 c) (V1 m c) = V2 m (outs m) c := by
  refine Eq.trans ?_ (V2_eq m c).symm
  unfold W2
  exact left0 (V1 m) c

theorem out0 (c : Dev nD) : (reg0 m).post c ⊢ iprop(StableHlo.held (c : Thread nD τ) (Pipeline.ucRefs τ sig) (V2 m (outs m) c) ∗ side c) := by
  have e := congrArg (fun V => (iprop(StableHlo.held (c : Thread nD τ) (Pipeline.ucRefs τ sig) V ∗ side c) : sProp 𝕄)) (end0 m c)
  refine BI.Entails.trans ?_ (Entails.of_eq e)
  unfold side reg0
  exact RegionSeg.ofHeldIn_post (p := (0 : Fin 3)) (S := Pipeline.ucRefs τ sig) (pcs := pcfgs (F := F)) (a := adm m) (pdats := pdats m) (ι := ()) (D := fun _ => 0) (X := fun _ => iprop(emp)) (Y := fun _ => iprop(emp)) (R := fun c => iprop(∃ r, prngReg c r)) (W := V1 m) sub0 c

theorem in1 (c : Dev nD) : iprop(StableHlo.held (c : Thread nD τ) (Pipeline.ucRefs τ sig) (V2 m (outs m) c) ∗ side c) ⊢ (reg1 m).pre c := by
  rw [V2_eq]
  unfold side reg1
  exact RegionSeg.ofHeldIn_pre (p := (1 : Fin 3)) (S := Pipeline.ucRefs τ sig) (pcs := pcfgs (F := F)) (a := adm m) (pdats := pdats m) (ι := ()) (D := fun _ => 0) (X := fun _ => iprop(emp)) (Y := fun _ => iprop(emp)) (R := fun c => iprop(∃ r, prngReg c r)) (W := W2 m) sub1 c

theorem pd1 (c : Dev nD) : pdats m 1 c = dat1 (W2 m) c := rfl

theorem end1 (c : Dev nD) : Pipeline.afterRegion (pdats m 1 c) (W2 m c) = V3 m (outs m) c := by
  refine Eq.trans ?_ (V3_eq m c).symm
  unfold W3
  exact left1 (W2 m) c

theorem out1 (c : Dev nD) : (reg1 m).post c ⊢ iprop(StableHlo.held (c : Thread nD τ) (Pipeline.ucRefs τ sig) (V3 m (outs m) c) ∗ side c) := by
  have e := congrArg (fun V => (iprop(StableHlo.held (c : Thread nD τ) (Pipeline.ucRefs τ sig) V ∗ side c) : sProp 𝕄)) (end1 m c)
  refine BI.Entails.trans ?_ (Entails.of_eq e)
  unfold side reg1
  exact RegionSeg.ofHeldIn_post (p := (1 : Fin 3)) (S := Pipeline.ucRefs τ sig) (pcs := pcfgs (F := F)) (a := adm m) (pdats := pdats m) (ι := ()) (D := fun _ => 0) (X := fun _ => iprop(emp)) (Y := fun _ => iprop(emp)) (R := fun c => iprop(∃ r, prngReg c r)) (W := W2 m) sub1 c

theorem in2 (c : Dev nD) : iprop(StableHlo.held (c : Thread nD τ) (Pipeline.ucRefs τ sig) (V4 m (outs m) c) ∗ side c) ⊢ (reg2 m).pre c := by
  rw [V4_eq]
  unfold side reg2
  exact RegionSeg.ofHeldInT_pre (p := (2 : Fin 3)) (S := Pipeline.ucRefs τ sig) (pcs := pcfgs (F := F)) (a := adm m) (pdats := pdats m) (ι := ()) (D := fun _ => 0) (X := fun _ => iprop(emp)) (Y := fun _ => iprop(emp)) (R := fun c => iprop(∃ r, prngReg c r)) (W := W4 m) sub2 subT c

theorem pd2 (c : Dev nD) : pdats m 2 c = dat2 (W4 m) (tbl m) (tbl_ok m) c := rfl

theorem end2 (c : Dev nD) : Pipeline.afterRegion (pdats m 2 c) (W4 m c) = V5 m (outs m) c := by
  refine Eq.trans ?_ (V5_eq m c).symm
  unfold W5
  exact left2 (W4 m) (tbl m) (tbl_ok m) c (gathered m c) rfl

theorem out2 (c : Dev nD) : (reg2 m).post c ⊢ iprop(StableHlo.held (c : Thread nD τ) (Pipeline.ucRefs τ sig) (V5 m (outs m) c) ∗ side c) := by
  have e := congrArg (fun V => (iprop(StableHlo.held (c : Thread nD τ) (Pipeline.ucRefs τ sig) V ∗ side c) : sProp 𝕄)) (end2 m c)
  refine BI.Entails.trans ?_ (Entails.of_eq e)
  unfold side reg2
  exact RegionSeg.ofHeldInT_post (p := (2 : Fin 3)) (S := Pipeline.ucRefs τ sig) (pcs := pcfgs (F := F)) (a := adm m) (pdats := pdats m) (ι := ()) (D := fun _ => 0) (X := fun _ => iprop(emp)) (Y := fun _ => iprop(emp)) (R := fun c => iprop(∃ r, prngReg c r)) (W := W4 m) sub2 subT c

set_option backward.isDefEq.respectTransparency.types false in
/-- Every run ends, with every buffer at its stated contents and every counter at zero. -/
theorem run_all (ρ : Dev nD → PrngReg) :
    θ_run defs (onTc (τ := τ) (main (F := F))) ⟨m, fun _ => 0, ρ⟩ (fun r => (∀ c : Dev nD, ∀ b ∈ Pipeline.ucRefs τ sig,
      r.2.mem ((c : Thread nD τ).1, b) = V6 m (outs m) c b) ∧ r.2.sem = fun _ => 0) := by
  refine Pipeline.θ_run_regions_kit_dev_sems (pcfgs (F := F)) (adm m) (pdats m) () (cellOf_inj (adm m)) emb₁ defs₀ Variants.none lvSet (fun _ _ => (0 : ℕ)) m ρ main
    (segs m (outs m) Variants.none lvSet (fun _ _ => 0) (fun _ c => side c) () (adm m) (pdats m) (reg0 m) (reg1 m) (reg2 m))
    (fun c Q => by
      rewrite [main_chain c, Seg.run_eq_chain,
        show (segs m (outs m) Variants.none lvSet (fun _ _ => 0) (fun _ c => side c) () (adm m) (pdats m) (reg0 m) (reg1 m) (reg2 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (O₀ := 0) lvSet_off
    (G := fun _ => iprop(emp)) (u₀ := Rounds.initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU _ : sProp 𝕄) ⊢ BI.own (emb₁ (Rounds.initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ side c))
    (Tₙ := fun c => StableHlo.held (c : Thread nD τ) (Pipeline.ucRefs τ sig) (V6 m (outs m) c))
    (hch := fun c => ⟨.rfl, in0 m c, (out0 m c).trans (in1 m c), out1 m c, in2 m c, out2 m c, sep_mono .rfl (by
      unfold side
      iintro ⟨HO, -⟩; iexact HO)⟩)
    (hinit := Pipeline.initEach lvSet (fun _ _ => 0) fun c => by
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      unfold side
      iintro ⟨⟨Hh, -, HO, -, Hp, -⟩, -⟩
      imodintro
      isplitl [Hh]; · iexact Hh
      isplitl [HO]; · iexists _; iexact HO
      isplitr; · iempintro
      iexists _; iexact Hp)
    (QY := fun c s => ∀ b ∈ Pipeline.ucRefs τ sig, s.mem ((c : Thread nD τ).1, b) = V6 m (outs m) c b)
    (hfin := fun c s' => by
      unfold StableHlo.held
      iintro ⟨Hh, HSI⟩
      ihave Hr := (pointsTo_read_all (Pipeline.ucRefs τ sig) (fun b => ((c : Thread nD τ).1, b)) (V6 m (outs m) c) s') $$ [Hh HSI]
      · isplitl [Hh] <;> iassumption
      imodintro; iexact Hr)
    (hQ := fun _ h hz => ⟨h, funext fun g => hz g (.inr (regions_no_unscoped g.2))⟩)

/-- What the program leaves in its result. -/
def result (c : Dev nD) : Buf (Elt F) ((c : Thread nD τ).loc main_v13) := V6 m (outs m) c (Proc.devRef .tc main_v13)

/-- Every run ends with the result at its stated contents, the arguments as launched and every counter at zero. -/
theorem run_result (ρ : Dev nD → PrngReg) :
    θ_run defs (onTc (τ := τ) (main (F := F))) ⟨m, fun _ => 0, ρ⟩ (fun r => (∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Idealize.ShloMosaic.θ_run_mono (run_all m ρ) fun r h => ⟨fun c =>
    ⟨h.1 c (Proc.devRef .tc main_v13) (Finset.mem_filter.mpr ⟨StableHlo.devRef_mem_tcRefs main_v13, by decide⟩),
      (h.1 c (Proc.devRef .tc main_arg0) (Finset.mem_filter.mpr ⟨StableHlo.devRef_mem_tcRefs main_arg0, by decide⟩)).trans (V6_main_arg0 m (outs m) c),
      (h.1 c (Proc.devRef .tc main_arg1) (Finset.mem_filter.mpr ⟨StableHlo.devRef_mem_tcRefs main_arg1, by decide⟩)).trans (V6_main_arg1 m (outs m) c),
      (h.1 c (Proc.devRef .tc main_arg2) (Finset.mem_filter.mpr ⟨StableHlo.devRef_mem_tcRefs main_arg2, by decide⟩)).trans (V6_main_arg2 m (outs m) c)⟩, h.2⟩

end Cert.KernelIdeal.Own
-- ==== Proof.Alg.CorrTile.lean ====
/- One grid point of the correlation call over the reals: each block product gains the products of its key rows with the query rows. -/
module

public import proofs.«01_k».proof.Proof.KernelIdeal.CorrVal
public import Idealize.ShloMosaic.Lib.MatmulPlain

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- A real sum, as an extended real one. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- One product of the body, at real operands. -/
theorem prod_real (x y : FVec Ideal S512x768 .bf16) (xr yr : Fin 512 → Fin 768 → ℝ)
    (hx : ∀ r d, x (ix2 r d) = ((xr r d : ℝ) : EReal)) (hy : ∀ r d, y (ix2 r d) = ((yr r d : ℝ) : EReal)) (r c : Fin 512) :
    matmul dot_S512x768_S512x768_S512x512_1_1_0_0_n_n none x y (constant S512x512 .f32 0x00000000#32) (ix2 r c)
      = ((∑ d, xr r d * yr c d : ℝ) : EReal) := by
  have e := Ideal.matmul_transposedRhs_apply (M := 512) (K := 768) (N := 512) none x y (constant S512x512 .f32 0x00000000#32) r c
  refine Eq.trans e ?_
  have hz : (constant S512x512 .f32 0x00000000#32 : FVec Ideal S512x512 .f32) (ix2 r c) = 0 := Ideal.ofBits_zero_f32
  rw [coe_sum]
  refine Eq.trans (congrArg₂ (· + ·) hz (Finset.sum_congr rfl fun d _ => ?_)) (zero_add _)
  rw [hx, hy, EReal.coe_mul]

/-- The query block as a matrix. -/
theorem pay42_apply (q : Vec Ideal S1x1x512x768 .f32) (r : Fin 512) (d : Fin 768) :
    k0_pay42 (View.ld (Val := Elt Ideal) (e' := .f32) q qAll) (ix2 r d) = q (ix4 0 0 r d) := by
  unfold k0_pay42
  show shapeCast S512x768 (View.ld (Val := Elt Ideal) (e' := .f32) q qAll) shapeCasts_S1x1x512x768_S512x768 (ix2 r d) = _
  refine (shapeCast_apply _ shapeCasts_S1x1x512x768_S512x768 (ix2 r d) (ix4 (0 : Fin 1) (0 : Fin 1) r d) (by
    rw [Shape.rowMajor_val_four, Shape.rowMajor_val_two]
    show ((0 * 1 + 0) * 512 + r.val) * 768 + d.val = r.val * 768 + d.val
    omega)).trans ?_
  refine congrArg q (funext fun b => Fin.ext ?_)
  match b with
  | ⟨0, _⟩ => rfl
  | ⟨1, _⟩ => rfl
  | ⟨2, _⟩ => show 0 + 1 * r.val = r.val; omega
  | ⟨3, _⟩ => show 0 + 1 * d.val = d.val; omega

/-- The key rows that meet block product `c` at the point `n` of a batch entry. -/
theorem off1_eq : ∀ n c : Fin 8, (Scalar.indexCast (Scalar.muli (Scalar.remsi (Scalar.addi (Scalar.subi (BitVec.ofNat 32 n.val) (BitVec.ofNat 32 c.val)) 8#32) 8#32) 512#32) : BitVec 32).toNat
    = 512 * ((n.val + 8 - c.val) % 8) := by decide

/-- The key row that row `r` of block product `c` meets at the point `n` of a batch entry. -/
def krow (n : ℕ) (c : Fin 8) (r : Fin 512) : Fin 4096 := ⟨512 * ((n + 8 - c.val) % 8) + r.val, by have := r.isLt; omega⟩

theorem keyRows_emb (i : grid0.Coords) (c : Fin 8) (r : Fin 512) (d : Fin 768) :
    (keyRows i c).emb (ix2 r d) = ix2 (krow (i 1).val c r) d := by
  funext b; apply Fin.ext
  match b with
  | ⟨0, _⟩ =>
    show k0_off1 i (BitVec.ofNat 32 c.val) 0 + 1 * r.val = 512 * (((i 1).val + 8 - c.val) % 8) + r.val
    rw [Nat.one_mul]
    exact congrArg (· + r.val) (off1_eq (i 1) c)
  | ⟨1, _⟩ => show 0 + 1 * d.val = d.val; omega

/-- A grid point's gain, over the reals: the low parts are zero. -/
theorem accNext_real (i : grid0.Coords) (q : Vec Ideal S1x1x512x768 .f32) (kh kl : Vec Ideal S4096x768 .bf16) (a : Vec Ideal S8x512x512 .f32)
    (qr : Fin 512 → Fin 768 → ℝ) (kr : Fin 4096 → Fin 768 → ℝ)
    (hq : ∀ r d, q (ix4 0 0 r d) = ((qr r d : ℝ) : EReal)) (hh : ∀ s d, kh (ix2 s d) = ((kr s d : ℝ) : EReal))
    (hl : ∀ s d, kl (ix2 s d) = ((0 : ℝ) : EReal)) (c : Fin 8) (r x : Fin 512) :
    accNext i q kh kl a (ix3 c r x) = a (ix3 c r x) + ((∑ d, kr (krow (i 1).val c r) d * qr x d : ℝ) : EReal) := by
  have h43 : ∀ r d, k0_pay43 (View.ld (Val := Elt Ideal) (e' := .f32) q qAll) (ix2 r d) = ((qr r d : ℝ) : EReal) :=
    fun r d => (pay42_apply q r d).trans (hq r d)
  have h44 : ∀ r d, k0_pay44 (View.ld (Val := Elt Ideal) (e' := .f32) q qAll) (ix2 r d) = ((0 : ℝ) : EReal) := fun r d => by
    have e : k0_pay44 (View.ld (Val := Elt Ideal) (e' := .f32) q qAll) (ix2 r d)
        = k0_pay42 (View.ld (Val := Elt Ideal) (e' := .f32) q qAll) (ix2 r d) - k0_pay43 (View.ld (Val := Elt Ideal) (e' := .f32) q qAll) (ix2 r d) := rfl
    rw [e, h43, pay42_apply, hq, ← EReal.coe_sub, sub_self]
  have hkh : ∀ r d, View.ld (Val := Elt Ideal) (e' := .bf16) kh (keyRows i c) (ix2 r d) = ((kr (krow (i 1).val c r) d : ℝ) : EReal) :=
    fun r d => (congrArg kh (keyRows_emb i c r d)).trans (hh _ _)
  have hkl : ∀ r d, View.ld (Val := Elt Ideal) (e' := .bf16) kl (keyRows i c) (ix2 r d) = ((0 : ℝ) : EReal) :=
    fun r d => (congrArg kl (keyRows_emb i c r d)).trans (hl _ _)
  have es : (slab c).emb (ix3 (n0 := 1) (n1 := 512) (n2 := 512) 0 r x) = ix3 c r x := by
    funext b; apply Fin.ext
    match b with
    | ⟨0, _⟩ => show c.val + 1 * 0 = c.val; omega
    | ⟨1, _⟩ => show 0 + 1 * r.val = r.val; omega
    | ⟨2, _⟩ => show 0 + 1 * x.val = x.val; omega
  show tile i q kh kl a c (ix3 0 r x) = _
  unfold tile tileOf k0_pay46
  refine (shapeCast_ab_1ab_apply (a := 512) (b := 512) _ _ _ _ _).trans ?_
  refine congrArg₂ (· + ·) ((shapeCast_1ab_ab_apply (a := 512) (b := 512) _ _ _ _).trans (congrArg a es)) ?_
  refine (congrArg₂ (· + ·) (congrArg₂ (· + ·) (prod_real _ _ _ _ hkh h43 r x) (prod_real _ _ _ _ hkh h44 r x)) (prod_real _ _ _ _ hkl h43 r x)).trans ?_
  rw [← EReal.coe_add, ← EReal.coe_add]
  simp

end Cert.Alg

end
-- ==== Proof.Alg.CorrAcc.lean ====
/- What the correlation call's scratch holds after each point over the reals: the block products summed over the query blocks so far. -/
module

public import proofs.«01_k».proof.Proof.KernelIdeal.CorrDat
public import proofs.«01_k».proof.Proof.Alg.CorrTile

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

variable (V : Vals Ideal) (c : Dev nD)

/-- The query block at a point, off the reshaped queries. -/
theorem iblk0_0_apply (t : Fin cfg0.N) (b : Fin 4) (n : Fin 8) (hb : t.val / 8 = b.val) (hn : t.val % 8 = n.val) (r : Fin 512) (d : Fin 768) :
    (iblk0 V c 0 t : S1x1x512x768.Idx → EReal) (ix4 0 0 r d) = (V c (Proc.devRef .tc main_v0) : S4x8x512x768.Idx → EReal) (ix4 b n r d) := by
  unfold iblk0
  rw [View.read_apply]
  have e0 : (grid0.coords t 0).val = t.val / 8 % 4 := Pipeline.Grid.coords_val t 0 (by decide) rfl
  have e1 : (grid0.coords t 1).val = t.val / 1 % 8 := Pipeline.Grid.coords_val t 1 (by decide) rfl
  have hB := b.isLt
  have e : ((cfg0.win 0).blk t).view.emb (ix4 (n0 := 1) (n1 := 1) (n2 := 512) (n3 := 768) 0 0 r d) = ix4 b n r d := by
    funext a; apply Fin.ext
    refine (Pipeline.Window.rect_emb_val (cfg0.win 0) t _ a).trans ?_
    match a with
    | ⟨0, _⟩ => show (BitVec.ofNat 32 (grid0.coords t 0).val).toNat * 1 + 0 = b.val; rw [BitVec.toNat_ofNat]; omega
    | ⟨1, _⟩ => show (BitVec.ofNat 32 (grid0.coords t 1).val).toNat * 1 + 0 = n.val; rw [BitVec.toNat_ofNat]; omega
    | ⟨2, _⟩ => show 0 * 512 + r.val = r.val; omega
    | ⟨3, _⟩ => show 0 * 768 + d.val = d.val; omega
  exact congrArg (V c (Proc.devRef .tc main_v0) : S4x8x512x768.Idx → EReal) e

/-- The keys at a point, off the rearranged keys. -/
theorem iblk0_1_apply (t : Fin cfg0.N) (b : Fin 4) (hb : t.val / 8 = b.val) (s : Fin 4096) (d : Fin 768) :
    (iblk0 V c 1 t : S1x4096x768.Idx → EReal) (ix3 0 s d) = (V c (Proc.devRef .tc main_v4) : S4x4096x768.Idx → EReal) (ix3 b s d) := by
  unfold iblk0
  rw [View.read_apply]
  have e0 : (grid0.coords t 0).val = t.val / 8 % 4 := Pipeline.Grid.coords_val t 0 (by decide) rfl
  have hB := b.isLt
  have e : ((cfg0.win 1).blk t).view.emb (ix3 (n0 := 1) (n1 := 4096) (n2 := 768) 0 s d) = ix3 b s d := by
    funext a; apply Fin.ext
    refine (Pipeline.Window.rect_emb_val (cfg0.win 1) t _ a).trans ?_
    match a with
    | ⟨0, _⟩ => show (BitVec.ofNat 32 (grid0.coords t 0).val).toNat * 1 + 0 = b.val; rw [BitVec.toNat_ofNat]; omega
    | ⟨1, _⟩ => show 0 * 4096 + s.val = s.val; omega
    | ⟨2, _⟩ => show 0 * 768 + d.val = d.val; omega
  exact congrArg (V c (Proc.devRef .tc main_v4) : S4x4096x768.Idx → EReal) e

variable (Q K : Fin 4 → ℕ → Fin 768 → ℝ)

/-- The reshaped queries and the rearranged keys are the reals `Q` and `K`. -/
structure RealIn : Prop where
  q : ∀ b (n : Fin 8) (r : Fin 512) d, (V c (Proc.devRef .tc main_v0) : S4x8x512x768.Idx → EReal) (ix4 b n r d) = ((Q b (512 * n.val + r.val) d : ℝ) : EReal)
  k : ∀ b (s : Fin 4096) d, (V c (Proc.devRef .tc main_v4) : S4x4096x768.Idx → EReal) (ix3 b s d) = ((K b s.val d : ℝ) : EReal)

/-- Block product `c` at (r, x), over the first `n` query blocks. -/
def accR (b : Fin 4) (n : ℕ) (c : Fin 8) (r : Fin 512) (x : ℕ) : ℝ :=
  ∑ i ∈ Finset.range n, ∑ d, K b (krow i c r).val d * Q b (512 * i + x) d

variable {V c Q K}

/-- A real key leaves nothing over. -/
theorem klOf_real (k : Vec Ideal S1x4096x768 .f32) (s : Fin 4096) (d : Fin 768) (v : ℝ) (h : khOf k (ix2 s d) = ((v : ℝ) : EReal)) :
    klOf k (ix2 s d) = ((0 : ℝ) : EReal) := by
  have h' : (k (ix3 0 s d) : EReal) = ((v : ℝ) : EReal) := h
  show (k (ix3 0 s d) : EReal) - (k (ix3 0 s d) : EReal) = _
  rw [h', ← EReal.coe_sub, sub_self]

/-- The scratch after a batch entry's point `n`. -/
theorem scrAt_real (H : RealIn V c Q K) (b : Fin 4) : ∀ (n : ℕ) (hn : n < 8) (h : 8 * b.val + n < cfg0.N),
    (∀ cc r x, (scrAt V c (8 * b.val + n) h).acc (ix3 cc r x) = ((accR Q K b (n + 1) cc r x.val : ℝ) : EReal))
    ∧ (∀ s d, (scrAt V c (8 * b.val + n) h).kh (ix2 s d) = ((K b s.val d : ℝ) : EReal))
    ∧ (∀ s d, (scrAt V c (8 * b.val + n) h).kl (ix2 s d) = ((0 : ℝ) : EReal)) := by
  intro n
  induction n with
  | zero =>
    intro hn h
    have hd : (8 * b.val + 0) / 8 = b.val := by omega
    have hm : (8 * b.val + 0) % 8 = 0 := by omega
    have e1 : (grid0.coords ⟨8 * b.val + 0, h⟩ 1).val = (8 * b.val + 0) / 1 % 8 := Pipeline.Grid.coords_val ⟨8 * b.val + 0, h⟩ 1 (by decide) rfl
    rw [scrAt_first V c ⟨8 * b.val + 0, h⟩ hm]
    have hkh : ∀ s d, khOf (iblk0 V c 1 ⟨8 * b.val + 0, h⟩) (ix2 s d) = ((K b s.val d : ℝ) : EReal) :=
      fun s d => (iblk0_1_apply V c ⟨8 * b.val + 0, h⟩ b hd s d).trans (H.k b s d)
    have hkl : ∀ s d, klOf (iblk0 V c 1 ⟨8 * b.val + 0, h⟩) (ix2 s d) = ((0 : ℝ) : EReal) := fun s d =>
      klOf_real _ s d _ (hkh s d)
    refine ⟨fun cc r x => ?_, hkh, hkl⟩
    refine (accNext_real (grid0.coords ⟨8 * b.val + 0, h⟩) _ _ _ _ (fun r d => Q b r.val d) (fun s d => K b s.val d) (fun r d => ?_) hkh hkl cc r x).trans ?_
    · refine (iblk0_0_apply V c ⟨8 * b.val + 0, h⟩ b 0 hd hm r d).trans ((H.q b 0 r d).trans ?_)
      norm_num
    · have hz : (k0_pay3 : FVec Ideal S8x512x512 .f32) (ix3 cc r x) = 0 := Ideal.ofBits_zero_f32
      rw [hz, zero_add, e1]
      unfold accR
      rw [Finset.sum_range_one]
      norm_num [hm]
  | succ n ih =>
    intro hn h
    obtain ⟨i1, i2, i3⟩ := ih (by omega) (Nat.lt_of_succ_lt h)
    have hd : (8 * b.val + (n + 1)) / 8 = b.val := by omega
    have hm : (8 * b.val + (n + 1)) % 8 = n + 1 := by omega
    have e1 : (grid0.coords ⟨8 * b.val + (n + 1), h⟩ 1).val = (8 * b.val + (n + 1)) / 1 % 8 := Pipeline.Grid.coords_val ⟨8 * b.val + (n + 1), h⟩ 1 (by decide) rfl
    rw [scrAt_next V c ⟨8 * b.val + (n + 1), h⟩ (by show ¬(8 * b.val + (n + 1)) % 8 = 0; omega)]
    refine ⟨fun cc r x => ?_, i2, i3⟩
    refine (accNext_real (grid0.coords ⟨8 * b.val + (n + 1), h⟩) _ _ _ _ (fun r d => Q b (512 * (n + 1) + r.val) d) (fun s d => K b s.val d) (fun r d => ?_) i2 i3 cc r x).trans ?_
    · exact (iblk0_0_apply V c ⟨8 * b.val + (n + 1), h⟩ b ⟨n + 1, hn⟩ hd hm r d).trans (H.q b ⟨n + 1, hn⟩ r d)
    · refine (congrArg (· + _) (i1 cc r x)).trans ?_
      rw [← EReal.coe_add, e1, Nat.div_one, hm]
      unfold accR
      rw [Finset.sum_range_succ _ (n + 1)]

end Cert.Alg

end
-- ==== Proof.Alg.CorrDiag.lean ====
/- The diagonal sums of the block products over the reals, and the correlation call's result. -/
module

public import proofs.«01_k».proof.Proof.Alg.CorrAcc
public import Idealize.ShloMosaic.Lib.Pipeline.ValueKit.Geometry

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- Row `r` turned `r` places on, at (r, x). -/
theorem rot_apply (y : S512x1024.Idx → EReal) (r : Fin 512) (x : Fin 1024) :
    dynamicRotate 1 0#32 (some (1, 0)) y rotates_S512x1024_d1s1a0 (ix2 r x)
      = y (ix2 r (⟨(x.val + 1024 - (0 + 1 * r.val) % 1024) % 1024, Nat.mod_lt _ (by decide)⟩ : Fin 1024)) := by
  unfold dynamicRotate
  refine congrArg y (funext fun b => Fin.ext ?_)
  match b with
  | ⟨0, _⟩ => rfl
  | ⟨1, _⟩ => rfl

/-- A block product turned so that its diagonals stand in columns, at (r, x). -/
theorem turn_apply (v : FVec Ideal S512x512 .f32) (r : Fin 512) (x : Fin 1024) (f : Fin 512 → ℕ → ℝ)
    (hv : ∀ r x : Fin 512, v (ix2 r x) = ((f r x.val : ℝ) : EReal)) :
    dynamicRotate 1 0#32 (some (1, 0)) (concatenate S512x1024 1 [⟨S512x512, v⟩, ⟨S512x512, k0_pay26 (F := Ideal)⟩] concatenates_S512x512_S512x512_S512x1024_d1) rotates_S512x1024_d1s1a0 (ix2 r x)
      = (((if r.val ≤ x.val ∧ x.val - r.val < 512 then f r (x.val - r.val) else 0) : ℝ) : EReal) := by
  have hr := r.isLt
  have hx := x.isLt
  have e : dynamicRotate 1 0#32 (some (1, 0)) (concatenate S512x1024 1 [⟨S512x512, v⟩, ⟨S512x512, k0_pay26 (F := Ideal)⟩] concatenates_S512x512_S512x512_S512x1024_d1) rotates_S512x1024_d1s1a0 (ix2 r x)
      = concatenate S512x1024 1 [⟨S512x512, v⟩, ⟨S512x512, k0_pay26 (F := Ideal)⟩] concatenates_S512x512_S512x512_S512x1024_d1
          (ix2 r (⟨(x.val + 1024 - (0 + 1 * r.val) % 1024) % 1024, Nat.mod_lt _ (by decide)⟩ : Fin 1024)) := by
    exact rot_apply _ r x
  rw [e]
  have hmod : (0 + 1 * r.val) % 1024 = r.val := by omega
  by_cases h : r.val ≤ x.val ∧ x.val - r.val < 512
  · rw [if_pos h]
    refine (concatenate_pair_apply_left (t := S512x1024) (s₁ := S512x512) (s₂ := S512x512) 1 v (k0_pay26 (F := Ideal)) concatenates_S512x512_S512x512_S512x1024_d1 _ rfl (ix2 r (⟨x.val - r.val, h.2⟩ : Fin 512)) fun b => ?_).trans (hv r ⟨x.val - r.val, h.2⟩)
    match b with
    | ⟨0, _⟩ => rfl
    | ⟨1, _⟩ => show x.val - r.val = (x.val + 1024 - (0 + 1 * r.val) % 1024) % 1024; rw [hmod]; omega
  · rw [if_neg h]
    have h2 : 512 ≤ (x.val + 1024 - (0 + 1 * r.val) % 1024) % 1024 := by rw [hmod]; omega
    have h3 : (x.val + 1024 - (0 + 1 * r.val) % 1024) % 1024 < 1024 := Nat.mod_lt _ (by decide)
    refine (concatenate_pair_apply_right (t := S512x1024) (s₁ := S512x512) (s₂ := S512x512) 1 v (k0_pay26 (F := Ideal)) concatenates_S512x512_S512x512_S512x1024_d1 _ rfl rfl (ix2 r (⟨(x.val + 1024 - (0 + 1 * r.val) % 1024) % 1024 - 512, by omega⟩ : Fin 512)) (fun b hb => ?_) ?_).trans ?_
    · match b with
      | ⟨0, _⟩ => rfl
      | ⟨1, _⟩ => exact absurd rfl hb
    · show (x.val + 1024 - (0 + 1 * r.val) % 1024) % 1024 - 512 + 512 = (x.val + 1024 - (0 + 1 * r.val) % 1024) % 1024
      omega
    · exact Ideal.ofBits_zero_f32

/-- The sum of a block's diagonal `x`. -/
def diagR (f : Fin 512 → ℕ → ℝ) (x : ℕ) : ℝ := ∑ r : Fin 512, if r.val ≤ x ∧ x - r.val < 512 then f r (x - r.val) else 0

theorem pay27_real (v : Vec Ideal S1x512x512 .f32) (f : Fin 512 → ℕ → ℝ)
    (hv : ∀ r x : Fin 512, v (ix3 0 r x) = ((f r x.val : ℝ) : EReal)) (x : Fin 1024) :
    k0_pay27 v (ix2 0 x) = ((diagR f x.val : ℝ) : EReal) := by
  unfold k0_pay27 diagR
  refine (shapeCast_a_1a_apply (a := 1024) _ _ _ _).trans ?_
  refine (Ideal.multiReduction_add_single (s := S512x1024) (t := S1024) (a := 0) _ _ reduces_S512x1024_S1024 (.inl rfl) rfl (ix1 x)).trans ?_
  rw [coe_sum]
  refine Finset.sum_congr rfl fun r _ => ?_
  have el : reduces_S512x1024_S1024.lift (ix1 x) r = ix2 (n0 := 512) (n1 := 1024) r x := by
    funext b; apply Fin.ext
    match b with
    | ⟨0, _⟩ => rfl
    | ⟨1, _⟩ => rfl
  rw [el]
  exact turn_apply _ r x f fun r x => (shapeCast_1ab_ab_apply (a := 512) (b := 512) v _ r x).trans (hv r x)

/-- The eight rows of diagonal sums. -/
theorem diagOf_real (a : Vec Ideal S8x512x512 .f32) (f : Fin 8 → Fin 512 → ℕ → ℝ)
    (ha : ∀ c, ∀ r x : Fin 512, a (ix3 c r x) = ((f c r x.val : ℝ) : EReal)) (c : Fin 8) (x : Fin 1024) :
    diagOf a (ix3 0 c x) = ((diagR (f c) x.val : ℝ) : EReal) := by
  have e : diagOf a = shapeCast S1x8x1024 (concatenate S8x1024 0 (List.ofFn fun c : Fin 8 => (⟨S1x1024, k0_pay27 (View.ld (Val := Elt Ideal) (e' := .f32) a (slab c))⟩ : (s : Shape) × (s.Idx → Elt Ideal .f32)))
      concatenates_S1x1024_S1x1024_S1x1024_S1x1024_S1x1024_S1x1024_S1x1024_S1x1024_S8x1024_d0) shapeCasts_S8x1024_S1x8x1024 := rfl
  rw [e]
  refine (shapeCast_ab_1ab_apply (a := 8) (b := 1024) _ _ _ _ _).trans ?_
  refine (concatenate_ofFn_unit_apply (t := S8x1024) (s₁ := S1x1024) 0 (N := 8) (fun c : Fin 8 => k0_pay27 (View.ld (Val := Elt Ideal) (e' := .f32) a (slab c))) _ rfl rfl (ix2 c x) c rfl
    (ix2 (0 : Fin 1) x) fun b hb => ?_).trans ?_
  · match b with
    | ⟨0, _⟩ => exact absurd rfl hb
    | ⟨1, _⟩ => rfl
  · refine pay27_real _ (f c) (fun r x => ?_) x
    refine Eq.trans (congrArg a ?_) (ha c r x)
    funext b; apply Fin.ext
    match b with
    | ⟨0, _⟩ => show c.val + 1 * 0 = c.val; omega
    | ⟨1, _⟩ => show 0 + 1 * r.val = r.val; omega
    | ⟨2, _⟩ => show 0 + 1 * x.val = x.val; omega

variable {V : Vals Ideal} {c : Dev nD} {Q K : Fin 4 → ℕ → Fin 768 → ℝ}

/-- The correlation call's result. -/
theorem arr0_real (H : RealIn V c Q K) (b : Fin 4) (cc : Fin 8) (x : Fin 1024) :
    ((dat0 V c).arrAt 2 cfg0.N : S4x8x1024.Idx → EReal) (ix3 b cc x) = ((diagR (accR Q K b 8 cc) x.val : ℝ) : EReal) := by
  have hN : cfg0.N = 32 := N_0
  let G : S4x8x1024.Idx → EReal := fun y => ((diagR (accR Q K (y 0) 8 (y 1)) (y 2).val : ℝ) : EReal)
  have hemb : ∀ (t : Fin cfg0.N) (y : S1x8x1024.Idx) (b : Fin 4), t.val / 8 = b.val →
      ((cfg0.win 2).blk t).view.emb y = ix3 b (y 1) (y 2) := fun t y b hb => by
    have e0 : (grid0.coords t 0).val = t.val / 8 % 4 := Pipeline.Grid.coords_val t 0 (by decide) rfl
    have h0 : (y 0).val < 1 := (y 0).isLt
    have hB := b.isLt
    funext a; apply Fin.ext
    refine (Pipeline.Window.rect_emb_val (cfg0.win 2) t _ a).trans ?_
    match a with
    | ⟨0, _⟩ => show (BitVec.ofNat 32 (grid0.coords t 0).val).toNat * 1 + (y 0).val = b.val; rw [BitVec.toNat_ofNat]; omega
    | ⟨1, _⟩ => show 0 * 8 + (y 1).val = (y 1).val; omega
    | ⟨2, _⟩ => show 0 * 1024 + (y 2).val = (y 2).val; omega
  have key : (dat0 V c).arrAt 2 cfg0.N = G := by
    refine (dat0 V c).arrAt_eq_of_emb 2 G (fun t hf y => ?_) fun i => ?_
    · have ht : t.val % 8 = 7 := (flush0_2 t).mp hf
      have hlt : t.val < 32 := Nat.lt_of_lt_of_eq t.isLt hN
      have hb : t.val / 8 < 4 := by omega
      rw [hemb t y ⟨t.val / 8, hb⟩ rfl, after0_2]
      have e8 : t.val = 8 * (⟨t.val / 8, hb⟩ : Fin 4).val + 7 := by show t.val = 8 * (t.val / 8) + 7; omega
      have hs := (scrAt_real H ⟨t.val / 8, hb⟩ 7 (by decide) (e8 ▸ t.isLt)).1
      have es : scrAt V c t.val t.isLt = scrAt V c (8 * (⟨t.val / 8, hb⟩ : Fin 4).val + 7) (e8 ▸ t.isLt) := by congr 1
      have hy : (y : S1x8x1024.Idx) = ix3 (n0 := 1) (n1 := 8) (n2 := 1024) 0 (y 1) (y 2) := by
        funext a; apply Fin.ext
        match a with
        | ⟨0, _⟩ => have h0 : (y 0).val < 1 := (y 0).isLt; show (y 0).val = 0; omega
        | ⟨1, _⟩ => rfl
        | ⟨2, _⟩ => rfl
      show diagOf (scrAt V c t.val t.isLt).acc y = _
      rw [es]
      refine (congrArg (diagOf _) hy).trans ?_
      exact diagOf_real _ (accR Q K ⟨t.val / 8, hb⟩ 8) hs (y 1) (y 2)
    · have hm : ∀ (t : Fin cfg0.N) y, ((cfg0.win 2).blk t).view.emb y = i → i ∈ ((cfg0.win 2).blk t).view.set :=
        fun t y h => by rw [← h]; exact View.emb_mem_set _ _
      have h0 : (i 0).val < 4 := (i 0).isLt
      refine ⟨⟨8 * (i 0).val + 7, by rw [hN]; omega⟩, (flush0_2 _).mpr (by show (8 * (i 0).val + 7) % 8 = 7; omega), ?_⟩
      have e := hemb ⟨8 * (i 0).val + 7, by rw [hN]; omega⟩ (ix3 (n0 := 1) (n1 := 8) (n2 := 1024) 0 (i 1) (i 2)) (i 0) (by show (8 * (i 0).val + 7) / 8 = _; omega)
      have e' : i = ix3 (n0 := 4) (n1 := 8) (n2 := 1024) (i 0) (i 1) (i 2) := eq_ix3 i
      exact hm _ _ (e.trans e'.symm)
  exact congrFun key (ix3 b cc x)

end Cert.Alg

end
-- ==== Proof.Alg.CorrSum.lean ====
/- The diagonal sums put together: what the selection call reads is the circular correlation of queries and keys. -/
module

public import proofs.«01_k».proof.Proof.Alg.CorrDiag
public import proofs.«01_k».proof.Proof.KernelIdeal.SelVal

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- The circular correlation of batch entry `b` at delay `n`: positions and channels summed. -/
def corrR (Q K : Fin 4 → ℕ → Fin 768 → ℝ) (b : Fin 4) (n : ℕ) : ℝ :=
  ∑ p : Fin 4096, ∑ d, K b p.val d * Q b ((p.val + n) % 4096) d

/-- The keys with each block of 512 rows backwards. -/
def backK (K : Fin 4 → ℕ → Fin 768 → ℝ) : Fin 4 → ℕ → Fin 768 → ℝ := fun b p d => K b (512 * (p / 512) + (511 - p % 512)) d

/-- A sum over positions, by row and block, the rows backwards. -/
theorem sum_rows (f : ℕ → ℝ) : ∑ p : Fin 4096, f p.val = ∑ r : Fin 512, ∑ j ∈ Finset.range 8, f (512 * j + (511 - r.val)) := by
  rw [← Equiv.sum_comp (finProdFinEquiv : Fin 8 × Fin 512 ≃ Fin (8 * 512)) (fun p : Fin 4096 => f p.val), Fintype.sum_prod_type, Finset.sum_comm,
    ← Equiv.sum_comp Fin.revPerm]
  refine Finset.sum_congr rfl fun r _ => ?_
  rw [Finset.sum_range]
  refine Finset.sum_congr rfl fun j _ => congrArg f ?_
  show (Fin.rev r).val + 512 * j.val = 512 * j.val + (511 - r.val)
  rw [Fin.val_rev]
  omega

/-- Turning the blocks by `c`. -/
theorem sum_turn (g : ℕ → ℕ → ℝ) (c : Fin 8) :
    ∑ i ∈ Finset.range 8, g ((i + 8 - c.val) % 8) i = ∑ j ∈ Finset.range 8, g j ((j + c.val) % 8) := by
  fin_cases c <;> simp [Finset.sum_range_succ] <;> ring

variable (Q K : Fin 4 → ℕ → Fin 768 → ℝ) (b : Fin 4)

/-- A block product at (r, x), by the keys' blocks. -/
theorem accR_turn (c : Fin 8) (r : Fin 512) (x : ℕ) :
    accR Q (backK K) b 8 c r x = ∑ j ∈ Finset.range 8, ∑ d, K b (512 * j + (511 - r.val)) d * Q b (512 * ((j + c.val) % 8) + x) d := by
  refine Eq.trans ?_ (sum_turn (fun j i => ∑ d, K b (512 * j + (511 - r.val)) d * Q b (512 * i + x) d) c)
  unfold accR
  refine Finset.sum_congr rfl fun i _ => Finset.sum_congr rfl fun d _ => ?_
  have hr := r.isLt
  have e : 512 * ((512 * ((i + 8 - c.val) % 8) + r.val) / 512) + (511 - (512 * ((i + 8 - c.val) % 8) + r.val) % 512)
      = 512 * ((i + 8 - c.val) % 8) + (511 - r.val) := by omega
  show K b (512 * ((512 * ((i + 8 - c.val) % 8) + r.val) / 512) + (511 - (512 * ((i + 8 - c.val) % 8) + r.val) % 512)) d * _ = _
  rw [e]

/-- The block after `c`. -/
def nextRow (c : Fin 8) : Fin 8 := ⟨(c.val + 1) % 8, Nat.mod_lt _ (by decide)⟩

/-- The two diagonals that make up a delay. -/
theorem diag_pair (c : Fin 8) (s : Fin 512) :
    diagR (accR Q (backK K) b 8 c) (511 + s.val) + diagR (accR Q (backK K) b 8 (nextRow c)) (if s.val = 0 then 1023 else s.val - 1)
      = corrR Q K b (512 * c.val + s.val) := by
  have hs := s.isLt
  unfold diagR corrR
  rw [sum_rows (fun p => ∑ d, K b p d * Q b ((p + (512 * c.val + s.val)) % 4096) d), ← Finset.sum_add_distrib]
  refine Finset.sum_congr rfl fun r _ => ?_
  have hr := r.isLt
  have hc := c.isLt
  by_cases h : s.val ≤ r.val
  · rw [if_pos (by omega), if_neg (by split_ifs <;> omega), add_zero, accR_turn]
    refine Finset.sum_congr rfl fun j hj => Finset.sum_congr rfl fun d _ => ?_
    have hj := Finset.mem_range.mp hj
    have e : (512 * j + (511 - r.val) + (512 * c.val + s.val)) % 4096 = 512 * ((j + c.val) % 8) + (511 + s.val - r.val) := by omega
    rw [e]
  · rw [if_neg (by omega), if_neg (show ¬s.val = 0 by omega), if_pos (by omega), zero_add, accR_turn]
    refine Finset.sum_congr rfl fun j hj => Finset.sum_congr rfl fun d _ => ?_
    have hj := Finset.mem_range.mp hj
    have e : (512 * j + (511 - r.val) + (512 * c.val + s.val)) % 4096 = 512 * ((j + (c.val + 1) % 8) % 8) + (s.val - 1 - r.val) := by omega
    rw [e]
    rfl

/-- What the selection call reads as a batch entry's correlation. -/
theorem corrOf_apply (X : Vec Ideal S4x8x1024 .f32) (b : Fin 4) (r : Fin 8) (s : Fin 512) :
    corrOf X b (ix2 r s) = (X (ix3 b r ⟨511 + s.val, by have := s.isLt; omega⟩) : EReal)
      + X (ix3 b (nextRow r) ⟨if s.val = 0 then 1023 else s.val - 1, by have := s.isLt; split_ifs <;> omega⟩) := by
  have hs := s.isLt
  have hr := r.isLt
  let v1 : S8x1024.Idx → EReal := shapeCast S8x1024 (View.ld (Val := Elt Ideal) (e' := .f32) X (Rect.unit (s := S4x8x1024) ![b.val, 0, 0] S1x8x1024.size (inb_slab b))) shapeCasts_S1x8x1024_S8x1024
  have hv : ∀ (r : Fin 8) (x : Fin 1024), v1 (ix2 r x) = X (ix3 b r x) := fun r x => by
    refine (shapeCast_1ab_ab_apply (a := 8) (b := 1024) _ _ r x).trans (congrArg X ?_)
    funext a; apply Fin.ext
    match a with
    | ⟨0, _⟩ => show b.val + 1 * 0 = b.val; omega
    | ⟨1, _⟩ => show 0 + 1 * r.val = r.val; omega
    | ⟨2, _⟩ => show 0 + 1 * x.val = x.val; omega
  let v5 : S8x1024.Idx → EReal := concatenate S8x1024 0 [⟨S7x1024, extractStridedSlice S7x1024 ![1, 0] v1 slices_S8x1024_o1_0_S7x1024⟩, ⟨S1x1024, extractStridedSlice S1x1024 ![0, 0] v1 slices_S8x1024_o0_0_S1x1024⟩] concatenates_S7x1024_S1x1024_S8x1024_d0
  have h5 : ∀ (r : Fin 8) (x : Fin 1024), v5 (ix2 r x) = X (ix3 b (nextRow r) x) := fun r x => by
    have hr := r.isLt
    refine Eq.trans ?_ (hv (nextRow r) x)
    by_cases h : r.val < 7
    · refine (concatenate_pair_apply_left (t := S8x1024) (s₁ := S7x1024) (s₂ := S1x1024) 0 _ _ concatenates_S7x1024_S1x1024_S8x1024_d0 _ rfl (ix2 (⟨r.val, h⟩ : Fin 7) x) fun a => ?_).trans ?_
      · match a with
        | ⟨0, _⟩ => rfl
        | ⟨1, _⟩ => rfl
      · refine extractStridedSlice_apply _ v1 slices_S8x1024_o1_0_S7x1024 _ _ fun a => ?_
        match a with
        | ⟨0, _⟩ => show (r.val + 1) % 8 = 1 + r.val; omega
        | ⟨1, _⟩ => show x.val = 0 + x.val; omega
    · refine (concatenate_pair_apply_right (t := S8x1024) (s₁ := S7x1024) (s₂ := S1x1024) 0 _ _ concatenates_S7x1024_S1x1024_S8x1024_d0 _ rfl rfl (ix2 (0 : Fin 1) x) (fun a ha => ?_) ?_).trans ?_
      · match a with
        | ⟨0, _⟩ => exact absurd rfl ha
        | ⟨1, _⟩ => rfl
      · show 0 + 7 = r.val; omega
      · refine extractStridedSlice_apply _ v1 slices_S8x1024_o0_0_S1x1024 _ _ fun a => ?_
        match a with
        | ⟨0, _⟩ => show (r.val + 1) % 8 = 0 + 0; omega
        | ⟨1, _⟩ => show x.val = 0 + x.val; omega
  show extractStridedSlice S8x512 ![0, 511] v1 slices_S8x1024_o0_511_S8x512 (ix2 r s)
    + concatenate S8x512 1 [⟨S8x1, extractStridedSlice S8x1 ![0, 1023] v5 slices_S8x1024_o0_1023_S8x1⟩, ⟨S8x511, extractStridedSlice S8x511 ![0, 0] v5 slices_S8x1024_o0_0_S8x511⟩] concatenates_S8x1_S8x511_S8x512_d1 (ix2 r s) = _
  refine congrArg₂ (· + ·) ?_ ?_
  · rw [← hv]
    refine extractStridedSlice_apply _ v1 slices_S8x1024_o0_511_S8x512 _ _ fun a => ?_
    match a with
    | ⟨0, _⟩ => show r.val = 0 + r.val; omega
    | ⟨1, _⟩ => rfl
  · rw [← h5]
    by_cases h : s.val = 0
    · refine (concatenate_pair_apply_left (t := S8x512) (s₁ := S8x1) (s₂ := S8x511) 1 _ _ concatenates_S8x1_S8x511_S8x512_d1 _ rfl (ix2 r (0 : Fin 1)) fun a => ?_).trans ?_
      · match a with
        | ⟨0, _⟩ => rfl
        | ⟨1, _⟩ => exact h.symm
      · refine extractStridedSlice_apply _ v5 slices_S8x1024_o0_1023_S8x1 _ _ fun a => ?_
        match a with
        | ⟨0, _⟩ => show r.val = 0 + r.val; omega
        | ⟨1, _⟩ => show (if s.val = 0 then 1023 else s.val - 1) = 1023 + 0; rw [if_pos h]
    · refine (concatenate_pair_apply_right (t := S8x512) (s₁ := S8x1) (s₂ := S8x511) 1 _ _ concatenates_S8x1_S8x511_S8x512_d1 _ rfl rfl (ix2 r (⟨s.val - 1, by omega⟩ : Fin 511)) (fun a ha => ?_) ?_).trans ?_
      · match a with
        | ⟨0, _⟩ => rfl
        | ⟨1, _⟩ => exact absurd rfl ha
      · show s.val - 1 + 1 = s.val; omega
      · refine extractStridedSlice_apply _ v5 slices_S8x1024_o0_0_S8x511 _ _ fun a => ?_
        match a with
        | ⟨0, _⟩ => show r.val = 0 + r.val; omega
        | ⟨1, _⟩ => show (if s.val = 0 then 1023 else s.val - 1) = 0 + (s.val - 1); rw [if_neg h]; omega

/-- The selection call reads the circular correlation. -/
theorem corrOf_real (X : Vec Ideal S4x8x1024 .f32)
    (hX : ∀ b c (x : Fin 1024), X (ix3 b c x) = ((diagR (accR Q (backK K) b 8 c) x.val : ℝ) : EReal)) (b : Fin 4) (r : Fin 8) (s : Fin 512) :
    corrOf X b (ix2 r s) = ((corrR Q K b (512 * r.val + s.val) : ℝ) : EReal) := by
  rw [corrOf_apply, hX, hX, ← EReal.coe_add]
  exact congrArg _ (diag_pair Q K b r s)

end Cert.Alg

end
-- ==== Proof.Alg.CorrIn.lean ====
/- The correlation call's operands: the queries cut into blocks, and the keys with each block of rows backwards. -/
module

public import proofs.«01_k».proof.Proof.Alg.CorrSum
public import proofs.«01_k».proof.Proof.KernelIdeal.Flow

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- An input of the kernel by batch entry, position and flat channel. -/
def flatR (x : S4x4096x12x64.Idx → ℝ) (b : Fin 4) (p : ℕ) (d : Fin 768) : ℝ :=
  x (ix4 b (⟨p % 4096, Nat.mod_lt _ (by decide)⟩ : Fin 4096) (⟨d.val / 64, by have := d.isLt; omega⟩ : Fin 12) (⟨d.val % 64, Nat.mod_lt _ (by decide)⟩ : Fin 64))

theorem host0_v0 (V : Valuation τ sig (Elt Ideal)) :
    StableHlo.after hostOps0 V (Proc.devRef .tc main_v0) = shapeCast S4x8x512x768 (V (Proc.devRef .tc main_arg0)) shapeCasts_S4x4096x12x64_S4x8x512x768 := by
  after_results
  rfl

theorem host0_v4 (V : Valuation τ sig (Elt Ideal)) :
    StableHlo.after hostOps0 V (Proc.devRef .tc main_v4)
      = shapeCast S4x4096x768 (Host.reverse [2] (shapeCast S4x8x512x768 (shapeCast S4x4096x768 (V (Proc.devRef .tc main_arg1)) shapeCasts_S4x4096x12x64_S4x4096x768) shapeCasts_S4x4096x768_S4x8x512x768)) shapeCasts_S4x8x512x768_S4x4096x768 := by
  after_results
  rfl

/-- The queries cut into blocks. -/
theorem cut_apply (x : S4x4096x12x64.Idx → EReal) (b : Fin 4) (n : Fin 8) (r : Fin 512) (d : Fin 768) :
    shapeCast S4x8x512x768 x shapeCasts_S4x4096x12x64_S4x8x512x768 (ix4 b n r d)
      = x (ix4 b (⟨(512 * n.val + r.val) % 4096, Nat.mod_lt _ (by decide)⟩ : Fin 4096) (⟨d.val / 64, by have := d.isLt; omega⟩ : Fin 12) (⟨d.val % 64, Nat.mod_lt _ (by decide)⟩ : Fin 64)) := by
  have hn := n.isLt
  have hr := r.isLt
  refine shapeCast_apply x shapeCasts_S4x4096x12x64_S4x8x512x768 _ _ ?_
  rw [Shape.rowMajor_val_four, Shape.rowMajor_val_four]
  show ((b.val * 4096 + (512 * n.val + r.val) % 4096) * 12 + d.val / 64) * 64 + d.val % 64 = ((b.val * 8 + n.val) * 512 + r.val) * 768 + d.val
  omega

/-- Rows within a block read backwards. -/
theorem rev_apply (y : S4x8x512x768.Idx → EReal) (b : Fin 4) (n : Fin 8) (r : Fin 512) (d : Fin 768) :
    Host.reverse [2] y (ix4 b n r d) = y (ix4 b n r.rev d) := by
  unfold Host.reverse
  refine congrArg y (funext fun a => Fin.ext ?_)
  match a with
  | ⟨0, _⟩ => rfl
  | ⟨1, _⟩ => rfl
  | ⟨2, _⟩ => rfl
  | ⟨3, _⟩ => rfl

/-- The keys with each block of rows backwards. -/
theorem back_apply (x : S4x4096x12x64.Idx → EReal) (b : Fin 4) (s : Fin 4096) (d : Fin 768) :
    shapeCast S4x4096x768 (Host.reverse [2] (shapeCast S4x8x512x768 (shapeCast S4x4096x768 x shapeCasts_S4x4096x12x64_S4x4096x768) shapeCasts_S4x4096x768_S4x8x512x768)) shapeCasts_S4x8x512x768_S4x4096x768 (ix3 b s d)
      = x (ix4 b (⟨(512 * (s.val / 512) + (511 - s.val % 512)) % 4096, Nat.mod_lt _ (by decide)⟩ : Fin 4096) (⟨d.val / 64, by have := d.isLt; omega⟩ : Fin 12) (⟨d.val % 64, Nat.mod_lt _ (by decide)⟩ : Fin 64)) := by
  have hs := s.isLt
  refine (shapeCast_apply _ shapeCasts_S4x8x512x768_S4x4096x768 _ (ix4 b (⟨s.val / 512, by omega⟩ : Fin 8) (⟨s.val % 512, Nat.mod_lt _ (by decide)⟩ : Fin 512) d) ?_).trans ?_
  · rw [Shape.rowMajor_val_four, Shape.rowMajor_val_three]
    show ((b.val * 8 + s.val / 512) * 512 + s.val % 512) * 768 + d.val = (b.val * 4096 + s.val) * 768 + d.val
    omega
  rw [rev_apply]
  refine (shapeCast_apply _ shapeCasts_S4x4096x768_S4x8x512x768 _ (ix3 b (⟨512 * (s.val / 512) + (511 - s.val % 512), by omega⟩ : Fin 4096) d) ?_).trans ?_
  · rw [Shape.rowMajor_val_four, Shape.rowMajor_val_three]
    show (b.val * 4096 + (512 * (s.val / 512) + (511 - s.val % 512))) * 768 + d.val
      = ((b.val * 8 + s.val / 512) * 512 + (512 - (s.val % 512 + 1))) * 768 + d.val
    omega
  · refine shapeCast_apply x shapeCasts_S4x4096x12x64_S4x4096x768 _ _ ?_
    rw [Shape.rowMajor_val_four, Shape.rowMajor_val_three]
    show ((b.val * 4096 + (512 * (s.val / 512) + (511 - s.val % 512)) % 4096) * 12 + d.val / 64) * 64 + d.val % 64
      = (b.val * 4096 + (512 * (s.val / 512) + (511 - s.val % 512))) * 768 + d.val
    omega

/-- The queries and keys that a memory holds are the reals `q` and `k`. -/
structure RealArgs (m : (ℓ : Loc nD τ sig) → Buf (Elt Ideal) ℓ) (c : Dev nD) (q k : S4x4096x12x64.Idx → ℝ) : Prop where
  q : ∀ i, (m (c, Proc.devRef .tc main_arg0) : S4x4096x12x64.Idx → EReal) i = ((q i : ℝ) : EReal)
  k : ∀ i, (m (c, Proc.devRef .tc main_arg1) : S4x4096x12x64.Idx → EReal) i = ((k i : ℝ) : EReal)

variable {m : (ℓ : Loc nD τ sig) → Buf (Elt Ideal) ℓ} {c : Dev nD} {q k : S4x4096x12x64.Idx → ℝ}

theorem realIn (H : RealArgs m c q k) : RealIn (V1 m) c (flatR q) (backK (flatR k)) where
  q b n r d := (congrFun (host0_v0 (V0 m c)) (ix4 b n r d)).trans ((cut_apply _ b n r d).trans (H.q _))
  k b s d := (congrFun (host0_v4 (V0 m c)) (ix3 b s d)).trans ((back_apply _ b s d).trans (H.k _))

/-- What the selection call reads of batch entry `b` at delay `512 r + s`. -/
theorem corr_real (H : RealArgs m c q k) (b : Fin 4) (r : Fin 8) (s : Fin 512) :
    corrOf (W2 m c (Proc.devRef .tc main_v5)) b (ix2 r s) = ((corrR (flatR q) (flatR k) b (512 * r.val + s.val) : ℝ) : EReal) := by
  have e : (W2 m c (Proc.devRef .tc main_v5) : Vec Ideal S4x8x1024 .f32) = (dat0 (V1 m) c).arrAt 2 cfg0.N := W2_v5 m c
  exact (congrArg (fun X : Vec Ideal S4x8x1024 .f32 => corrOf X b (ix2 r s)) e).trans
    (corrOf_real _ _ _ (fun b cc x => arr0_real (realIn H) b cc x) b r s)

end Cert.Alg

end
-- ==== Proof.Alg.Picks.lean ====
/- Picking the largest entries one at a time, the first place winning a tie: the picks are determined, scaling does not
   change them, and a stable descending sort lists them in order. -/
module

public import Idealize.ShloMosaic.PureOps.Ideal.Laws
public import Idealize.ShloMosaic.Lib.SortFacts

@[expose] public section

set_option maxRecDepth 16384

noncomputable section

namespace Cert.Alg

open Idealize.ShloMosaic

/-- The first `n` entries of `p` are the first `n` picks from the 4096 entries of `v`. -/
def Picks (v : ℕ → ℝ) (p : ℕ → ℕ) (n : ℕ) : Prop :=
  ∀ k < n, p k < 4096 ∧ (∀ j < k, p j ≠ p k) ∧ ∀ x < 4096, (∀ j < k, p j ≠ x) → v x < v (p k) ∨ (v x = v (p k) ∧ p k ≤ x)

/-- The picks are determined. -/
theorem Picks.unique {v : ℕ → ℝ} {p p' : ℕ → ℕ} {n : ℕ} (h : Picks v p n) (h' : Picks v p' n) : ∀ k < n, p k = p' k := by
  intro k
  induction k using Nat.strong_induction_on with
  | _ k ih =>
    intro hk
    obtain ⟨a1, a2, a3⟩ := h k hk
    obtain ⟨b1, b2, b3⟩ := h' k hk
    have c1 := a3 (p' k) b1 fun j hj => by rw [ih j hj (hj.trans hk)]; exact b2 j hj
    have c2 := b3 (p k) a1 fun j hj => by rw [← ih j hj (hj.trans hk)]; exact a2 j hj
    rcases c1 with c1 | ⟨c1, d1⟩
    · rcases c2 with c2 | ⟨c2, d2⟩
      · exact absurd (c1.trans c2) (lt_irrefl _)
      · rw [c2] at c1; exact absurd c1 (lt_irrefl _)
    · rcases c2 with c2 | ⟨c2, d2⟩
      · rw [c1] at c2; exact absurd c2 (lt_irrefl _)
      · exact le_antisymm d1 d2

/-- Scaling does not change the picks. -/
theorem Picks.scale {v : ℕ → ℝ} {p : ℕ → ℕ} {n : ℕ} (c : ℝ) (hc : 0 < c) (h : Picks (fun x => c * v x) p n) : Picks v p n :=
  fun k hk => by
    obtain ⟨a1, a2, a3⟩ := h k hk
    refine ⟨a1, a2, fun x hx hj => ?_⟩
    rcases a3 x hx hj with e | ⟨e, e'⟩
    · exact Or.inl ((mul_lt_mul_iff_right₀ hc).mp e)
    · exact Or.inr ⟨mul_left_cancel₀ hc.ne' e, e'⟩

variable {N : ℕ}

/-- Later than: a smaller entry, or an equal one at a later place. -/
def Later (v : ℕ → ℝ) (a b : Fin N) : Prop := v b.val < v a.val ∨ (v b.val = v a.val ∧ a.val < b.val)

theorem Later.trans {v : ℕ → ℝ} {a b c : Fin N} (h : Later v a b) (h' : Later v b c) : Later v a c := by
  unfold Later at *
  rcases h with h | ⟨h, i⟩ <;> rcases h' with h' | ⟨h', i'⟩
  · exact Or.inl (h'.trans h)
  · exact Or.inl (h' ▸ h)
  · exact Or.inl (h ▸ h')
  · exact Or.inr ⟨h'.trans h, i.trans i'⟩

theorem mem_insertBefore {before : Fin N → Fin N → Bool} (a x : Fin N) (l : List (Fin N)) :
    x ∈ insertBefore before a l ↔ x = a ∨ x ∈ l := by
  rw [(perm_insertBefore before a l).mem_iff, List.mem_cons]

theorem later_insert (v : ℕ → ℝ) (before : Fin N → Fin N → Bool) (hb : ∀ a b, before a b = true ↔ v b.val < v a.val) (a : Fin N) :
    ∀ l : List (Fin N), (∀ b ∈ l, a.val < b.val) → l.Pairwise (Later v) → (insertBefore before a l).Pairwise (Later v) := by
  intro l
  induction l with
  | nil => intro _ _; exact List.pairwise_singleton _ _
  | cons b l ih =>
    intro hl hp
    obtain ⟨hp1, hp2⟩ := List.pairwise_cons.mp hp
    unfold insertBefore
    split
    · next h =>
      refine List.pairwise_cons.mpr ⟨fun x hx => ?_, ih (fun x hx => hl x (List.mem_cons_of_mem _ hx)) hp2⟩
      rcases (mem_insertBefore a x l).mp hx with rfl | hx
      · exact Or.inl ((hb _ _).mp h)
      · exact hp1 x hx
    · next h =>
      have hab : Later v a b := by
        have h1 : ¬v a.val < v b.val := fun e => h ((hb _ _).mpr e)
        rcases lt_or_eq_of_le (not_lt.mp h1) with e | e
        · exact Or.inl e
        · exact Or.inr ⟨e, hl b List.mem_cons_self⟩
      refine List.pairwise_cons.mpr ⟨fun x hx => ?_, hp⟩
      rcases List.mem_cons.mp hx with rfl | hx
      · exact hab
      · exact hab.trans (hp1 x hx)

theorem later_sort (v : ℕ → ℝ) (before : Fin N → Fin N → Bool) (hb : ∀ a b, before a b = true ↔ v b.val < v a.val) :
    ∀ l : List (Fin N), l.Pairwise (fun a b => a.val < b.val) → (stableSort before l).Pairwise (Later v) := by
  intro l
  induction l with
  | nil => intro _; exact List.Pairwise.nil
  | cons a l ih =>
    intro h
    obtain ⟨h1, h2⟩ := List.pairwise_cons.mp h
    exact later_insert v before hb a _ (fun b hb' => h1 b ((perm_stableSort before l).mem_iff.mp hb')) (ih h2)

theorem later_sortedFrom (v : ℕ → ℝ) (before : Fin N → Fin N → Bool) (hb : ∀ a b, before a b = true ↔ v b.val < v a.val) (i j : Fin N) (hij : i < j) :
    Later v (sortedFrom before i) (sortedFrom before j) :=
  List.pairwise_iff_get.mp (later_sort v before hb (List.finRange N) ((List.pairwise_lt_finRange N).imp fun h => h)) _ _ hij

/-- A stable descending sort lists the picks. -/
theorem picks_sorted (v : ℕ → ℝ) (before : Fin 4096 → Fin 4096 → Bool) (hb : ∀ a b, before a b = true ↔ v b.val < v a.val)
    (p : ℕ → ℕ) (n : ℕ) (hn : n ≤ 4096) (hp : ∀ k (h : k < n), p k = (sortedFrom before ⟨k, h.trans_le hn⟩).val) : Picks v p n := by
  have hs := later_sortedFrom v before hb
  have hinj := sortedFrom_injective before
  have hsur := sortedFrom_surjective before
  intro k hk
  refine ⟨by rw [hp k hk]; exact Fin.isLt _, fun j hj e => ?_, fun x hx hj => ?_⟩
  · rw [hp k hk, hp j (hj.trans hk)] at e
    have := congrArg Fin.val (hinj (Fin.ext e))
    exact absurd this hj.ne
  · obtain ⟨i, hi⟩ := hsur ⟨x, hx⟩
    have hxi : x = (sortedFrom before i).val := (congrArg Fin.val hi).symm
    have hki : k ≤ i.val := by
      by_contra hlt
      have hlt := not_le.mp hlt
      exact hj i.val hlt ((hp i.val (hlt.trans hk)).trans hxi.symm)
    rcases Nat.eq_or_lt_of_le hki with e | e
    · have : p k = x := by rw [hp k hk, hxi]; exact congrArg (fun j => (sortedFrom before j).val) (Fin.ext e)
      exact Or.inr ⟨by rw [this], this.le⟩
    · have := hs ⟨k, hk.trans_le hn⟩ i e
      rw [hp k hk, hxi]
      rcases this with t | ⟨t, t'⟩
      · exact Or.inl t
      · exact Or.inr ⟨t, t'.le⟩

end Cert.Alg

end
-- ==== Proof.Alg.KPick.lean ====
/- The selection call's rounds over the reals: each takes the first of the largest sums not yet taken, and reads the entries' averages there. -/
module

public import proofs.«01_k».proof.Proof.KernelIdeal.SelPick
public import proofs.«01_k».proof.Proof.Alg.Picks

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

theorem ofBits_low : Ideal.ofBits .f32 0xFF800000#32 = ⊥ := by simp [Ideal.ofBits, Ideal.ieee]

/-- A largest entry over all places, as a supremum. -/
theorem total_max (x : FVec Ideal S1x8x512 .f32) (j : S1.Idx) :
    (multiReduction (F := Ideal) .maximumf [1, 2] S1 x 0xFF800000#32 reduces_S1x8x512_S1 (.inl rfl) rfl j : EReal)
      = Finset.univ.sup (fun p : Fin 8 × Fin 512 => (x (ix3 (0 : Fin 1) p.1 p.2) : EReal)) := by
  refine (multiReduction_maximumf_eq_fold x _ _ _ _ j).trans ?_
  rw [filter_places, univ_places, Finset.fold_map]
  have e0 : (FloatOps.ofBits (F := Ideal) .f32 0xFF800000#32 : EReal) = ⊥ := ofBits_low
  exact congrArg (fun b : EReal => Finset.univ.fold max b (fun p : Fin 8 × Fin 512 => (x (ix3 (0 : Fin 1) p.1 p.2) : EReal))) e0

/-- A sum over all places. -/
theorem total_add (x : FVec Ideal S1x8x512 .f32) (j : S1.Idx) :
    (multiReduction (F := Ideal) .add [1, 2] S1 x 0x00000000#32 reduces_S1x8x512_S1 (.inl rfl) rfl j : EReal)
      = ∑ p : Fin 8 × Fin 512, (x (ix3 (0 : Fin 1) p.1 p.2) : EReal) := by
  refine (Ideal.multiReduction_add_total x _ _ (by decide) _ _ j).trans ?_
  rw [univ_places, Finset.sum_map]
  rfl

theorem one_apply (x : FVec Ideal S1 .f32) : extractAt ![0, 0, 0] (shapeCast S1x1x1 x shapeCasts_S1_S1x1x1) inpos_S1x1x1_p0_0_0 = x (ix1 0) :=
  shapeCast_apply x shapeCasts_S1_S1x1x1 _ (ix1 0) (by decide)

theorem cmpi_eq_apply {s : Shape} (x : IVec s 32) (w : BitVec 32) (i : s.Idx) : cmpi .eq x (broadcast s w) i = BitVec.ofBool (x i == w) := rfl

/-- The largest entry is at least every entry, and is one. -/
theorem topOf_spec (m : FVec Ideal S8x512 .f32) :
    (∀ r s, (m (ix2 r s) : EReal) ≤ topOf m) ∧ ∃ r s, (m (ix2 r s) : EReal) = topOf m := by
  have e : (topOf m : EReal) = Finset.univ.sup (fun p : Fin 8 × Fin 512 => (m (ix2 p.1 p.2) : EReal)) := by
    unfold topOf
    rw [one_apply, total_max]
    exact congrArg (Finset.univ.sup) (funext fun p => shapeCast_ab_1ab_apply _ _ _ _ _)
  rw [e]
  refine ⟨fun r s => Finset.le_sup (f := fun p : Fin 8 × Fin 512 => (m (ix2 p.1 p.2) : EReal)) (Finset.mem_univ (r, s)), ?_⟩
  obtain ⟨p, _, hp⟩ := Finset.exists_mem_eq_sup Finset.univ Finset.univ_nonempty (fun p : Fin 8 × Fin 512 => (m (ix2 p.1 p.2) : EReal))
  exact ⟨p.1, p.2, hp.symm⟩

/-- The delay picked from `m`. -/
def pickN (m : FVec Ideal S8x512 .f32) : ℕ := (pickOf m).toNat

/-- A vector of sums read at a delay. -/
def atN (m : FVec Ideal S8x512 .f32) (n : ℕ) : EReal :=
  m (ix2 (⟨n / 512 % 8, Nat.mod_lt _ (by decide)⟩ : Fin 8) (⟨n % 512, Nat.mod_lt _ (by decide)⟩ : Fin 512))

theorem atN_place (m : FVec Ideal S8x512 .f32) (r : Fin 8) (s : Fin 512) : atN m (512 * r.val + s.val) = m (ix2 r s) := by
  have hr := r.isLt
  have hs := s.isLt
  have e0 : (⟨(512 * r.val + s.val) / 512 % 8, Nat.mod_lt _ (by decide)⟩ : Fin 8) = r := Fin.ext (by show (512 * r.val + s.val) / 512 % 8 = r.val; omega)
  have e1 : (⟨(512 * r.val + s.val) % 512, Nat.mod_lt _ (by decide)⟩ : Fin 512) = s := Fin.ext (by show (512 * r.val + s.val) % 512 = s.val; omega)
  unfold atN
  rw [e0, e1]

theorem oeq_iff (x y : EReal) : FloatOps.cmpf (F := Ideal) (φ := .f32) .oeq x y = 1 ↔ x = y := by
  have e : FloatOps.cmpf (F := Ideal) (φ := .f32) .oeq x y = BitVec.ofBool (decide (x = y)) := rfl
  rw [e]
  by_cases h : x = y
  · simp [h]
  · simp [h]

/-- The pick is a place of the largest entry, and the first. -/
theorem pickN_spec (m : FVec Ideal S8x512 .f32) :
    pickN m < 4096 ∧ (∀ n < 4096, atN m n ≤ atN m (pickN m)) ∧ ∀ n < 4096, atN m n = atN m (pickN m) → pickN m ≤ n := by
  obtain ⟨t1, r0, s0, t2⟩ := topOf_spec m
  obtain ⟨p1, r1, s1, p2⟩ := pickOf_spec m
  have hr0 := r0.isLt
  have hs0 := s0.isLt
  have hr1 := r1.isLt
  have hs1 := s1.isLt
  have hle : ∀ r s, (m (ix2 r s) : EReal) = topOf m → pickN m ≤ 512 * r.val + s.val := fun r s h =>
    (p1 r s).trans_eq (if_pos ((oeq_iff _ _).mpr h))
  have hlt : pickN m < 4096 := (hle r0 s0 t2).trans_lt (by omega)
  have hcand : FloatOps.cmpf .oeq (m (ix2 r1 s1)) (topOf m) = 1 := by
    by_contra h
    have : pickN m = 4096 := p2.trans (if_neg h)
    omega
  have hpe : pickN m = 512 * r1.val + s1.val := p2.trans (if_pos hcand)
  have htop : atN m (pickN m) = topOf m := by rw [hpe, atN_place]; exact (oeq_iff _ _).mp hcand
  refine ⟨hlt, fun n _ => by rw [htop]; exact t1 _ _, fun n hn h => ?_⟩
  rw [htop] at h
  refine (hle _ _ h).trans ?_
  show 512 * (n / 512 % 8) + n % 512 ≤ n
  omega

/-- Where the pick is. -/
theorem hitOf_apply (m : FVec Ideal S8x512 .f32) (r : Fin 8) (s : Fin 512) :
    hitOf m (ix2 r s) = if pickN m = 512 * r.val + s.val then 1 else 0 := by
  have hr := r.isLt
  have hs := s.isLt
  unfold hitOf
  rw [cmpi_eq_apply, flatIota_apply]
  by_cases h : pickN m = 512 * r.val + s.val
  · rw [if_pos h]
    have : BitVec.ofNat 32 (512 * r.val + s.val) = pickOf m := BitVec.eq_of_toNat_eq (by rw [BitVec.toNat_ofNat, Nat.mod_eq_of_lt (by omega)]; exact h.symm)
    rw [this]; simp
  · rw [if_neg h]
    have : BitVec.ofNat 32 (512 * r.val + s.val) ≠ pickOf m := fun e => h (by
      have := congrArg BitVec.toNat e
      rw [BitVec.toNat_ofNat, Nat.mod_eq_of_lt (by omega)] at this
      exact this.symm)
    rw [beq_eq_false_iff_ne.mpr this]; rfl

theorem nextOf_apply (m : FVec Ideal S8x512 .f32) (n : ℕ) (hn : n < 4096) : atN (nextOf m) n = if pickN m = n then ⊥ else atN m n := by
  have e : atN (nextOf m) n = Scalar.select (hitOf m (ix2 (⟨n / 512 % 8, Nat.mod_lt _ (by decide)⟩ : Fin 8) (⟨n % 512, Nat.mod_lt _ (by decide)⟩ : Fin 512)))
      (Ideal.ofBits .f32 0xFF800000#32) (atN m n) := rfl
  rw [e, hitOf_apply, ofBits_low]
  have en : 512 * (n / 512 % 8) + n % 512 = n := by omega
  show Scalar.select (if pickN m = 512 * (n / 512 % 8) + n % 512 then 1 else 0) _ _ = _
  rw [en]
  by_cases h : pickN m = n
  · rw [if_pos h, if_pos h]; rfl
  · rw [if_neg h, if_neg h]; rfl

/-- Some delay is not among the first few picks. -/
theorem exists_left (p : ℕ → ℕ) (k : ℕ) (hk : k < 4096) : ∃ n < 4096, ∀ j < k, p j ≠ n := by
  have hc : ((Finset.range k).image p).card < (Finset.range 4096).card :=
    Finset.card_image_le.trans_lt (by rw [Finset.card_range, Finset.card_range]; exact hk)
  obtain ⟨n, hn, hn'⟩ := Finset.exists_mem_notMem_of_card_lt_card hc
  exact ⟨n, Finset.mem_range.mp hn, fun j hj e => hn' (Finset.mem_image.mpr ⟨j, Finset.mem_range.mpr hj, e⟩)⟩

variable (X : Vec Ideal S4x8x1024 .f32) (S : ℕ → ℝ)

/-- The delay picked in round `k`. -/
def pickAt (k : ℕ) : ℕ := pickN (leftAt X k)

variable {X S}

/-- What is left after `k` rounds: the sums not picked. -/
theorem leftAt_real (hS : ∀ n < 4096, atN (corrSum X) n = ((S n : ℝ) : EReal)) (k : ℕ) :
    ∀ n < 4096, ((∃ j < k, pickAt X j = n) → atN (leftAt X k) n = ⊥) ∧ ((∀ j < k, pickAt X j ≠ n) → atN (leftAt X k) n = ((S n : ℝ) : EReal)) := by
  induction k with
  | zero => exact fun n hn => ⟨fun ⟨j, hj, _⟩ => absurd hj (Nat.not_lt_zero j), fun _ => hS n hn⟩
  | succ k ih =>
    intro n hn
    have e : atN (leftAt X (k + 1)) n = if pickAt X k = n then ⊥ else atN (leftAt X k) n := nextOf_apply (leftAt X k) n hn
    rw [e]
    obtain ⟨i1, i2⟩ := ih n hn
    refine ⟨fun ⟨j, hj, hjn⟩ => ?_, fun h => ?_⟩
    · by_cases hk : pickAt X k = n
      · rw [if_pos hk]
      · rw [if_neg hk]
        refine i1 ⟨j, ?_, hjn⟩
        rcases Nat.lt_succ_iff_lt_or_eq.mp hj with h | h
        · exact h
        · rw [h] at hjn; exact absurd hjn hk
    · rw [if_neg (h k (Nat.lt_succ_self k))]
      exact i2 fun j hj => h j (hj.trans (Nat.lt_succ_self k))

/-- The kernel's delays are the picks from the sums. -/
theorem kernel_picks (hS : ∀ n < 4096, atN (corrSum X) n = ((S n : ℝ) : EReal)) : Picks S (pickAt X) 8 := by
  intro k hk
  obtain ⟨a1, a2, a3⟩ := pickN_spec (leftAt X k)
  have hl := leftAt_real hS k
  have hfree : ∀ j < k, pickAt X j ≠ pickAt X k := fun j hj e => by
    obtain ⟨n, hn, hn'⟩ := exists_left (pickAt X) k (by omega)
    have h1 := a2 n hn
    rw [(hl n hn).2 hn', (hl _ a1).1 ⟨j, hj, e⟩] at h1
    exact absurd (le_bot_iff.mp h1) (EReal.coe_ne_bot _)
  have htop : atN (leftAt X k) (pickN (leftAt X k)) = ((S (pickAt X k) : ℝ) : EReal) := (hl _ a1).2 hfree
  refine ⟨a1, hfree, fun x hx hj => ?_⟩
  have hx1 := a2 x hx
  have hx2 := a3 x hx
  rw [htop, (hl x hx).2 hj] at hx1 hx2
  rcases lt_or_eq_of_le (EReal.coe_le_coe_iff.mp hx1) with h | h
  · exact Or.inl h
  · exact Or.inr ⟨h, hx2 (congrArg _ h)⟩

theorem invHe_real : (invHe : Ideal .f32) = (((1 / 768 : ℝ) : ℝ) : EReal) :=
  IdealRules.named_const.ideal_named_scalar _ _ _ _ rfl

/-- What a weight reads: the entry's correlation at the pick, averaged. -/
theorem weightOf_real (R m : FVec Ideal S8x512 .f32) (C : ℕ → ℝ) (hR : ∀ r s, R (ix2 r s) = ((C (512 * r.val + s.val) : ℝ) : EReal)) :
    weightOf R m = ((C (pickN m) * (1 / 768) : ℝ) : EReal) := by
  have hlt := (pickN_spec m).1
  have e : weightOf R m = (∑ p : Fin 8 × Fin 512, select (hitOf m) R (broadcast S8x512 (Scalar.ofBits (F := Ideal) .f32 0x00000000#32)) (ix2 p.1 p.2) : EReal) * invHe := by
    unfold weightOf
    rw [one_apply, total_add]
    refine congrArg (fun z : EReal => z * (invHe : Ideal .f32)) ?_
    exact Finset.sum_congr rfl fun p _ => shapeCast_ab_1ab_apply _ _ _ _ _
  have hp : ∀ p : Fin 8 × Fin 512, (select (hitOf m) R (broadcast S8x512 (Scalar.ofBits (F := Ideal) .f32 0x00000000#32)) (ix2 p.1 p.2) : EReal)
      = if p = ((⟨pickN m / 512, by omega⟩, ⟨pickN m % 512, Nat.mod_lt _ (by decide)⟩) : Fin 8 × Fin 512) then ((C (pickN m) : ℝ) : EReal) else 0 := fun p => by
    have hr := p.1.isLt
    have hs := p.2.isLt
    have e : (select (hitOf m) R (broadcast S8x512 (Scalar.ofBits (F := Ideal) .f32 0x00000000#32)) (ix2 p.1 p.2) : EReal)
        = Scalar.select (hitOf m (ix2 p.1 p.2)) (R (ix2 p.1 p.2) : EReal) (Ideal.ofBits .f32 0x00000000#32) := rfl
    rw [e, hitOf_apply, hR, Ideal.ofBits_zero_f32]
    by_cases h : pickN m = 512 * p.1.val + p.2.val
    · rw [if_pos h, if_pos (Prod.ext (Fin.ext (by show p.1.val = pickN m / 512; omega)) (Fin.ext (by show p.2.val = pickN m % 512; omega))), ← h]; rfl
    · rw [if_neg h, if_neg fun e => h (by rw [e]; show pickN m = 512 * (pickN m / 512) + pickN m % 512; omega)]; rfl
  rw [e, Finset.sum_congr rfl fun p _ => hp p, Finset.sum_ite_eq' Finset.univ, if_pos (Finset.mem_univ _), invHe_real, ← EReal.coe_mul]

end Cert.Alg

end
-- ==== Proof.Alg.KSoft.lean ====
/- The kernel's weights at a batch entry and a delay, and the softmax of a row of them. -/
module

public import proofs.«01_k».proof.Proof.Alg.KPick
public import proofs.«01_k».proof.Proof.KernelIdeal.Table
public import Idealize.ShloMosaic.PureOps.Ideal.Laws

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- The largest of a row. -/
def rowMax (w : S4x8.Idx → EReal) (b : Fin 4) : EReal := Finset.univ.fold max (⊥ : EReal) (fun j : Fin 8 => w (ix2 b j))

/-- The exponential of an entry less the largest of its row. -/
def expN (w : S4x8.Idx → EReal) (b : Fin 4) (j : Fin 8) : EReal := Ideal.exp (w (ix2 b j) - rowMax w b)

/-- The softmax of a row. -/
def softN (w : S4x8.Idx → EReal) (b : Fin 4) (j : Fin 8) : EReal := Ideal.div (expN w b j) (∑ j' : Fin 8, expN w b j')

/-- A column spread over the rows' entries. -/
theorem spread_apply (y : FVec Ideal S4 .f32) (b : Fin 4) (j : Fin 8) :
    broadcastTo S4x8 (shapeCast S4x1 y shapeCasts_S4_S4x1) broadcasts_S4x1_S4x8 (ix2 b j) = y (ix1 b) := by
  refine (broadcastTo_apply _ broadcasts_S4x1_S4x8 (ix2 b j) (ix2 b (0 : Fin 1)) fun a => ?_).trans ?_
  · match a with
    | ⟨0, _⟩ => rfl
    | ⟨1, _⟩ => rfl
  · refine shapeCast_apply y shapeCasts_S4_S4x1 _ (ix1 b) ?_
    rw [Shape.rowMajor_val_two, Shape.rowMajor_val_one]
    show b.val = b.val * 1 + 0
    omega

theorem row_max (w : FVec Ideal S4x8 .f32) (b : Fin 4) :
    (multiReduction (F := Ideal) .maximumf [1] S4 w 0xFF800000#32 reduces_S4x8_S4 (.inl rfl) rfl (ix1 b) : EReal) = rowMax w b := by
  refine (Ideal.multiReduction_maximumf_single w _ _ _ _ _).trans ?_
  have e0 : (FloatOps.ofBits (F := Ideal) .f32 0xFF800000#32 : EReal) = ⊥ := ofBits_low
  unfold rowMax
  rw [← e0]
  refine Finset.fold_congr fun j _ => congrArg w (funext fun a => Fin.ext ?_)
  match a with
  | ⟨0, _⟩ => rfl
  | ⟨1, _⟩ => rfl

theorem row_add (w : FVec Ideal S4x8 .f32) (b : Fin 4) :
    (multiReduction (F := Ideal) .add [1] S4 w 0x00000000#32 reduces_S4x8_S4 (.inl rfl) rfl (ix1 b) : EReal) = ∑ j : Fin 8, (w (ix2 b j) : EReal) := by
  refine (Ideal.multiReduction_add_single w _ _ _ _ _).trans ?_
  refine Finset.sum_congr rfl fun j _ => congrArg w (funext fun a => Fin.ext ?_)
  match a with
  | ⟨0, _⟩ => rfl
  | ⟨1, _⟩ => rfl

theorem expOf_apply (w : FVec Ideal S4x8 .f32) (b : Fin 4) (j : Fin 8) : (expOf w (ix2 b j) : EReal) = expN w b j := by
  have e : ∀ y : FVec Ideal S4x8 .f32, (exp (subf w y) (ix2 b j) : EReal) = Ideal.exp ((w (ix2 b j) : EReal) - (y (ix2 b j) : EReal)) := fun y => rfl
  unfold expOf
  rw [e, spread_apply, row_max]
  rfl

theorem softOf_apply (w : FVec Ideal S4x8 .f32) (b : Fin 4) (j : Fin 8) : (softOf w (ix2 b j) : EReal) = softN w b j := by
  have e : ∀ x y : FVec Ideal S4x8 .f32, (divf x y (ix2 b j) : EReal) = Ideal.div (x (ix2 b j)) (y (ix2 b j)) := fun x y => rfl
  unfold softOf
  rw [e, spread_apply, row_add, expOf_apply]
  unfold softN
  exact congrArg (Ideal.div (expN w b j)) (Finset.sum_congr rfl fun j' _ => expOf_apply w b j')

/-- A weight before the softmax, by batch entry and delay. -/
theorem weightMat_apply (X : Vec Ideal S4x8x1024 .f32) (b : Fin 4) (j : Fin 8) :
    weightMat X (ix2 b j) = weightOf (corrOf X b) (leftAt X j.val) := by
  unfold weightMat
  refine (concatenate_ofFn_unit_apply (t := S4x8) (s₁ := S1x8) 0 (N := 4) (fun b : Fin 4 => weightRow X b) concatenates_S1x8_S1x8_S1x8_S1x8_S4x8_d0 rfl rfl (ix2 b j) b rfl
    (ix2 (0 : Fin 1) j) fun a ha => ?_).trans ?_
  · match a with
    | ⟨0, _⟩ => exact absurd rfl ha
    | ⟨1, _⟩ => rfl
  · exact row8_apply (fun j : Fin 8 => weightOf (corrOf X b) (leftAt X j.val)) _ j

end Cert.Alg

end
-- ==== Proof.Alg.KStep.lean ====
/- One delay's step of the gathering: a window of the values, shifted into place and times its weight. -/
module

public import proofs.«01_k».proof.Proof.KernelIdeal.AggVal
public import proofs.«01_k».proof.Proof.KernelIdeal.AggWords
public import proofs.«01_k».proof.Proof.Alg.CorrDiag

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- Rows turned by `v` places. -/
theorem rows_apply (y : S520x768.Idx → EReal) (v : BitVec 32) (r : Fin 520) (d : Fin 768) :
    dynamicRotate 0 v none y rotates_S520x768_d0 (ix2 r d)
      = y (ix2 (⟨(r.val + 520 - (v.toNat + 0) % 520) % 520, Nat.mod_lt _ (by decide)⟩ : Fin 520) d) := by
  unfold dynamicRotate
  refine congrArg y (funext fun b => Fin.ext ?_)
  match b with
  | ⟨0, _⟩ => rfl
  | ⟨1, _⟩ => rfl

/-- Rows turned back by `n` places, at a row that does not wrap. -/
theorem rows_back (y : S520x768.Idx → EReal) (n : ℕ) (hn : n < 8) (r : Fin 512) (d : Fin 768) :
    dynamicRotate 0 (BitVec.ofNat 32 (520 - n)) none y rotates_S520x768_d0 (ix2 (⟨r.val, by omega⟩ : Fin 520) d)
      = y (ix2 (⟨r.val + n, by omega⟩ : Fin 520) d) := by
  refine (rows_apply y _ _ d).trans (congrArg (fun z : Fin 520 => y (ix2 z d)) (Fin.ext ?_))
  show (r.val + 520 - ((BitVec.ofNat 32 (520 - n)).toNat + 0) % 520) % 520 = r.val + n
  have hr := r.isLt
  rw [BitVec.toNat_ofNat, Nat.mod_eq_of_lt (show 520 - n < 2 ^ 32 by omega)]
  omega

/-- The turn a step makes, as a word. -/
theorem turn_word (i : grid2.Coords) (n : ℕ) (hn : n ≤ 4096) :
    Scalar.subi 520#32 (Scalar.subi (Scalar.remsi (Scalar.addi (rowBase i) (BitVec.ofNat 32 n)) 4096#32) (k2_mult1 i (BitVec.ofNat 32 n)))
      = BitVec.ofNat 32 (520 - startOf i n % 8) := by
  have hlt : startOf i n < 4096 := Nat.mod_lt _ (by omega)
  rw [start_word i n hn, mult_word i n hn]
  have e1 : Scalar.subi (BitVec.ofNat 32 (startOf i n)) (BitVec.ofNat 32 (startOf i n / 8 * 8)) = BitVec.ofNat 32 (startOf i n % 8) := by
    apply BitVec.eq_of_toNat_eq
    show (BitVec.ofNat 32 (startOf i n) - BitVec.ofNat 32 (startOf i n / 8 * 8)).toNat = _
    rw [BitVec.toNat_sub, BitVec.toNat_ofNat, BitVec.toNat_ofNat, BitVec.toNat_ofNat]
    omega
  rw [e1]
  apply BitVec.eq_of_toNat_eq
  show ((520#32 : BitVec 32) - BitVec.ofNat 32 (startOf i n % 8)).toNat = _
  rw [BitVec.toNat_sub, BitVec.toNat_ofNat, BitVec.toNat_ofNat, BitVec.toNat_ofNat]
  omega

/-- A step with its turn named. -/
theorem pay3_turn (i : grid2.Coords) (x : BitVec 32) (acc : FVec Ideal S512x768 .f32) (v : Vec Ideal S1x520x768 .f32) (w : Vec Ideal S1x1x1 .f32) :
    k2_pay3 (rowBase i) acc x v w
      = addf acc (mulf (extractStridedSlice S512x768 ![0, 0]
          (dynamicRotate 0 (Scalar.subi 520#32 (Scalar.subi (Scalar.remsi (Scalar.addi (rowBase i) x) 4096#32) (k2_mult1 i x))) none
            (shapeCast S520x768 v shapeCasts_S1x520x768_S520x768) rotates_S520x768_d0) slices_S520x768_o0_0_S512x768)
          (broadcastTo S512x768 (shapeCast S1x1 (shapeCast S1 w shapeCasts_S1x1x1_S1) shapeCasts_S1_S1x1) broadcasts_S1x1_S512x768)) := rfl

/-- The one weight, spread over the block. -/
theorem spread1_apply (w : Vec Ideal S1x1x1 .f32) (r : Fin 512) (d : Fin 768) :
    broadcastTo S512x768 (shapeCast S1x1 (shapeCast S1 w shapeCasts_S1x1x1_S1) shapeCasts_S1_S1x1) broadcasts_S1x1_S512x768 (ix2 r d) = w (ix3 0 0 0) := by
  refine (broadcastTo_apply _ _ _ (ix2 (0 : Fin 1) (0 : Fin 1)) fun a => ?_).trans ?_
  · match a with
    | ⟨0, _⟩ => rfl
    | ⟨1, _⟩ => rfl
  · refine (shapeCast_apply _ shapeCasts_S1_S1x1 (ix2 (0 : Fin 1) (0 : Fin 1)) (ix1 (0 : Fin 1)) rfl).trans ?_
    exact shapeCast_apply w shapeCasts_S1x1x1_S1 (ix1 (0 : Fin 1)) (ix3 (0 : Fin 1) (0 : Fin 1) (0 : Fin 1)) rfl

theorem madd (a b c : Ideal .f32) : (FloatOps.addf a (FloatOps.mulf b c) : Ideal .f32) = (a : EReal) + (b : EReal) * (c : EReal) := rfl

theorem pay3_apply (i : grid2.Coords) (n : ℕ) (hn : n ≤ 4096) (acc : FVec Ideal S512x768 .f32) (v : Vec Ideal S1x520x768 .f32) (w : Vec Ideal S1x1x1 .f32) (r : Fin 512) (d : Fin 768) :
    (k2_pay3 (rowBase i) acc (BitVec.ofNat 32 n) v w (ix2 r d) : EReal)
      = (acc (ix2 r d) : EReal) + (v (ix3 0 (⟨r.val + startOf i n % 8, by omega⟩ : Fin 520) d) : EReal) * (w (ix3 0 0 0) : EReal) := by
  rw [pay3_turn, turn_word i n hn]
  refine (madd _ _ _).trans ?_
  rw [spread1_apply]
  refine congrArg (fun z : EReal => (acc (ix2 r d) : EReal) + z * (w (ix3 0 0 0) : EReal)) ?_
  refine (extractStridedSlice_apply _ _ _ _ (ix2 (⟨r.val, by omega⟩ : Fin 520) d) fun a => ?_).trans ?_
  · match a with
    | ⟨0, _⟩ => show r.val = 0 + r.val; omega
    | ⟨1, _⟩ => show d.val = 0 + d.val; omega
  · refine (rows_back _ (startOf i n % 8) (by omega) r d).trans ?_
    exact shapeCast_1ab_ab_apply (a := 520) (b := 768) v _ _ d

/-- A step, at (r, d). -/
theorem aggStep_apply (i : grid2.Coords) (n : ℕ) (hn : n ≤ 4096) (h : k2_chk1 i (BitVec.ofNat 32 n)) (V : Vec Ideal S1x4608x768 .f32) (w : Vec Ideal S1x1x1 .f32)
    (acc : FVec Ideal S512x768 .f32) (r : Fin 512) (d : Fin 768) (hs : startOf i n + r.val < 4608) :
    (aggStep i (BitVec.ofNat 32 n) h V w acc (ix2 r d) : EReal)
      = (acc (ix2 r d) : EReal) + (V (ix3 0 (⟨startOf i n + r.val, hs⟩ : Fin 4608) d) : EReal) * (w (ix3 0 0 0) : EReal) := by
  unfold aggStep
  refine (pay3_apply i n hn acc _ w r d).trans ?_
  refine congrArg (fun z : EReal => (acc (ix2 r d) : EReal) + z * (w (ix3 0 0 0) : EReal)) (congrArg V (funext fun a => Fin.ext ?_))
  have ho := off_word i n hn
  match a with
  | ⟨0, _⟩ => show k2_off1 i (BitVec.ofNat 32 n) 0 + 1 * 0 = 0; rw [ho]; rfl
  | ⟨1, _⟩ => show k2_off1 i (BitVec.ofNat 32 n) 1 + 1 * (r.val + startOf i n % 8) = startOf i n + r.val; rw [ho]; show startOf i n / 8 * 8 + 1 * (r.val + startOf i n % 8) = _; omega
  | ⟨2, _⟩ => show k2_off1 i (BitVec.ofNat 32 n) 2 + 1 * d.val = d.val; rw [ho]; show 0 + 1 * d.val = d.val; omega

/-- A weight of the row. -/
theorem wtAt_apply (W : Vec Ideal S1x1x8 .f32) (k : Fin 8) : wtAt W k (ix3 0 0 0) = W (ix3 0 0 k) := by
  unfold wtAt
  refine congrArg W (funext fun a => Fin.ext ?_)
  match a with
  | ⟨0, _⟩ => rfl
  | ⟨1, _⟩ => rfl
  | ⟨2, _⟩ => show k.val + 1 * 0 = k.val; omega

/-- Eight terms' running sum from zero, each a value times a weight. -/
def runSum (f : ℕ → EReal) : ℕ → EReal
  | 0 => 0
  | n + 1 => runSum f n + f n

theorem runSum_congr (f g : ℕ → EReal) : ∀ n, (∀ k < n, f k = g k) → runSum f n = runSum g n
  | 0, _ => rfl
  | n + 1, h => by
    show runSum f n + f n = runSum g n + g n
    rw [runSum_congr f g n fun k hk => h k (Nat.lt_succ_of_lt hk), h n (Nat.lt_succ_self n)]

/-- The weighted sum over the first `n` delays, at (r, d), by any name `f` of its terms. -/
theorem aggAcc_apply (i : grid2.Coords) (xs : Fin 8 → BitVec 32) (hx : ∀ k, k2_chk1 i (xs k)) (V : Vec Ideal S1x4608x768 .f32) (W : Vec Ideal S1x1x8 .f32)
    (p : Fin 8 → ℕ) (hp : ∀ k, p k ≤ 4096) (hxs : ∀ k, xs k = BitVec.ofNat 32 (p k)) (r : Fin 512) (d : Fin 768) (f : ℕ → EReal)
    (hf : ∀ (k : Fin 8) (s : Fin 4608), s.val = startOf i (p k) + r.val → (V (ix3 0 s d) : EReal) * (W (ix3 0 0 k) : EReal) = f k.val) :
    ∀ (n : ℕ) (hn : n ≤ 8), (aggAcc i xs hx V W n hn (ix2 r d) : EReal) = runSum f n
  | 0, _ => Ideal.ofBits_zero_f32
  | n + 1, hn => by
    have hlt : startOf i (p ⟨n, hn⟩) < 4096 := Nat.mod_lt _ (by omega)
    have hr := r.isLt
    have step : ∀ (x : BitVec 32) (h : k2_chk1 i x), x = BitVec.ofNat 32 (p ⟨n, hn⟩) → ∀ acc : FVec Ideal S512x768 .f32,
        (aggStep i x h V (wtAt W ⟨n, hn⟩) acc (ix2 r d) : EReal) = (acc (ix2 r d) : EReal) + f n := by
      intro x h e acc
      subst e
      refine (aggStep_apply i _ (hp _) h V _ acc r d (by omega)).trans ?_
      rw [wtAt_apply, hf ⟨n, hn⟩ _ rfl]
    refine (step (xs ⟨n, hn⟩) (hx ⟨n, hn⟩) (hxs _) _).trans ?_
    rw [aggAcc_apply i xs hx V W p hp hxs r d f hf n (Nat.le_of_succ_le hn)]
    rfl

end Cert.Alg

end
-- ==== Proof.Alg.RunSum.lean ====
/- The sum both programs run over the eight delays. -/
module

public import proofs.«01_k».proof.Proof.Alg.KStep

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- Term `k` of an entry: a value at the delay, times its weight. -/
def termN (x2 : S4x4096x12x64.Idx → EReal) (p : Fin 8 → ℕ) (w : Fin 4 → Fin 8 → EReal) (b : Fin 4) (l : ℕ) (h : Fin 12) (e : Fin 64) (k : ℕ) : EReal :=
  if hk : k < 8 then x2 (ix4 b (⟨(l + p ⟨k, hk⟩) % 4096, Nat.mod_lt _ (by decide)⟩ : Fin 4096) h e) * w b ⟨k, hk⟩ else 0

theorem termN_fin (x2 : S4x4096x12x64.Idx → EReal) (p : Fin 8 → ℕ) (w : Fin 4 → Fin 8 → EReal) (b : Fin 4) (l : ℕ) (h : Fin 12) (e : Fin 64) (k : Fin 8) :
    termN x2 p w b l h e k.val = x2 (ix4 b (⟨(l + p k) % 4096, Nat.mod_lt _ (by decide)⟩ : Fin 4096) h e) * w b k := by
  unfold termN
  rw [dif_pos k.isLt]

end Cert.Alg

end
-- ==== Proof.Alg.KGather.lean ====
/- The gathering call's result, entry by entry. -/
module

public import proofs.«01_k».proof.Proof.KernelIdeal.Run
public import proofs.«01_k».proof.Proof.Alg.CorrIn
public import proofs.«01_k».proof.Proof.Alg.KPick
public import proofs.«01_k».proof.Proof.Alg.KSoft
public import proofs.«01_k».proof.Proof.Alg.RunSum
public import Idealize.ShloMosaic.Lib.Pipeline.ValueKit.Geometry

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

theorem host2_v9 (V : Valuation τ sig (Elt Ideal)) :
    StableHlo.after hostOps2 V (Proc.devRef .tc main_v9)
      = concatenate S4x4608x768 1 [⟨S4x4096x768, shapeCast S4x4096x768 (V (Proc.devRef .tc main_arg2)) shapeCasts_S4x4096x12x64_S4x4096x768⟩,
          ⟨S4x512x768, extractStridedSlice S4x512x768 ![0, 0, 0] (shapeCast S4x4096x768 (V (Proc.devRef .tc main_arg2)) shapeCasts_S4x4096x12x64_S4x4096x768) slices_S4x4096x768_S4x512x768_0_0_0⟩]
          concatenates_S4x4096x768_S4x512x768_S4x4608x768_d1 := by
  after_results
  rfl

theorem host2_v11 (V : Valuation τ sig (Elt Ideal)) :
    StableHlo.after hostOps2 V (Proc.devRef .tc main_v11) = shapeCast S4x1x8 (V (Proc.devRef .tc main_v6_1)) shapeCasts_S4x8_S4x1x8 := by
  after_results
  rfl

theorem host3_v13 (V : Valuation τ sig (Elt Ideal)) :
    StableHlo.after hostOps3 V (Proc.devRef .tc main_v13) = shapeCast S4x4096x12x64 (V (Proc.devRef .tc main_v12)) shapeCasts_S4x4096x768_S4x4096x12x64 := by
  after_results
  rfl

/-- The heads' channels laid flat. -/
theorem flat_apply (x : S4x4096x12x64.Idx → EReal) (b : Fin 4) (s : Fin 4096) (d : Fin 768) :
    shapeCast S4x4096x768 x shapeCasts_S4x4096x12x64_S4x4096x768 (ix3 b s d)
      = x (ix4 b s (⟨d.val / 64, by have := d.isLt; omega⟩ : Fin 12) (⟨d.val % 64, Nat.mod_lt _ (by decide)⟩ : Fin 64)) := by
  refine shapeCast_apply x shapeCasts_S4x4096x12x64_S4x4096x768 _ _ ?_
  rw [Shape.rowMajor_val_four, Shape.rowMajor_val_three]
  show ((b.val * 4096 + s.val) * 12 + d.val / 64) * 64 + d.val % 64 = (b.val * 4096 + s.val) * 768 + d.val
  omega

/-- Rows followed by their first 512 again. -/
theorem pad_apply (v : S4x4096x768.Idx → EReal) (b : Fin 4) (s : Fin 4608) (d : Fin 768) :
    concatenate S4x4608x768 1 [⟨S4x4096x768, v⟩, ⟨S4x512x768, extractStridedSlice S4x512x768 ![0, 0, 0] v slices_S4x4096x768_S4x512x768_0_0_0⟩]
        concatenates_S4x4096x768_S4x512x768_S4x4608x768_d1 (ix3 b s d)
      = v (ix3 b (⟨s.val % 4096, Nat.mod_lt _ (by decide)⟩ : Fin 4096) d) := by
  have hs := s.isLt
  by_cases hlt : s.val < 4096
  · refine concatenate_pair_apply_left (t := S4x4608x768) (s₁ := S4x4096x768) (s₂ := S4x512x768) 1 v _ concatenates_S4x4096x768_S4x512x768_S4x4608x768_d1 _ rfl _ fun a => ?_
    match a with
    | ⟨0, _⟩ => rfl
    | ⟨1, _⟩ => exact Nat.mod_eq_of_lt hlt
    | ⟨2, _⟩ => rfl
  · refine (concatenate_pair_apply_right (t := S4x4608x768) (s₁ := S4x4096x768) (s₂ := S4x512x768) 1 v _ concatenates_S4x4096x768_S4x512x768_S4x4608x768_d1 _ rfl rfl
      (ix3 b (⟨s.val - 4096, by omega⟩ : Fin 512) d) (fun a ha => ?_) ?_).trans ?_
    · match a with
      | ⟨0, _⟩ => rfl
      | ⟨1, _⟩ => exact absurd rfl ha
      | ⟨2, _⟩ => rfl
    · show s.val - 4096 + 4096 = s.val
      omega
    · refine extractStridedSlice_apply _ v _ _ _ fun a => ?_
      match a with
      | ⟨0, _⟩ => show b.val = 0 + b.val; omega
      | ⟨1, _⟩ => show s.val % 4096 = 0 + (s.val - 4096); omega
      | ⟨2, _⟩ => show d.val = 0 + d.val; omega

variable (V : Vals Ideal) (a : (pcfg2 (F := Ideal)).Adm) (hT : TabOk a) (c : Dev nD)

theorem coords2_0 (t : Fin grid2.N) : (grid2.coords t 0).val = t.val / 8 % 4 := Pipeline.Grid.coords_val t 0 (by decide) rfl

theorem coords2_1 (t : Fin grid2.N) : (grid2.coords t 1).val = t.val / 1 % 8 := Pipeline.Grid.coords_val t 1 (by decide) rfl

/-- The values at a point, off the padded values. -/
theorem iblk2_0_apply (t : Fin (cfg2 a).N) (b : Fin 4) (hb : t.val / 8 = b.val) (s : Fin 4608) (d : Fin 768) :
    (iblk2 V a c 0 t : S1x4608x768.Idx → EReal) (ix3 0 s d) = (V c (Proc.devRef .tc main_v9) : S4x4608x768.Idx → EReal) (ix3 b s d) := by
  unfold iblk2
  have e0 : (grid2.coords t 0).val = t.val / 8 % 4 := coords2_0 t
  have hB := b.isLt
  have e : (((cfg2 a).win 0).blk t).view.emb (ix3 (n0 := 1) (n1 := 4608) (n2 := 768) 0 s d) = ix3 b s d := by
    funext a'; apply Fin.ext
    refine (Pipeline.Window.rect_emb_val ((cfg2 a).win 0) t _ a').trans ?_
    match a' with
    | ⟨0, _⟩ => show (BitVec.ofNat 32 (grid2.coords t 0).val).toNat * 1 + 0 = b.val; rw [BitVec.toNat_ofNat]; omega
    | ⟨1, _⟩ => show 0 * 4608 + s.val = s.val; omega
    | ⟨2, _⟩ => show 0 * 768 + d.val = d.val; omega
  exact congrArg (V c (Proc.devRef .tc main_v9) : S4x4608x768.Idx → EReal) e

/-- The weights at a point, off the rows of weights. -/
theorem iblk2_1_apply (t : Fin (cfg2 a).N) (b : Fin 4) (hb : t.val / 8 = b.val) (k : Fin 8) :
    (iblk2 V a c 1 t : S1x1x8.Idx → EReal) (ix3 0 0 k) = (V c (Proc.devRef .tc main_v11) : S4x1x8.Idx → EReal) (ix3 b 0 k) := by
  unfold iblk2
  have e0 : (grid2.coords t 0).val = t.val / 8 % 4 := coords2_0 t
  have hB := b.isLt
  have e : (((cfg2 a).win 1).blk t).view.emb (ix3 (n0 := 1) (n1 := 1) (n2 := 8) 0 0 k) = ix3 b 0 k := by
    funext a'; apply Fin.ext
    refine (Pipeline.Window.rect_emb_val ((cfg2 a).win 1) t _ a').trans ?_
    match a' with
    | ⟨0, _⟩ => show (BitVec.ofNat 32 (grid2.coords t 0).val).toNat * 1 + 0 = b.val; rw [BitVec.toNat_ofNat]; omega
    | ⟨1, _⟩ => rfl
    | ⟨2, _⟩ => show 0 * 8 + k.val = k.val; omega
  exact congrArg (V c (Proc.devRef .tc main_v11) : S4x1x8.Idx → EReal) e

/-- What the gathering call finds: padded values, rows of weights, delays. -/
structure GatherIn (x2 : S4x4096x12x64.Idx → EReal) (p : Fin 8 → ℕ) (w : Fin 4 → Fin 8 → EReal) : Prop where
  val : ∀ b (s : Fin 4608) (d : Fin 768), (V c (Proc.devRef .tc main_v9) : S4x4608x768.Idx → EReal) (ix3 b s d)
    = x2 (ix4 b (⟨s.val % 4096, Nat.mod_lt _ (by decide)⟩ : Fin 4096) (⟨d.val / 64, by have := d.isLt; omega⟩ : Fin 12) (⟨d.val % 64, Nat.mod_lt _ (by decide)⟩ : Fin 64))
  wt : ∀ b k, (V c (Proc.devRef .tc main_v11) : S4x1x8.Idx → EReal) (ix3 b 0 k) = w b k
  le : ∀ k, p k ≤ 4096
  tab : ∀ k, tabAt (F := Ideal) (c := (0 : Dev nD)) (a.1 0) k = BitVec.ofNat 32 (p k)

variable {V a c} {x2 : S4x4096x12x64.Idx → EReal} {p : Fin 8 → ℕ} {w : Fin 4 → Fin 8 → EReal}

/-- An entry of the block a point writes. -/
theorem block_apply (H : GatherIn V a c x2 p w) (t : Fin (cfg2 a).N) (b : Fin 4) (hb : t.val / 8 = b.val) (n : Fin 8) (hn : t.val % 8 = n.val) (r : Fin 512) (d : Fin 768) :
    (aggOut (grid2.coords t) (tabAt (F := Ideal) (c := (0 : Dev nD)) (a.1 0)) (hT (grid2.coords t)) (iblk2 V a c 0 t) (iblk2 V a c 1 t) (ix3 0 r d) : EReal)
      = runSum (termN x2 p w b (512 * n.val + r.val) (⟨d.val / 64, by have := d.isLt; omega⟩ : Fin 12) (⟨d.val % 64, Nat.mod_lt _ (by decide)⟩ : Fin 64)) 8 := by
  have e1 : (grid2.coords t 1).val = t.val / 1 % 8 := coords2_1 t
  unfold aggOut
  refine (shapeCast_ab_1ab_apply (a := 512) (b := 768) _ _ _ _ _).trans ?_
  refine aggAcc_apply (grid2.coords t) _ _ _ _ p H.le H.tab r d _ (fun k s hs => ?_) 8 le_rfl
  rw [termN_fin, iblk2_0_apply V a c t b hb s d, iblk2_1_apply V a c t b hb k, H.val, H.wt]
  refine congrArg (fun z : Fin 4096 => x2 (ix4 b z _ _) * w b k) (Fin.ext ?_)
  show s.val % 4096 = (512 * n.val + r.val + p k) % 4096
  rw [hs]
  unfold startOf
  omega

/-- Every point writes its block back. -/
theorem flush2_2 (t : Fin (cfg2 a).N) : ((cfg2 a).win 2).flush t = true :=
  (Pipeline.Window.flushOf_reads (G := grid2) cc2_transform_2 reads2_2 hreads2_2 1 (by decide) (by decide)
    (Pipeline.Window.sep_of_coord cc2_transform_2 1 1 (fun _ => rfl) (by decide)) (P := 1) (m := 0) (by decide) rfl t).mpr (Nat.mod_one _)

/-- The gathering call's result. -/
theorem arr2_apply (H : GatherIn V a c x2 p w) (b : Fin 4) (l : Fin 4096) (d : Fin 768) :
    ((dat2 V a hT c).arrAt 2 (cfg2 a).N : S4x4096x768.Idx → EReal) (ix3 b l d)
      = runSum (termN x2 p w b l.val (⟨d.val / 64, by have := d.isLt; omega⟩ : Fin 12) (⟨d.val % 64, Nat.mod_lt _ (by decide)⟩ : Fin 64)) 8 := by
  have hN : (cfg2 a).N = 32 := N_2
  let G : S4x4096x768.Idx → EReal := fun y =>
    runSum (termN x2 p w (y 0) (y 1).val (⟨(y 2).val / 64, by have h : (y 2).val < 768 := (y 2).isLt; omega⟩ : Fin 12) (⟨(y 2).val % 64, Nat.mod_lt _ (by decide)⟩ : Fin 64)) 8
  have hemb : ∀ (t : Fin (cfg2 a).N) (y : S1x512x768.Idx) (b : Fin 4) (l : Fin 4096), t.val / 8 = b.val → 512 * (t.val % 8) + (y 1).val = l.val →
      (((cfg2 a).win 2).blk t).view.emb y = ix3 b l (y 2) := fun t y b l hb hl => by
    have e0 : (grid2.coords t 0).val = t.val / 8 % 4 := coords2_0 t
    have e1 : (grid2.coords t 1).val = t.val / 1 % 8 := coords2_1 t
    have h0 : (y 0).val < 1 := (y 0).isLt
    have hB := b.isLt
    funext a'; apply Fin.ext
    refine (Pipeline.Window.rect_emb_val ((cfg2 a).win 2) t _ a').trans ?_
    match a' with
    | ⟨0, _⟩ => show (BitVec.ofNat 32 (grid2.coords t 0).val).toNat * 1 + (y 0).val = b.val; rw [BitVec.toNat_ofNat]; omega
    | ⟨1, _⟩ => show (BitVec.ofNat 32 (grid2.coords t 1).val).toNat * 512 + (y 1).val = l.val; rw [BitVec.toNat_ofNat]; omega
    | ⟨2, _⟩ => show 0 * 768 + (y 2).val = (y 2).val; omega
  have key : (dat2 V a hT c).arrAt 2 (cfg2 a).N = G := by
    refine (dat2 V a hT c).arrAt_eq_of_emb 2 G (fun t hf y => ?_) fun i => ?_
    · change S1x512x768.Idx at y
      have hlt : t.val < 32 := Nat.lt_of_lt_of_eq t.isLt hN
      have h1 : (y 1).val < 512 := (y 1).isLt
      have hb : t.val / 8 < 4 := by omega
      rw [hemb t y ⟨t.val / 8, hb⟩ ⟨512 * (t.val % 8) + (y 1).val, by omega⟩ rfl rfl, after2_2]
      have hy : (y : S1x512x768.Idx) = ix3 (n0 := 1) (n1 := 512) (n2 := 768) 0 (y 1) (y 2) := by
        funext a'; apply Fin.ext
        match a' with
        | ⟨0, _⟩ => have h0 : (y 0).val < 1 := (y 0).isLt; show (y 0).val = 0; omega
        | ⟨1, _⟩ => rfl
        | ⟨2, _⟩ => rfl
      refine (congrArg (aggOut (grid2.coords t) (tabAt (F := Ideal) (c := (0 : Dev nD)) (a.1 0)) (hT (grid2.coords t)) (iblk2 V a c 0 t) (iblk2 V a c 1 t)) hy).trans ?_
      exact block_apply hT H t ⟨t.val / 8, hb⟩ rfl ⟨t.val % 8, Nat.mod_lt _ (by decide)⟩ rfl (y 1) (y 2)
    · have hm : ∀ (t : Fin (cfg2 a).N) y, (((cfg2 a).win 2).blk t).view.emb y = i → i ∈ (((cfg2 a).win 2).blk t).view.set :=
        fun t y h => by rw [← h]; exact View.emb_mem_set _ _
      change S4x4096x768.Idx at i
      have h0 : (i 0).val < 4 := (i 0).isLt
      have h1 : (i 1).val < 4096 := (i 1).isLt
      refine ⟨⟨8 * (i 0).val + (i 1).val / 512, by rw [hN]; omega⟩, flush2_2 _, ?_⟩
      have e := hemb ⟨8 * (i 0).val + (i 1).val / 512, by rw [hN]; omega⟩ (ix3 (n0 := 1) (n1 := 512) (n2 := 768) 0 (⟨(i 1).val % 512, Nat.mod_lt _ (by decide)⟩ : Fin 512) (i 2)) (i 0) (i 1)
        (by show (8 * (i 0).val + (i 1).val / 512) / 8 = _; omega) (by show 512 * ((8 * (i 0).val + (i 1).val / 512) % 8) + (i 1).val % 512 = _; omega)
      have e' : i = ix3 (n0 := 4) (n1 := 4096) (n2 := 768) (i 0) (i 1) (i 2) := eq_ix3 i
      exact hm _ _ (e.trans e'.symm)
  exact congrFun key (ix3 b l d)

end Cert.Alg

end
-- ==== Proof.Alg.KResult.lean ====
/- The kernel's result, entry by entry. -/
module

public import proofs.«01_k».proof.Proof.Alg.KGather

@[expose] public section

set_option maxRecDepth 16384

noncomputable section

namespace Cert.Alg

open Cert.KernelIdeal hiding ix2
open Cert.KernelIdeal.Gen Cert.KernelIdeal.Own
open Idealize.ShloMosaic Idealize.ShloMosaic.TcCoe Idealize.ShloMosaic.Tactic
open Idealize.ShloMosaic.ValueIdx

/-- The heads' channels apart again. -/
theorem apart_apply (y : S4x4096x768.Idx → EReal) (b : Fin 4) (l : Fin 4096) (h : Fin 12) (e : Fin 64) :
    shapeCast S4x4096x12x64 y shapeCasts_S4x4096x768_S4x4096x12x64 (ix4 b l h e) = y (ix3 b l (⟨h.val * 64 + e.val, by omega⟩ : Fin 768)) := by
  refine shapeCast_apply y shapeCasts_S4x4096x768_S4x4096x12x64 _ _ ?_
  rw [Shape.rowMajor_val_four, Shape.rowMajor_val_three]
  show (b.val * 4096 + l.val) * 768 + (h.val * 64 + e.val) = ((b.val * 4096 + l.val) * 12 + h.val) * 64 + e.val
  omega

/-- The weights, a unit axis put in. -/
theorem rowsOf_apply (w : S4x8.Idx → EReal) (b : Fin 4) (k : Fin 8) : shapeCast S4x1x8 w shapeCasts_S4x8_S4x1x8 (ix3 b 0 k) = w (ix2 b k) := by
  refine shapeCast_apply w shapeCasts_S4x8_S4x1x8 _ _ ?_
  rw [Shape.rowMajor_val_three, Shape.rowMajor_val_two]
  show b.val * 8 + k.val = (b.val * 1 + 0) * 8 + k.val
  omega

/-- A word by its number. -/
theorem word_nat (v : BitVec 32) : v = BitVec.ofNat 32 v.toNat := by simp

variable (m : (ℓ : Loc nD τ sig) → Buf (Elt Ideal) ℓ) (c : Dev nD)

/-- The values are as launched when the gathering starts. -/
theorem W3_arg2 : W3 m c (Proc.devRef .tc main_arg2) = m (c, Proc.devRef .tc main_arg2) := by
  unfold W3 W2
  rw [Function.update_of_ne (StableHlo.devRef_ne_of_ne (by decide)), Function.update_of_ne (StableHlo.devRef_ne_of_ne (by decide)), Function.update_of_ne (StableHlo.devRef_ne_of_ne (by decide))]
  exact V1_of m c main_arg2 (by decide)

/-- The correlations that the selection reads. -/
abbrev corrX : Vec Ideal S4x8x1024 .f32 := W2 m c (Proc.devRef .tc main_v5)

theorem gatherIn : GatherIn (W4 m) (tbl m) c (m (c, Proc.devRef .tc main_arg2)) (fun k => pickAt (corrX m 0) k.val) (softN (weightMat (corrX m c))) where
  val b s d := (congrFun (host2_v9 (W3 m c)) (ix3 b s d)).trans ((pad_apply _ b s d).trans ((flat_apply _ b _ d).trans (congrFun (W3_arg2 m c) _)))
  wt b k := (congrFun (host2_v11 (W3 m c)) (ix3 b 0 k)).trans ((rowsOf_apply _ b k).trans ((congrFun (W3_v6_1 m c) (ix2 b k)).trans (softOf_apply _ b k)))
  le k := pickOf_le _
  tab k := (tblRow_apply m k).trans (word_nat _)

/-- The kernel's result. -/
theorem result_apply (b : Fin 4) (l : Fin 4096) (h : Fin 12) (e : Fin 64) :
    (result m c : S4x4096x12x64.Idx → EReal) (ix4 b l h e)
      = runSum (termN (m (c, Proc.devRef .tc main_arg2)) (fun k => pickAt (corrX m 0) k.val) (softN (weightMat (corrX m c))) b l.val h e) 8 := by
  have e5 : V5 m (outs m) c (Proc.devRef .tc main_v12) = gathered m c := (congrFun (V5_eq m c) _).trans (W5_v12 m c)
  refine (congrFun (host3_v13 (V5 m (outs m) c)) (ix4 b l h e)).trans ((apart_apply _ b l h e).trans ((congrFun e5 _).trans ?_))
  refine (arr2_apply (tbl_ok m) (gatherIn m c) b l _).trans ?_
  have hd : (⟨(h.val * 64 + e.val) / 64, by omega⟩ : Fin 12) = h := Fin.ext (by show (h.val * 64 + e.val) / 64 = h.val; omega)
  have he : (⟨(h.val * 64 + e.val) % 64, Nat.mod_lt _ (by decide)⟩ : Fin 64) = e := Fin.ext (by show (h.val * 64 + e.val) % 64 = e.val; omega)
  show runSum (termN _ _ _ b l.val (⟨(h.val * 64 + e.val) / 64, _⟩ : Fin 12) (⟨(h.val * 64 + e.val) % 64, _⟩ : Fin 64)) 8 = _
  rw [hd, he]

end Cert.Alg

end
-- ==== Proof.Alg.Fourier.lean ====
/- The discrete Fourier identity behind the reference: multiplying one transform by the other's conjugate and
   transforming back gives the circular cross-correlation. Cosines and sines of real angles only. -/
module

public import Idealize.ShloMosaic.PureOps.Ideal.Laws

@[expose] public section

noncomputable section

namespace Cert.Alg

open Finset

/-- The angle of position `t` at frequency `f`. -/
def ang (N : ℕ) (t f : ℕ) : ℝ := 2 * Real.pi * ((t : ℝ) * (f : ℝ) / (N : ℝ))

/-- The cosines of a frequency's multiples add up to the length, or to nothing. -/
theorem sum_cos (N : ℕ) (hN : 0 < N) (m : ℤ) :
    ∑ f : Fin N, Real.cos (2 * Real.pi * ((m : ℝ) * (f.val : ℝ) / (N : ℝ))) = if (N : ℤ) ∣ m then (N : ℝ) else 0 := by
  have hN' : (N : ℝ) ≠ 0 := by exact_mod_cast hN.ne'
  split_ifs with h
  · obtain ⟨k, rfl⟩ := h
    rw [Finset.sum_congr rfl (g := fun _ => (1 : ℝ)) fun f _ => ?_]
    · simp
    · have e : 2 * Real.pi * ((((N : ℤ) * k : ℤ) : ℝ) * (f.val : ℝ) / (N : ℝ)) = ((k * (f.val : ℤ) : ℤ) : ℝ) * (2 * Real.pi) := by
        push_cast; field_simp
      rw [e, Real.cos_int_mul_two_pi]
  · set ω : ℂ := Complex.exp (((2 * Real.pi * ((m : ℝ) / (N : ℝ)) : ℝ) : ℂ) * Complex.I) with hω
    have hpow : ∀ f : ℕ, ω ^ f = Complex.exp (((2 * Real.pi * ((m : ℝ) * (f : ℝ) / (N : ℝ)) : ℝ) : ℂ) * Complex.I) := fun f => by
      rw [hω, ← Complex.exp_nat_mul]; congr 1; push_cast; ring
    have h1 : ω ≠ 1 := by
      intro e
      rw [hω, Complex.exp_eq_one_iff] at e
      obtain ⟨n, hn⟩ := e
      apply h
      have hI : (((2 * Real.pi * ((m : ℝ) / (N : ℝ)) : ℝ) : ℂ)) = (n : ℂ) * (2 * Real.pi) := by
        have : (((2 * Real.pi * ((m : ℝ) / (N : ℝ)) : ℝ) : ℂ)) * Complex.I = ((n : ℂ) * (2 * Real.pi)) * Complex.I := by rw [hn]; ring
        exact mul_right_cancel₀ Complex.I_ne_zero this
      have hr : 2 * Real.pi * ((m : ℝ) / (N : ℝ)) = (n : ℝ) * (2 * Real.pi) := by exact_mod_cast hI
      have hp : (2 * Real.pi) ≠ 0 := by positivity
      have hm : (m : ℝ) = (N : ℝ) * (n : ℝ) := by
        have : (m : ℝ) / (N : ℝ) = n := mul_left_cancel₀ hp (by rw [hr]; ring)
        rw [← this]; field_simp
      exact ⟨n, by exact_mod_cast hm⟩
    have hN1 : ω ^ N = 1 := by
      rw [hpow, Complex.exp_eq_one_iff]
      have hNc : (N : ℂ) ≠ 0 := by exact_mod_cast hN.ne'
      exact ⟨m, by push_cast; field_simp⟩
    have hs : ∑ f ∈ Finset.range N, ω ^ f = 0 := by rw [geom_sum_eq h1, hN1]; simp
    rw [Finset.sum_range] at hs
    have hre := congrArg Complex.re hs
    rw [Complex.re_sum] at hre
    rw [Complex.zero_re] at hre
    rw [← hre]
    refine Finset.sum_congr rfl fun f _ => ?_
    rw [hpow, Complex.exp_ofReal_mul_I_re]

/-- The circular cross-correlation at delay `n`. -/
def circ {N : ℕ} (hN : 0 < N) (q k : Fin N → ℝ) (n : ℕ) : ℝ := ∑ s : Fin N, q ⟨(s.val + n) % N, Nat.mod_lt _ hN⟩ * k s

/-- Transforming, multiplying by the conjugate and transforming back correlates. -/
theorem dft_circ {N : ℕ} (hN : 0 < N) (q k : Fin N → ℝ) (n : Fin N) :
    ((∑ f : Fin N, ((∑ t : Fin N, q t * Real.cos (ang N t.val f.val)) * (∑ t : Fin N, k t * Real.cos (ang N t.val f.val))
          + (-∑ t : Fin N, q t * Real.sin (ang N t.val f.val)) * (-∑ t : Fin N, k t * Real.sin (ang N t.val f.val))) * Real.cos (ang N f.val n.val))
      - (∑ f : Fin N, ((-∑ t : Fin N, q t * Real.sin (ang N t.val f.val)) * (∑ t : Fin N, k t * Real.cos (ang N t.val f.val))
          - (∑ t : Fin N, q t * Real.cos (ang N t.val f.val)) * (-∑ t : Fin N, k t * Real.sin (ang N t.val f.val))) * Real.sin (ang N f.val n.val))) / (N : ℝ)
      = circ hN q k n.val := by
  have hN' : (N : ℝ) ≠ 0 := by exact_mod_cast hN.ne'
  have key : ∀ f : Fin N, ((∑ t : Fin N, q t * Real.cos (ang N t.val f.val)) * (∑ t : Fin N, k t * Real.cos (ang N t.val f.val))
          + (-∑ t : Fin N, q t * Real.sin (ang N t.val f.val)) * (-∑ t : Fin N, k t * Real.sin (ang N t.val f.val))) * Real.cos (ang N f.val n.val)
        - ((-∑ t : Fin N, q t * Real.sin (ang N t.val f.val)) * (∑ t : Fin N, k t * Real.cos (ang N t.val f.val))
          - (∑ t : Fin N, q t * Real.cos (ang N t.val f.val)) * (-∑ t : Fin N, k t * Real.sin (ang N t.val f.val))) * Real.sin (ang N f.val n.val)
      = ∑ t : Fin N, ∑ s : Fin N, (q t * k s) * Real.cos (2 * Real.pi * ((((t.val : ℤ) - s.val - n.val : ℤ) : ℝ) * (f.val : ℝ) / (N : ℝ))) := by
    intro f
    have e : ∀ t s : Fin N, Real.cos (2 * Real.pi * ((((t.val : ℤ) - s.val - n.val : ℤ) : ℝ) * (f.val : ℝ) / (N : ℝ)))
        = (Real.cos (ang N t.val f.val) * Real.cos (ang N s.val f.val) + Real.sin (ang N t.val f.val) * Real.sin (ang N s.val f.val)) * Real.cos (ang N f.val n.val)
          + (Real.sin (ang N t.val f.val) * Real.cos (ang N s.val f.val) - Real.cos (ang N t.val f.val) * Real.sin (ang N s.val f.val)) * Real.sin (ang N f.val n.val) := by
      intro t s
      rw [← Real.cos_sub, ← Real.sin_sub, ← Real.cos_sub]
      congr 1
      unfold ang
      push_cast; ring
    simp only [e]
    have hs : ∀ a b : Fin N → ℝ, (∑ t : Fin N, a t) * (∑ s : Fin N, b s) = ∑ t : Fin N, ∑ s : Fin N, a t * b s := fun a b => Finset.sum_mul_sum _ _ _ _
    have e2 : ∀ t s : Fin N, (q t * k s) * ((Real.cos (ang N t.val f.val) * Real.cos (ang N s.val f.val) + Real.sin (ang N t.val f.val) * Real.sin (ang N s.val f.val)) * Real.cos (ang N f.val n.val)
          + (Real.sin (ang N t.val f.val) * Real.cos (ang N s.val f.val) - Real.cos (ang N t.val f.val) * Real.sin (ang N s.val f.val)) * Real.sin (ang N f.val n.val))
        = ((q t * Real.cos (ang N t.val f.val)) * (k s * Real.cos (ang N s.val f.val)) + (q t * Real.sin (ang N t.val f.val)) * (k s * Real.sin (ang N s.val f.val))) * Real.cos (ang N f.val n.val)
          + ((q t * Real.sin (ang N t.val f.val)) * (k s * Real.cos (ang N s.val f.val)) - (q t * Real.cos (ang N t.val f.val)) * (k s * Real.sin (ang N s.val f.val))) * Real.sin (ang N f.val n.val) := by
      intro t s; ring
    simp only [e2, Finset.sum_add_distrib, Finset.sum_sub_distrib, ← Finset.sum_mul, ← hs]
    ring
  rw [← Finset.sum_sub_distrib, Finset.sum_congr rfl fun f _ => key f]
  have hsw : (∑ f : Fin N, ∑ t : Fin N, ∑ s : Fin N, (q t * k s) * Real.cos (2 * Real.pi * ((((t.val : ℤ) - s.val - n.val : ℤ) : ℝ) * (f.val : ℝ) / (N : ℝ))))
      = ∑ s : Fin N, ∑ t : Fin N, (q t * k s) * (if (N : ℤ) ∣ ((t.val : ℤ) - s.val - n.val) then (N : ℝ) else 0) := by
    rw [Finset.sum_comm]
    rw [Finset.sum_congr rfl fun t _ => Finset.sum_comm]
    rw [Finset.sum_comm]
    refine Finset.sum_congr rfl fun s _ => Finset.sum_congr rfl fun t _ => ?_
    rw [← Finset.mul_sum, sum_cos N hN]
  rw [hsw, Finset.sum_div]
  unfold circ
  refine Finset.sum_congr rfl fun s _ => ?_
  rw [Finset.sum_eq_single ⟨(s.val + n.val) % N, Nat.mod_lt _ hN⟩]
  · rw [if_pos]
    · field_simp
    · show (N : ℤ) ∣ (((s.val + n.val) % N : ℕ) : ℤ) - s.val - n.val
      have h := Int.emod_add_mul_ediv ((s.val : ℤ) + n.val) N
      refine ⟨-(((s.val : ℤ) + n.val) / N), ?_⟩
      push_cast
      linarith
  · intro t _ ht
    rw [if_neg, mul_zero]
    intro hd
    apply ht
    apply Fin.ext
    show t.val = (s.val + n.val) % N
    have hm : ((t.val : ℤ)) % N = ((s.val : ℤ) + n.val) % N := by
      rw [Int.emod_eq_emod_iff_emod_sub_eq_zero]
      apply Int.emod_eq_zero_of_dvd
      rwa [← sub_sub]
    have h2 : t.val % N = (s.val + n.val) % N := by exact_mod_cast hm
    rwa [Nat.mod_eq_of_lt t.isLt] at h2
  · intro h; exact absurd (Finset.mem_univ _) h

end Cert.Alg

end
-- ==== Proof.Alg.RDft.lean ====
/- The reference's correlation over the reals: the transforms multiplied and taken back are the circular correlation. -/
module

public import proofs.«01_k».proof.Proof.Gen.ReferenceIdeal.Read
public import proofs.«01_k».proof.Proof.Alg.Fourier
public import proofs.«01_k».proof.Proof.Alg.CorrTile

@[expose] public section

set_option maxRecDepth 16384

noncomputable section

namespace Cert.Alg

open Cert.ReferenceIdeal
open Cert.ReferenceIdeal.Gen Cert.ReferenceIdeal.Read
open Idealize.ShloMosaic Idealize.ShloMosaic.TcCoe Idealize.ShloMosaic.Tactic
open Idealize.ShloMosaic.ValueIdx

theorem lit_real (w : BitVec 32) (r : ℝ) (h : Ideal.ofBits .f32 w = ((r : ℝ) : EReal)) {s : Shape} (i : s.Idx) : (constant (F := Ideal) s .f32 w i : EReal) = ((r : ℝ) : EReal) := h

theorem lit_4096 : Ideal.ofBits .f32 0x45800000#32 = ((4096 : ℝ) : EReal) := by
  simp [Ideal.ofBits, Ideal.ieee, -EReal.coe_mul]; norm_num
theorem lit_12 : Ideal.ofBits .f32 0x41400000#32 = ((12 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num

theorem div_real (x y : ℝ) (h : y ≠ 0) : Ideal.div ((x : ℝ) : EReal) ((y : ℝ) : EReal) = ((x / y : ℝ) : EReal) := by
  rw [Ideal.div_coe h, ← EReal.coe_mul]
  exact congrArg _ (by rw [mul_one_div])

theorem two_pi_real (i : S_.Idx) : (val_main_v6 (F := Ideal) i : EReal) = ((2 * Real.pi : ℝ) : EReal) := by
  have e5 : (val_main_v5 (F := Ideal) i : EReal) = ((Real.pi : ℝ) : EReal) := by
    have e : (val_main_v5 (F := Ideal) i : EReal) = Ideal.acos (Ideal.ofBits .f32 0xBF800000#32) := rfl
    rw [e, lit_neg_one, Ideal.acos_coe, if_pos ⟨le_refl _, by norm_num⟩, Real.arccos_neg_one]
  have e6 : (val_main_v6 (F := Ideal) i : EReal) = (Ideal.ofBits .f32 0x40000000#32 : EReal) * (val_main_v5 (F := Ideal) i : EReal) := rfl
  rw [e6, e5, lit_2, ← EReal.coe_mul]

/-- The words are the products of the two positions. -/
theorem word_real (t f : ℕ) (ht : t < 4096) (hf : f < 4096) :
    ((IntOp.muli (BitVec.ofNat 32 t) (BitVec.ofNat 32 f)).toInt : ℝ) = (t : ℝ) * (f : ℝ) := by
  have hb : t * f < 4096 * 4096 := Nat.mul_lt_mul'' ht hf
  have e : IntOp.muli (BitVec.ofNat 32 t) (BitVec.ofNat 32 f) = BitVec.ofNat 32 (t * f) := by
    show BitVec.ofNat 32 t * BitVec.ofNat 32 f = _
    rw [BitVec.ofNat_mul]
  have h1 : (BitVec.ofNat 32 (t * f)).toInt = ((t * f : ℕ) : ℤ) := by
    rw [BitVec.toInt_eq_toNat_cond, BitVec.toNat_ofNat, Nat.mod_eq_of_lt (by omega), if_pos (by omega)]
  rw [e, h1]
  push_cast
  ring

theorem angle_real (i : S4096x4096.Idx) : (val_main_v12 (F := Ideal) i : EReal) = ((ang 4096 (i 0).val (i 1).val : ℝ) : EReal) := by
  have e8 : (val_main_v8 (F := Ideal) i : EReal) = (((i 0).val * (i 1).val : ℝ) : EReal) :=
    congrArg (fun r : ℝ => (r : EReal)) (word_real (i 0).val (i 1).val (i 0).isLt (i 1).isLt)
  have e9 : (val_main_v9 (F := Ideal) i : EReal) = ((4096 : ℝ) : EReal) := (val_main_v9_apply i).trans lit_4096
  have e10 : (val_main_v10 (F := Ideal) i : EReal) = (((i 0).val * (i 1).val / 4096 : ℝ) : EReal) := by
    have e : (val_main_v10 (F := Ideal) i : EReal) = Ideal.div (val_main_v8 (F := Ideal) i) (val_main_v9 (F := Ideal) i) := rfl
    rw [e, e8, e9, div_real _ _ (by norm_num)]
  have e11 : (val_main_v11 (F := Ideal) i : EReal) = ((2 * Real.pi : ℝ) : EReal) := (val_main_v11_apply i).trans (two_pi_real _)
  have e : (val_main_v12 (F := Ideal) i : EReal) = (val_main_v11 (F := Ideal) i : EReal) * (val_main_v10 (F := Ideal) i : EReal) := rfl
  rw [e, e10, e11, ← EReal.coe_mul]
  unfold ang
  norm_num

theorem cos_real (i : S4096x4096.Idx) : (val_main_v13 (F := Ideal) i : EReal) = ((Real.cos (ang 4096 (i 0).val (i 1).val) : ℝ) : EReal) := by
  have e : (val_main_v13 (F := Ideal) i : EReal) = Ideal.cos (val_main_v12 (F := Ideal) i) := rfl
  rw [e, angle_real]
  rfl

theorem sin_real (i : S4096x4096.Idx) : (val_main_v14 (F := Ideal) i : EReal) = ((Real.sin (ang 4096 (i 0).val (i 1).val) : ℝ) : EReal) := by
  have e : (val_main_v14 (F := Ideal) i : EReal) = Ideal.sin (val_main_v12 (F := Ideal) i) := rfl
  rw [e, angle_real]
  rfl

/-- One head and channel of an argument, along the sequence. -/
def line (x : S4x4096x12x64.Idx → ℝ) (b : Fin 4) (h : Fin 12) (e : Fin 64) (t : Fin 4096) : ℝ := x (ix4 b t h e)

/-- A real contraction against the cosines or the sines. -/
theorem dot_real {y z : Fin 4096 → EReal} {a c : Fin 4096 → ℝ} (hy : ∀ t, y t = ((a t : ℝ) : EReal)) (hz : ∀ t, z t = ((c t : ℝ) : EReal)) :
    ∑ t, y t * z t = ((∑ t, a t * c t : ℝ) : EReal) := by
  rw [coe_sum]
  exact Finset.sum_congr rfl fun t _ => by rw [hy, hz, EReal.coe_mul]

variable {x0 x1 : S4x4096x12x64.Idx → EReal} {q k : S4x4096x12x64.Idx → ℝ}
variable (hq : ∀ i, x0 i = ((q i : ℝ) : EReal)) (hk : ∀ i, x1 i = ((k i : ℝ) : EReal))

/-- A transform's real part. -/
def re (x : S4x4096x12x64.Idx → ℝ) (b : Fin 4) (h : Fin 12) (e : Fin 64) (f : Fin 4096) : ℝ :=
  ∑ t : Fin 4096, line x b h e t * Real.cos (ang 4096 t.val f.val)

/-- A transform's imaginary part, negated. -/
def im (x : S4x4096x12x64.Idx → ℝ) (b : Fin 4) (h : Fin 12) (e : Fin 64) (f : Fin 4096) : ℝ :=
  ∑ t : Fin 4096, line x b h e t * Real.sin (ang 4096 t.val f.val)

include hq in
theorem v15_real (b : Fin 4) (h : Fin 12) (e : Fin 64) (f : Fin 4096) : (val_main_v15 (F := Ideal) x0 (ix4 b h e f) : EReal) = ((re q b h e f : ℝ) : EReal) :=
  (val_main_v15_apply x0 _).trans (dot_real (fun t => (val_main_v0_apply (F := Ideal) x0 _).trans ((congrArg x0 (funext fun a => by match a with | ⟨0, _⟩ => rfl | ⟨1, _⟩ => rfl | ⟨2, _⟩ => rfl | ⟨3, _⟩ => rfl)).trans (hq (ix4 b t h e)))) fun t => cos_real _)

include hq in
theorem v16_real (b : Fin 4) (h : Fin 12) (e : Fin 64) (f : Fin 4096) : (val_main_v16 (F := Ideal) x0 (ix4 b h e f) : EReal) = ((im q b h e f : ℝ) : EReal) :=
  (val_main_v16_apply x0 _).trans (dot_real (fun t => (val_main_v0_apply (F := Ideal) x0 _).trans ((congrArg x0 (funext fun a => by match a with | ⟨0, _⟩ => rfl | ⟨1, _⟩ => rfl | ⟨2, _⟩ => rfl | ⟨3, _⟩ => rfl)).trans (hq (ix4 b t h e)))) fun t => sin_real _)

include hk in
theorem v18_real (b : Fin 4) (h : Fin 12) (e : Fin 64) (f : Fin 4096) : (val_main_v18 (F := Ideal) x1 (ix4 b h e f) : EReal) = ((re k b h e f : ℝ) : EReal) :=
  (val_main_v18_apply x1 _).trans (dot_real (fun t => (val_main_v1_apply (F := Ideal) x1 _).trans ((congrArg x1 (funext fun a => by match a with | ⟨0, _⟩ => rfl | ⟨1, _⟩ => rfl | ⟨2, _⟩ => rfl | ⟨3, _⟩ => rfl)).trans (hk (ix4 b t h e)))) fun t => cos_real _)

include hk in
theorem v19_real (b : Fin 4) (h : Fin 12) (e : Fin 64) (f : Fin 4096) : (val_main_v19 (F := Ideal) x1 (ix4 b h e f) : EReal) = ((im k b h e f : ℝ) : EReal) :=
  (val_main_v19_apply x1 _).trans (dot_real (fun t => (val_main_v1_apply (F := Ideal) x1 _).trans ((congrArg x1 (funext fun a => by match a with | ⟨0, _⟩ => rfl | ⟨1, _⟩ => rfl | ⟨2, _⟩ => rfl | ⟨3, _⟩ => rfl)).trans (hk (ix4 b t h e)))) fun t => sin_real _)

include hq hk in
/-- The product's real part. -/
theorem v23_real (b : Fin 4) (h : Fin 12) (e : Fin 64) (f : Fin 4096) :
    (val_main_v23 (F := Ideal) x0 x1 (ix4 b h e f) : EReal) = ((re q b h e f * re k b h e f + (-im q b h e f) * (-im k b h e f) : ℝ) : EReal) := by
  have e' : (val_main_v23 (F := Ideal) x0 x1 (ix4 b h e f) : EReal)
      = (val_main_v15 (F := Ideal) x0 (ix4 b h e f) : EReal) * val_main_v18 (F := Ideal) x1 (ix4 b h e f)
        + (-(val_main_v16 (F := Ideal) x0 (ix4 b h e f) : EReal)) * (-(val_main_v19 (F := Ideal) x1 (ix4 b h e f) : EReal)) := rfl
  rw [e', v15_real hq, v16_real hq, v18_real hk, v19_real hk]
  push_cast
  rfl

include hq hk in
/-- The product's imaginary part. -/
theorem v26_real (b : Fin 4) (h : Fin 12) (e : Fin 64) (f : Fin 4096) :
    (val_main_v26 (F := Ideal) x0 x1 (ix4 b h e f) : EReal) = (((-im q b h e f) * re k b h e f - re q b h e f * (-im k b h e f) : ℝ) : EReal) := by
  have e' : (val_main_v26 (F := Ideal) x0 x1 (ix4 b h e f) : EReal)
      = (-(val_main_v16 (F := Ideal) x0 (ix4 b h e f) : EReal)) * val_main_v18 (F := Ideal) x1 (ix4 b h e f)
        - (val_main_v15 (F := Ideal) x0 (ix4 b h e f) : EReal) * (-(val_main_v19 (F := Ideal) x1 (ix4 b h e f) : EReal)) := rfl
  rw [e', v15_real hq, v16_real hq, v18_real hk, v19_real hk]
  push_cast
  rfl

include hq hk in
/-- One head and channel's correlation at a delay. -/
theorem v31_real (b : Fin 4) (h : Fin 12) (e : Fin 64) (n : Fin 4096) :
    (val_main_v31 (F := Ideal) x0 x1 (ix4 b h e n) : EReal) = ((circ (by decide : 0 < 4096) (line q b h e) (line k b h e) n.val : ℝ) : EReal) := by
  have e27 : (val_main_v27 (F := Ideal) x0 x1 (ix4 b h e n) : EReal)
      = ((∑ f : Fin 4096, (re q b h e f * re k b h e f + (-im q b h e f) * (-im k b h e f)) * Real.cos (ang 4096 f.val n.val) : ℝ) : EReal) :=
    (val_main_v27_apply x0 x1 _).trans (dot_real (fun f => (congrArg (val_main_v23 (F := Ideal) x0 x1) (funext fun a => by match a with | ⟨0, _⟩ => rfl | ⟨1, _⟩ => rfl | ⟨2, _⟩ => rfl | ⟨3, _⟩ => rfl)).trans (v23_real hq hk b h e f)) fun f => cos_real _)
  have e28 : (val_main_v28 (F := Ideal) x0 x1 (ix4 b h e n) : EReal)
      = ((∑ f : Fin 4096, ((-im q b h e f) * re k b h e f - re q b h e f * (-im k b h e f)) * Real.sin (ang 4096 f.val n.val) : ℝ) : EReal) :=
    (val_main_v28_apply x0 x1 _).trans (dot_real (fun f => (congrArg (val_main_v26 (F := Ideal) x0 x1) (funext fun a => by match a with | ⟨0, _⟩ => rfl | ⟨1, _⟩ => rfl | ⟨2, _⟩ => rfl | ⟨3, _⟩ => rfl)).trans (v26_real hq hk b h e f)) fun f => sin_real _)
  have e30 : (val_main_v30 (F := Ideal) (ix4 b h e n) : EReal) = ((4096 : ℝ) : EReal) := (val_main_v30_apply _).trans lit_4096
  have e' : (val_main_v31 (F := Ideal) x0 x1 (ix4 b h e n) : EReal)
      = Ideal.div ((val_main_v27 (F := Ideal) x0 x1 (ix4 b h e n) : EReal) - (val_main_v28 (F := Ideal) x0 x1 (ix4 b h e n) : EReal)) (val_main_v30 (F := Ideal) (ix4 b h e n) : EReal) := rfl
  rw [e', e27, e28, e30, ← EReal.coe_sub, div_real _ _ (by norm_num)]
  refine congrArg _ (Eq.trans ?_ (dft_circ (by decide : 0 < 4096) (line q b h e) (line k b h e) n))
  norm_num [re, im]

end Cert.Alg

end
-- ==== Proof.Alg.RMean.lean ====
/- The reference's averaged correlation over the reals: the kernel's sum over heads and channels, divided by their number. -/
module

public import proofs.«01_k».proof.Proof.Alg.RDft
public import proofs.«01_k».proof.Proof.Alg.CorrIn

@[expose] public section

set_option maxRecDepth 16384

noncomputable section

namespace Cert.Alg

open Cert.ReferenceIdeal
open Cert.ReferenceIdeal.Gen Cert.ReferenceIdeal.Read
open Idealize.ShloMosaic Idealize.ShloMosaic.TcCoe Idealize.ShloMosaic.Tactic
open Idealize.ShloMosaic.ValueIdx

/-- Summing over heads and channels is summing over flat channels. -/
theorem sum_flat (f : Fin 12 → Fin 64 → ℝ) :
    ∑ d : Fin 768, f (⟨d.val / 64, by have := d.isLt; omega⟩ : Fin 12) (⟨d.val % 64, Nat.mod_lt _ (by decide)⟩ : Fin 64) = ∑ e : Fin 64, ∑ h : Fin 12, f h e := by
  rw [Finset.sum_comm, ← Finset.sum_product' (s := Finset.univ) (t := Finset.univ), Finset.univ_product_univ,
    ← Equiv.sum_comp (finProdFinEquiv (m := 12) (n := 64))]
  refine Finset.sum_congr rfl fun p _ => ?_
  have h1 := p.1.isLt
  have h2 := p.2.isLt
  refine congr (congrArg f (Fin.ext ?_)) (Fin.ext ?_)
  · show (p.2.val + 64 * p.1.val) / 64 = p.1.val
    omega
  · show (p.2.val + 64 * p.1.val) % 64 = p.2.val
    omega

/-- The circular correlations of all heads and channels add up to the kernel's sum. -/
theorem sum_circ (q k : S4x4096x12x64.Idx → ℝ) (b : Fin 4) (n : ℕ) :
    ∑ e : Fin 64, ∑ h : Fin 12, circ (by decide : 0 < 4096) (line q b h e) (line k b h e) n = corrR (flatR q) (flatR k) b n := by
  refine (sum_flat fun h e => circ (by decide : 0 < 4096) (line q b h e) (line k b h e) n).symm.trans ?_
  refine Eq.trans ?_ (Finset.sum_comm (s := (Finset.univ : Finset (Fin 768))) (t := (Finset.univ : Finset (Fin 4096))))
  refine Finset.sum_congr rfl fun d _ => ?_
  unfold circ
  refine Finset.sum_congr rfl fun s _ => ?_
  have hs := s.isLt
  have e1 : (⟨s.val % 4096, Nat.mod_lt _ (by decide)⟩ : Fin 4096) = s := Fin.ext (Nat.mod_eq_of_lt hs)
  have e2 : (⟨(s.val + n) % 4096 % 4096, Nat.mod_lt _ (by decide)⟩ : Fin 4096) = ⟨(s.val + n) % 4096, Nat.mod_lt _ (by decide)⟩ := Fin.ext (Nat.mod_mod _ _)
  unfold line flatR
  rw [e1, e2, mul_comm]

variable {x0 x1 : S4x4096x12x64.Idx → EReal} {q k : S4x4096x12x64.Idx → ℝ}
variable (hq : ∀ i, x0 i = ((q i : ℝ) : EReal)) (hk : ∀ i, x1 i = ((k i : ℝ) : EReal))

/-- A real sum started from nothing. -/
theorem sum_from_zero {ι : Type} [Fintype ι] {z : EReal} (hz : z = 0) {y : ι → EReal} {a : ι → ℝ} (hy : ∀ i, y i = ((a i : ℝ) : EReal)) :
    z + ∑ i, y i = ((∑ i, a i : ℝ) : EReal) := by
  rw [hz, zero_add, coe_sum]
  exact Finset.sum_congr rfl fun i _ => hy i

include hq hk in
theorem v34_real (b : Fin 4) (e : Fin 64) (n : Fin 4096) :
    (val_main_v34 (F := Ideal) x0 x1 (ix3 b e n) : EReal) = (((∑ h : Fin 12, circ (by decide : 0 < 4096) (line q b h e) (line k b h e) n.val) / 12 : ℝ) : EReal) := by
  have e32 := (val_main_v32_apply x0 x1 (ix3 b e n)).trans (sum_from_zero Ideal.ofBits_zero_f32 fun h =>
    (congrArg (val_main_v31 (F := Ideal) x0 x1) (funext fun a => by match a with | ⟨0, _⟩ => rfl | ⟨1, _⟩ => rfl | ⟨2, _⟩ => rfl | ⟨3, _⟩ => rfl)).trans (v31_real hq hk b h e n))
  have e33 : (val_main_v33 (F := Ideal) (ix3 b e n) : EReal) = ((12 : ℝ) : EReal) := (val_main_v33_apply _).trans lit_12
  have e' : (val_main_v34 (F := Ideal) x0 x1 (ix3 b e n) : EReal)
      = Ideal.div (val_main_v32 (F := Ideal) x0 x1 (ix3 b e n)) (val_main_v33 (F := Ideal) (ix3 b e n)) := rfl
  rw [e', e32, e33, div_real _ _ (by norm_num)]

include hq hk in
/-- The averaged correlation of a batch entry at a delay. -/
theorem mean_real (b : Fin 4) (n : Fin 4096) :
    (val_main_v37 (F := Ideal) x0 x1 (ix2 b n) : EReal) = ((corrR (flatR q) (flatR k) b n.val * (1 / 768) : ℝ) : EReal) := by
  have e35 := (val_main_v35_apply x0 x1 (ix2 b n)).trans (sum_from_zero Ideal.ofBits_zero_f32 fun e =>
    (congrArg (val_main_v34 (F := Ideal) x0 x1) (funext fun a => by match a with | ⟨0, _⟩ => rfl | ⟨1, _⟩ => rfl | ⟨2, _⟩ => rfl)).trans (v34_real hq hk b e n))
  have e36 : (val_main_v36 (F := Ideal) (ix2 b n) : EReal) = ((64 : ℝ) : EReal) := (val_main_v36_apply _).trans lit_64
  have e' : (val_main_v37 (F := Ideal) x0 x1 (ix2 b n) : EReal)
      = Ideal.div (val_main_v35 (F := Ideal) x0 x1 (ix2 b n)) (val_main_v36 (F := Ideal) (ix2 b n)) := rfl
  rw [e', e35, e36, div_real _ _ (by norm_num), ← sum_circ, ← Finset.sum_div]
  exact congrArg _ (by ring)

include hq hk in
/-- The average over the batch at a delay: what the delays are picked from. -/
theorem pooled_real (n : Fin 4096) :
    (val_main_v40 (F := Ideal) x0 x1 (ix1 n) : EReal) = ((1 / 3072 * ∑ b : Fin 4, corrR (flatR q) (flatR k) b n.val : ℝ) : EReal) := by
  have e38 := (val_main_v38_apply x0 x1 (ix1 n)).trans (sum_from_zero Ideal.ofBits_zero_f32 fun b =>
    (congrArg (val_main_v37 (F := Ideal) x0 x1) (funext fun a => by match a with | ⟨0, _⟩ => rfl | ⟨1, _⟩ => rfl)).trans (mean_real hq hk b n))
  have e39 : (val_main_v39 (F := Ideal) (ix1 n) : EReal) = ((4 : ℝ) : EReal) := (val_main_v39_apply _).trans lit_4
  have e' : (val_main_v40 (F := Ideal) x0 x1 (ix1 n) : EReal)
      = Ideal.div (val_main_v38 (F := Ideal) x0 x1 (ix1 n)) (val_main_v39 (F := Ideal) (ix1 n)) := rfl
  rw [e', e38, e39, div_real _ _ (by norm_num), ← Finset.sum_mul]
  exact congrArg _ (by ring)

end Cert.Alg

end
-- ==== Proof.Alg.RPick.lean ====
/- The reference's delays over the reals are the picks from the sums, and its weights the averaged correlations there. -/
module

public import proofs.«01_k».proof.Proof.Alg.RMean
public import proofs.«01_k».proof.Proof.Alg.Picks
public import Idealize.ShloMosaic.Lib.DynamicIndex
public import Idealize.ShloMosaic.Lib.Pipeline.Value

@[expose] public section

set_option maxRecDepth 16384

noncomputable section

namespace Cert.Alg

open Cert.ReferenceIdeal
open Cert.ReferenceIdeal.Gen Cert.ReferenceIdeal.Read
open Idealize.ShloMosaic Idealize.ShloMosaic.TcCoe Idealize.ShloMosaic.Tactic
open Idealize.ShloMosaic.ValueIdx

/-- The positions of the largest elements of a vector: those a stable descending sort puts first. -/
theorem topK_apply {N K : ℕ} (hK : K ≤ N) (gt : EReal → EReal → BitVec 1) (x : (⟨1, ![N]⟩ : Shape).Idx → EReal)
    (h : (⟨1, ![N]⟩ : Shape).Slices (fun _ => 0) ⟨1, ![K]⟩) (k : Fin K) :
    (Host.topK (s := ⟨1, ![N]⟩) ⟨1, ![K]⟩ 0 gt x h).2 (ix1 k)
      = BitVec.ofNat 32 (sortedFrom (fun a b : Fin N => gt (x (ix1 a)) (x (ix1 b)) == 1#1) ⟨k.val, k.isLt.trans_le hK⟩).val := by
  unfold Host.topK
  show extractStridedSlice ⟨1, ![K]⟩ (fun _ => 0) (Host.sort2 ⟨1, ![N]⟩ 0 (fun l r => gt l.1 r.1) x
    (fun i => if hd : 0 < (⟨1, ![N]⟩ : Shape).rank then iotaInDim (⟨1, ![N]⟩ : Shape) 32 ⟨0, hd⟩ i else 0#32)).2 h (ix1 k) = _
  refine (extractStridedSlice_apply _ _ h (ix1 k) (ix1 ⟨k.val, k.isLt.trans_le hK⟩) fun a => ?_).trans ?_
  · match a with
    | ⟨0, _⟩ => exact (Nat.zero_add _).symm
  · unfold Host.sort2
    rw [dif_pos (show 0 < (⟨1, ![N]⟩ : Shape).rank from Nat.one_pos)]
    show (if hd : 0 < (⟨1, ![N]⟩ : Shape).rank then iotaInDim (⟨1, ![N]⟩ : Shape) 32 ⟨0, hd⟩ _ else 0#32) = _
    rw [dif_pos (show 0 < (⟨1, ![N]⟩ : Shape).rank from Nat.one_pos)]
    show BitVec.ofNat 32 _ = BitVec.ofNat 32 _
    refine congrArg (BitVec.ofNat 32) ?_
    have e : ∀ a : Fin N, (Shape.Idx.along (s := ⟨1, ![N]⟩) (ix1 (⟨k.val, k.isLt.trans_le hK⟩ : Fin N)) (0 : Fin 1) a) = ix1 a := fun a => by
      rw [Shape.Idx.along_rank1]
      funext b
      match b with
      | ⟨0, _⟩ => rfl
    refine (congrArg (fun i : (⟨1, ![N]⟩ : Shape).Idx => (i 0).val) (e _)).trans ?_
    show (sortedFrom _ _).val = (sortedFrom _ _).val
    refine congrArg (fun f : Fin N → Fin N → Bool => (sortedFrom f ⟨k.val, k.isLt.trans_le hK⟩).val) (funext fun a => funext fun b => ?_)
    show (gt (x (Shape.Idx.along (s := ⟨1, ![N]⟩) (ix1 (⟨k.val, k.isLt.trans_le hK⟩ : Fin N)) (0 : Fin 1) a))
      (x (Shape.Idx.along (s := ⟨1, ![N]⟩) (ix1 (⟨k.val, k.isLt.trans_le hK⟩ : Fin N)) (0 : Fin 1) b)) == 1#1) = _
    rw [e a, e b]

/-- The order the delays are sorted in. -/
def beforeR (x0 x1 : S4x4096x12x64.Idx → EReal) (a b : Fin 4096) : Bool :=
  FloatOps.cmpfTotal (F := Ideal) (φ := .f32) .gt (val_main_v40 (F := Ideal) x0 x1 (ix1 a)) (val_main_v40 (F := Ideal) x0 x1 (ix1 b)) == 1#1

/-- The delay that the reference picks in round `k`. -/
def refAt (x0 x1 : S4x4096x12x64.Idx → EReal) (k : Fin 8) : Fin 4096 := sortedFrom (beforeR x0 x1) ⟨k.val, by have := k.isLt; omega⟩

theorem indices_apply (x0 x1 : S4x4096x12x64.Idx → EReal) (k : Fin 8) :
    val_main_indices (F := Ideal) x0 x1 (ix1 k) = BitVec.ofNat 32 (refAt x0 x1 k).val := by
  unfold val_main_indices refAt beforeR
  generalize val_main_v40 (F := Ideal) x0 x1 = y
  exact topK_apply (by decide) _ y sliceFits_S4096_S8 k

variable {x0 x1 : S4x4096x12x64.Idx → EReal} {q k : S4x4096x12x64.Idx → ℝ}
variable (hq : ∀ i, x0 i = ((q i : ℝ) : EReal)) (hk : ∀ i, x1 i = ((k i : ℝ) : EReal))

theorem gt_iff (x y : ℝ) : (FloatOps.cmpfTotal (F := Ideal) (φ := .f32) .gt ((x : ℝ) : EReal) ((y : ℝ) : EReal) == 1#1) = true ↔ y < x := by
  have e : FloatOps.cmpfTotal (F := Ideal) (φ := .f32) .gt ((x : ℝ) : EReal) ((y : ℝ) : EReal) = BitVec.ofBool (decide (((y : ℝ) : EReal) < ((x : ℝ) : EReal))) := rfl
  rw [e]
  by_cases h : y < x
  · simp [h]
  · simp [h]

include hq hk in
/-- The reference's delays are the picks from the sums. -/
theorem ref_picks : Picks (fun n => ∑ b : Fin 4, corrR (flatR q) (flatR k) b n) (fun j => if h : j < 8 then (refAt x0 x1 ⟨j, h⟩).val else 0) 8 := by
  refine Picks.scale (1 / 3072) (by norm_num) (picks_sorted _ (beforeR x0 x1) (fun a b => ?_) _ 8 (by decide) fun j hj => ?_)
  · unfold beforeR
    rw [pooled_real hq hk a, pooled_real hq hk b]
    exact gt_iff _ _
  · rw [dif_pos hj]
    rfl

/-- A delay of the list, as a scalar. -/
def delayOf (t : S8.Idx → BitVec 32) (j : Fin 8) : S_.Idx → BitVec 32 :=
  shapeCast S_ (extractStridedSlice S1 ![j.val] t ⟨rfl, fun a => by match a with | ⟨0, _⟩ => exact (show j.val + 1 ≤ 8 by have := j.isLt; omega)⟩) shapeCasts_S1_S_

theorem delayOf_apply (t : S8.Idx → BitVec 32) (j : Fin 8) (i : S_.Idx) : delayOf t j i = t (ix1 j) := by
  unfold delayOf
  refine (shapeCast_apply _ shapeCasts_S1_S_ i (ix1 (0 : Fin 1)) ?_).trans ?_
  · exact Nat.lt_one_iff.mp (Shape.rowMajor _ _).isLt |>.trans (Nat.lt_one_iff.mp (Shape.rowMajor _ _).isLt).symm
  · refine extractStridedSlice_apply _ t _ _ (ix1 j) fun a => ?_
    match a with
    | ⟨0, _⟩ => rfl

/-- A column of the averaged correlations. -/
def colOf (y : S4x4096.Idx → EReal) (t : S8.Idx → BitVec 32) (j : Fin 8) : S4x1.Idx → EReal :=
  Host.dynamicSlice S4x1 y (fun a => (((![constantI S_ 32 0#32, delayOf t j] : Fin 2 → (⟨S_, .i32⟩ : BufTy).Contents (Elt Ideal))) a (Shape.Idx.first h_S_)).toInt) sliceFits_S4x4096_S4x1

theorem colOf_apply (y : S4x4096.Idx → EReal) (t : S8.Idx → BitVec 32) (j : Fin 8) (n : Fin 4096) (hn : t (ix1 j) = BitVec.ofNat 32 n.val) (b : Fin 4) :
    colOf y t j (ix2 b (0 : Fin 1)) = y (ix2 b n) := by
  have hlt := n.isLt
  have hsl : S4x4096.Slices ![0, n.val] S4x1 := ⟨rfl, fun a => by
    match a with
    | ⟨0, _⟩ => exact (show 0 + 4 ≤ 4 by omega)
    | ⟨1, _⟩ => exact (show n.val + 1 ≤ 4096 by omega)⟩
  unfold colOf
  rw [Host.dynamicSlice_eq_extractStridedSlice S4x1 y _ ![0, n.val] sliceFits_S4x4096_S4x1 hsl fun a => ?_]
  · refine extractStridedSlice_apply _ y _ _ (ix2 b n) fun a => ?_
    match a with
    | ⟨0, _⟩ => exact (Nat.zero_add _).symm
    | ⟨1, _⟩ => rfl
  · match a with
    | ⟨0, _⟩ => rfl
    | ⟨1, _⟩ =>
      show (delayOf t j _).toInt = ((n.val : ℕ) : ℤ)
      rw [delayOf_apply, hn]
      exact toInt_ofNat_of_lt (by omega)

theorem v65_cols (x0 x1 : S4x4096x12x64.Idx → EReal) (b : Fin 4) (j : Fin 8) :
    val_main_v65 (F := Ideal) x0 x1 (ix2 b j) = colOf (val_main_v37 (F := Ideal) x0 x1) (val_main_indices (F := Ideal) x0 x1) j (ix2 b (0 : Fin 1)) :=
  concatenate_ofFn_unit_apply (t := S4x8) (s₁ := S4x1) 1 (N := 8) (fun j : Fin 8 => colOf (val_main_v37 (F := Ideal) x0 x1) (val_main_indices (F := Ideal) x0 x1) j)
    concatenates_S4x1_S4x1_S4x1_S4x1_S4x1_S4x1_S4x1_S4x1_S4x8_d1 rfl rfl (ix2 b j) j rfl
    (ix2 b (0 : Fin 1)) fun a ha => by
      match a with
      | ⟨0, _⟩ => rfl
      | ⟨1, _⟩ => exact absurd rfl ha

include hq hk in
/-- The reference's weights before the softmax. -/
theorem v65_real (b : Fin 4) (j : Fin 8) :
    (val_main_v65 (F := Ideal) x0 x1 (ix2 b j) : EReal) = ((corrR (flatR q) (flatR k) b (refAt x0 x1 j).val * (1 / 768) : ℝ) : EReal) :=
  (v65_cols x0 x1 b j).trans ((colOf_apply _ _ j (refAt x0 x1 j) (indices_apply x0 x1 j) b).trans (mean_real hq hk b _))

end Cert.Alg

end
-- ==== Proof.Alg.RSoft.lean ====
/- The reference's weights: the softmax of a row. -/
module

public import proofs.«01_k».proof.Proof.Gen.ReferenceIdeal.Read
public import proofs.«01_k».proof.Proof.Alg.KSoft
public import Idealize.ShloMosaic.PureOps.Reduce

@[expose] public section

set_option maxRecDepth 16384

noncomputable section

namespace Cert.Alg

open Cert.ReferenceIdeal
open Cert.ReferenceIdeal.Gen Cert.ReferenceIdeal.Read
open Idealize.ShloMosaic Idealize.ShloMosaic.TcCoe Idealize.ShloMosaic.Tactic
open Idealize.ShloMosaic.ValueIdx

theorem exp_sub (a b : Ideal .f32) : (FloatOps.hostUnary .exp (FloatOps.subf a b) : Ideal .f32) = Ideal.exp ((a : EReal) - (b : EReal)) := rfl

theorem div_host (a b : Ideal .f32) : (FloatOps.hostDivf a b : Ideal .f32) = Ideal.div a b := rfl

theorem expN_eq (w : S4x8.Idx → EReal) (b : Fin 4) (j : Fin 8) : expN w b j = Ideal.exp (w (ix2 b j) - rowMax w b) := rfl

theorem softN_eq (w : S4x8.Idx → EReal) (b : Fin 4) (j : Fin 8) : softN w b j = Ideal.div (expN w b j) (∑ j' : Fin 8, expN w b j') := rfl

theorem idx4 (i : S4.Idx) (b : Fin 4) (h : (i 0).val = b.val) : i = ix1 b := by
  funext a
  match a with
  | ⟨0, _⟩ => exact Fin.ext h

variable (x0 x1 : S4x4096x12x64.Idx → EReal)

theorem v66_apply (b : Fin 4) : (val_main_v66 (F := Ideal) x0 x1 (ix1 b) : EReal) = rowMax (val_main_v65 (F := Ideal) x0 x1) b := by
  unfold val_main_v66
  generalize val_main_v65 (F := Ideal) x0 x1 = w
  refine (Host.reduce_eq_fold_single (FloatOps.maximumf (F := Ideal) (φ := .f32)) w _ reducesTo_S4x8_S4_d1 (by decide) h_S_ (ix1 b)).trans ?_
  have e0 : (val_main_cst_16 (F := Ideal) (Shape.Idx.first h_S_) : EReal) = ⊥ := ofBits_low
  unfold rowMax
  rw [← e0]
  refine Finset.fold_congr fun j _ => congrArg w (funext fun a => Fin.ext ?_)
  match a with
  | ⟨0, _⟩ => rfl
  | ⟨1, _⟩ => rfl

theorem v72_apply (b : Fin 4) (j : Fin 8) : (val_main_v72 (F := Ideal) x0 x1 (ix2 b j) : EReal) = expN (val_main_v65 (F := Ideal) x0 x1) b j := by
  have e68 : (val_main_v68 (F := Ideal) x0 x1 (ix1 b) : EReal) = rowMax (val_main_v65 (F := Ideal) x0 x1) b := by
    have e : (val_main_v68 (F := Ideal) x0 x1 (ix1 b) : EReal) = max (val_main_v67 (F := Ideal) (ix1 b) : EReal) (val_main_v66 (F := Ideal) x0 x1 (ix1 b) : EReal) := rfl
    have e67 : (val_main_v67 (F := Ideal) (ix1 b) : EReal) = ⊥ := (val_main_v67_apply _).trans ofBits_low
    rw [e, e67, v66_apply]
    exact max_eq_right bot_le
  have e70 : (val_main_v70 (F := Ideal) x0 x1 (ix2 b j) : EReal) = rowMax (val_main_v65 (F := Ideal) x0 x1) b := by
    have hi : idx_main_v69 (idx_main_v70 (ix2 b j)) = ix1 b := idx4 _ b rfl
    rw [val_main_v70_apply, val_main_v69_apply, hi]
    exact e68
  rw [val_main_v72_apply, val_main_v71_apply, exp_sub, e70]
  exact (expN_eq _ b j).symm

theorem v76_apply (b : Fin 4) (j : Fin 8) : (val_main_v76 (F := Ideal) x0 x1 (ix2 b j) : EReal) = softN (val_main_v65 (F := Ideal) x0 x1) b j := by
  have e73 : (val_main_v73 (F := Ideal) x0 x1 (ix1 b) : EReal) = ∑ j' : Fin 8, expN (val_main_v65 (F := Ideal) x0 x1) b j' := by
    have z : (val_main_cst_18 (F := Ideal) (Shape.Idx.first h_S_) : EReal) = 0 := Ideal.ofBits_zero_f32
    refine (val_main_v73_apply x0 x1 _).trans ?_
    rw [z, zero_add]
    refine Finset.sum_congr rfl fun j' _ => Eq.trans (congrArg (val_main_v72 (F := Ideal) x0 x1) (funext fun a => ?_)) (v72_apply x0 x1 b j')
    match a with
    | ⟨0, _⟩ => rfl
    | ⟨1, _⟩ => rfl
  have e75 : (val_main_v75 (F := Ideal) x0 x1 (ix2 b j) : EReal) = ∑ j' : Fin 8, expN (val_main_v65 (F := Ideal) x0 x1) b j' := by
    have hi : idx_main_v74 (idx_main_v75 (ix2 b j)) = ix1 b := idx4 _ b rfl
    rw [val_main_v75_apply, val_main_v74_apply, hi]
    exact e73
  rw [val_main_v76_apply, div_host, e75, v72_apply]
  exact (softN_eq _ b j).symm

end Cert.Alg

end
-- ==== Proof.Alg.RGather.lean ====
/- The reference's gathering: eight shifts of the doubled values, each times its weight. -/
module

public import proofs.«01_k».proof.Proof.Alg.RPick
public import proofs.«01_k».proof.Proof.Alg.RSoft
public import proofs.«01_k».proof.Proof.Alg.RunSum

@[expose] public section

set_option maxRecDepth 16384

noncomputable section

namespace Cert.Alg

open Cert.ReferenceIdeal
open Cert.ReferenceIdeal.Gen Cert.ReferenceIdeal.Read
open Idealize.ShloMosaic Idealize.ShloMosaic.TcCoe Idealize.ShloMosaic.Tactic
open Idealize.ShloMosaic.ValueIdx

/-- The doubled values from a delay on. -/
def shiftOf (y : S4x12x64x8192.Idx → EReal) (t : S8.Idx → BitVec 32) (j : Fin 8) : S4x12x64x4096.Idx → EReal :=
  Host.dynamicSlice S4x12x64x4096 y (fun k => (((![constantI S_ 32 0#32, constantI S_ 32 0#32, constantI S_ 32 0#32, delayOf t j] : Fin 4 → (⟨S_, .i32⟩ : BufTy).Contents (Elt Ideal))) k (Shape.Idx.first h_S_)).toInt) sliceFits_S4x12x64x8192_S4x12x64x4096

theorem shiftOf_apply (y : S4x12x64x8192.Idx → EReal) (t : S8.Idx → BitVec 32) (j : Fin 8) (n : Fin 4096) (hn : t (ix1 j) = BitVec.ofNat 32 n.val)
    (b : Fin 4) (h : Fin 12) (e : Fin 64) (l : Fin 4096) :
    shiftOf y t j (ix4 b h e l) = y (ix4 b h e (⟨l.val + n.val, by omega⟩ : Fin 8192)) := by
  have hlt := n.isLt
  have hsl : S4x12x64x8192.Slices ![0, 0, 0, n.val] S4x12x64x4096 := ⟨rfl, fun a => by
    match a with
    | ⟨0, _⟩ => exact (by decide : (0 + 4 ≤ 4))
    | ⟨1, _⟩ => exact (by decide : (0 + 12 ≤ 12))
    | ⟨2, _⟩ => exact (by decide : (0 + 64 ≤ 64))
    | ⟨3, _⟩ => exact (show n.val + 4096 ≤ 8192 by omega)⟩
  unfold shiftOf
  refine (congrFun (Host.dynamicSlice_eq_extractStridedSlice S4x12x64x4096 y _ ![0, 0, 0, n.val] sliceFits_S4x12x64x8192_S4x12x64x4096 hsl (fun a => ?_)) _).trans ?_
  · match a with
    | ⟨0, _⟩ => rfl
    | ⟨1, _⟩ => rfl
    | ⟨2, _⟩ => rfl
    | ⟨3, _⟩ =>
      show (delayOf t j _).toInt = ((n.val : ℕ) : ℤ)
      rw [delayOf_apply, hn]
      exact toInt_ofNat_of_lt (by omega)
  · refine extractStridedSlice_apply _ y _ _ _ fun a => ?_
    match a with
    | ⟨0, _⟩ => show b.val = 0 + b.val; omega
    | ⟨1, _⟩ => show h.val = 0 + h.val; omega
    | ⟨2, _⟩ => show e.val = 0 + e.val; omega
    | ⟨3, _⟩ => show l.val + n.val = n.val + l.val; omega

/-- A column of the weights, spread over the values. -/
def wideOf (w : S4x8.Idx → EReal) (j : Fin 8) : S4x12x64x4096.Idx → EReal :=
  broadcastInDim S4x12x64x4096 ![0, 1, 2, 3] bcast_S4x1x1x1_S4x12x64x4096_0_1_2_3
    (broadcastInDim S4x1x1x1 ![0] bcast_S4_S4x1x1x1_0
      (shapeCast S4 (extractStridedSlice S4x1 ![0, j.val] w ⟨rfl, fun a => by
        match a with
        | ⟨0, _⟩ => exact (by decide : (0 + 4 ≤ 4))
        | ⟨1, _⟩ => exact (show j.val + 1 ≤ 8 by have := j.isLt; omega)⟩) shapeCasts_S4x1_S4))

theorem wideOf_apply (w : S4x8.Idx → EReal) (j : Fin 8) (b : Fin 4) (h : Fin 12) (e : Fin 64) (l : Fin 4096) :
    wideOf w j (ix4 b h e l) = w (ix2 b j) := by
  unfold wideOf
  refine (broadcastInDim_apply _ _ _ _ (ix4 b (0 : Fin 1) (0 : Fin 1) (0 : Fin 1)) fun a => ?_).trans ?_
  · match a with
    | ⟨0, _⟩ => show b.val = if (4 : Nat) = 1 then 0 else b.val; rw [if_neg (by decide)]
    | ⟨1, _⟩ => show 0 = if (1 : Nat) = 1 then 0 else h.val; rw [if_pos rfl]
    | ⟨2, _⟩ => show 0 = if (1 : Nat) = 1 then 0 else e.val; rw [if_pos rfl]
    | ⟨3, _⟩ => show 0 = if (1 : Nat) = 1 then 0 else l.val; rw [if_pos rfl]
  refine (broadcastInDim_apply _ _ _ _ (ix1 b) fun a => ?_).trans ?_
  · match a with
    | ⟨0, _⟩ => show b.val = if (4 : Nat) = 1 then 0 else b.val; rw [if_neg (by decide)]
  refine (shapeCast_apply _ shapeCasts_S4x1_S4 (ix1 b) (ix2 b (0 : Fin 1)) ?_).trans ?_
  · rw [Shape.rowMajor_val_two, Shape.rowMajor_val_one]
    show b.val * 1 + 0 = b.val
    omega
  · refine extractStridedSlice_apply _ w _ _ (ix2 b j) fun a => ?_
    match a with
    | ⟨0, _⟩ => show b.val = 0 + b.val; omega
    | ⟨1, _⟩ => rfl

/-- The sum over the first `n` delays. -/
def accTo (y : S4x12x64x8192.Idx → EReal) (t : S8.Idx → BitVec 32) (w : S4x8.Idx → EReal) (z : FVec Ideal S4x12x64x4096 .f32) : (n : ℕ) → n ≤ 8 → FVec Ideal S4x12x64x4096 .f32
  | 0, _ => z
  | n + 1, h => addf (accTo y t w z n (Nat.le_of_succ_le h)) (mulf (shiftOf y t ⟨n, h⟩) (wideOf w ⟨n, h⟩))

theorem accTo_apply (y : S4x12x64x8192.Idx → EReal) (t : S8.Idx → BitVec 32) (w : S4x8.Idx → EReal) (z : FVec Ideal S4x12x64x4096 .f32) (p : Fin 8 → Fin 4096)
    (hp : ∀ j, t (ix1 j) = BitVec.ofNat 32 (p j).val) (b : Fin 4) (h : Fin 12) (e : Fin 64) (l : Fin 4096) (hz : (z (ix4 b h e l) : EReal) = 0) (f : ℕ → EReal)
    (hf : ∀ (k : Fin 8) (s : Fin 8192), s.val = l.val + (p k).val → y (ix4 b h e s) * w (ix2 b k) = f k.val) :
    ∀ (n : ℕ) (hn : n ≤ 8), (accTo y t w z n hn (ix4 b h e l) : EReal) = runSum f n
  | 0, _ => hz
  | n + 1, hn => by
    refine (madd _ _ _).trans ?_
    rw [accTo_apply y t w z p hp b h e l hz f hf n (Nat.le_of_succ_le hn), wideOf_apply, shiftOf_apply y t ⟨n, hn⟩ _ (hp _), hf ⟨n, hn⟩ _ rfl]
    rfl

/-- Values laid end to end with themselves along the sequence. -/
theorem doubled_apply (v : FVec Ideal S4x12x64x4096 .f32) (b : Fin 4) (h : Fin 12) (e : Fin 64) (s : Fin 8192) :
    concatenate S4x12x64x8192 3 [⟨S4x12x64x4096, v⟩, ⟨S4x12x64x4096, v⟩] concatenates_S4x12x64x4096_S4x12x64x4096_S4x12x64x8192_d3 (ix4 b h e s)
      = v (ix4 b h e (⟨s.val % 4096, Nat.mod_lt _ (by decide)⟩ : Fin 4096)) := by
  have hs := s.isLt
  by_cases hlt : s.val < 4096
  · refine concatenate_pair_apply_left (t := S4x12x64x8192) (s₁ := S4x12x64x4096) (s₂ := S4x12x64x4096) 3 v v concatenates_S4x12x64x4096_S4x12x64x4096_S4x12x64x8192_d3 _ rfl _ fun a => ?_
    match a with
    | ⟨0, _⟩ => rfl
    | ⟨1, _⟩ => rfl
    | ⟨2, _⟩ => rfl
    | ⟨3, _⟩ => exact Nat.mod_eq_of_lt hlt
  · refine concatenate_pair_apply_right (t := S4x12x64x8192) (s₁ := S4x12x64x4096) (s₂ := S4x12x64x4096) 3 v v concatenates_S4x12x64x4096_S4x12x64x4096_S4x12x64x8192_d3 _ rfl rfl _ (fun a ha => ?_) ?_
    · match a with
      | ⟨0, _⟩ => rfl
      | ⟨1, _⟩ => rfl
      | ⟨2, _⟩ => rfl
      | ⟨3, _⟩ => exact absurd rfl ha
    · show s.val % 4096 + 4096 = s.val
      omega

variable (x0 x1 x2 : S4x4096x12x64.Idx → EReal)

theorem v150_acc : val_main_v150 (F := Ideal) x0 x1 x2
    = accTo (val_main_v77 (F := Ideal) x2) (val_main_indices (F := Ideal) x0 x1) (val_main_v76 (F := Ideal) x0 x1) (val_main_v78 (F := Ideal)) 8 le_rfl := rfl

/-- The reference's result. -/
theorem v151_apply (b : Fin 4) (l : Fin 4096) (h : Fin 12) (e : Fin 64) :
    (val_main_v151 (F := Ideal) x0 x1 x2 (ix4 b l h e) : EReal)
      = runSum (termN x2 (fun k => (refAt x0 x1 k).val) (softN (val_main_v65 (F := Ideal) x0 x1)) b l.val h e) 8 := by
  have hi : idx_main_v151 (ix4 b l h e) = ix4 b h e l := by
    funext a
    match a with
    | ⟨0, _⟩ => rfl
    | ⟨1, _⟩ => rfl
    | ⟨2, _⟩ => rfl
    | ⟨3, _⟩ => rfl
  rw [val_main_v151_apply, hi, v150_acc]
  refine accTo_apply _ _ _ _ (fun k => refAt x0 x1 k) (fun j => indices_apply x0 x1 j) b h e l ?_ _ (fun k s hs => ?_) 8 le_rfl
  · exact (val_main_v78_apply _).trans Ideal.ofBits_zero_f32
  · rw [termN_fin, v76_apply]
    refine congrArg (fun z : EReal => z * softN (val_main_v65 (F := Ideal) x0 x1) b k) ?_
    unfold val_main_v77
    rw [doubled_apply, val_main_v2_apply]
    refine congrArg x2 (funext fun a => Fin.ext ?_)
    match a with
    | ⟨0, _⟩ => rfl
    | ⟨1, _⟩ => show s.val % 4096 = (l.val + (refAt x0 x1 k).val) % 4096; rw [hs]
    | ⟨2, _⟩ => rfl
    | ⟨3, _⟩ => rfl

end Cert.Alg

end
-- ==== Proof.Alg.Join.lean ====
/- Both programs' picks and weights are the same, and so are their results. -/
module

public import proofs.«01_k».proof.Proof.Alg.KResult
public import proofs.«01_k».proof.Proof.Alg.RGather

@[expose] public section

set_option maxRecDepth 16384

noncomputable section

namespace Cert.Alg

open Cert.ReferenceIdeal
open Cert.ReferenceIdeal.Gen Cert.ReferenceIdeal.Read
open Idealize.ShloMosaic Idealize.ShloMosaic.TcCoe Idealize.ShloMosaic.Tactic
open Idealize.ShloMosaic.ValueIdx

open Cert.KernelIdeal.Own (corrOf corrSum weightMat weightOf leftAt result)

variable {m : (ℓ : Loc Cert.KernelIdeal.nD Cert.KernelIdeal.τ Cert.KernelIdeal.sig) → Buf (Elt Ideal) ℓ} {c : Dev Cert.KernelIdeal.nD} {x0 x1 : S4x4096x12x64.Idx → EReal} {q k : S4x4096x12x64.Idx → ℝ}

/-- The kernel's summed correlations, by delay. -/
theorem sum_real (H : RealArgs m c q k) (n : ℕ) (hn : n < 4096) :
    atN (corrSum (corrX m c)) n = (((∑ b : Fin 4, corrR (flatR q) (flatR k) b n) : ℝ) : EReal) := by
  have e4 : ∀ u v w x : FVec Ideal Cert.KernelIdeal.S8x512 .f32, ∀ i, (addf (addf (addf u v) w) x i : EReal) = (u i : EReal) + (v i : EReal) + (w i : EReal) + (x i : EReal) := fun _ _ _ _ _ => rfl
  have en : 512 * (n / 512 % 8) + n % 512 = n := by omega
  have hc : ∀ b : Fin 4, (corrOf (corrX m c) b (ix2 (⟨n / 512 % 8, Nat.mod_lt _ (by decide)⟩ : Fin 8) (⟨n % 512, Nat.mod_lt _ (by decide)⟩ : Fin 512)) : EReal)
      = ((corrR (flatR q) (flatR k) b n : ℝ) : EReal) := fun b => by
    refine (corr_real H b _ _).trans ?_
    show ((corrR (flatR q) (flatR k) b (512 * (n / 512 % 8) + n % 512) : ℝ) : EReal) = _
    rw [en]
  unfold atN corrSum
  rw [e4, hc, hc, hc, hc, Fin.sum_univ_four]
  norm_cast

variable (H : RealArgs m c q k) (hq : ∀ i, x0 i = ((q i : ℝ) : EReal)) (hk : ∀ i, x1 i = ((k i : ℝ) : EReal))
include H hq hk

/-- Both programs pick the same delays. -/
theorem picks_eq (j : Fin 8) : pickAt (corrX m c) j.val = (refAt x0 x1 j).val := by
  refine (Picks.unique (kernel_picks (sum_real H)) (ref_picks hq hk) j.val j.isLt).trans ?_
  rw [dif_pos j.isLt]

/-- Both programs weigh them by the same numbers before the softmax. -/
theorem weights_eq : weightMat (corrX m c) = val_main_v65 (F := Ideal) x0 x1 := by
  funext i
  rw [eq_ix2 i]
  refine (weightMat_apply _ (i 0) (i 1)).trans ?_
  refine (weightOf_real _ _ (corrR (flatR q) (flatR k) (i 0)) fun r s => corr_real H (i 0) r s).trans ?_
  refine Eq.trans ?_ (v65_real hq hk (i 0) (i 1)).symm
  have e : pickN (leftAt (corrX m c) (i 1).val) = (refAt x0 x1 (i 1)).val := picks_eq H hq hk (i 1)
  rw [e]

/-- The two results are the same. -/
theorem results_eq : (result m c : S4x4096x12x64.Idx → EReal) = val_main_v151 (F := Ideal) x0 x1 (m (c, Proc.devRef .tc Cert.KernelIdeal.main_arg2)) := by
  obtain rfl : c = 0 := Subsingleton.elim _ _
  have key : ∀ (b : Fin 4) (l : Fin 4096) (h : Fin 12) (e : Fin 64), (result m 0 : S4x4096x12x64.Idx → EReal) (ix4 b l h e)
      = val_main_v151 (F := Ideal) x0 x1 (m (0, Proc.devRef .tc Cert.KernelIdeal.main_arg2)) (ix4 b l h e) := fun b l h e => by
    refine (result_apply m 0 b l h e).trans ((runSum_congr _ _ 8 fun n hn => ?_).trans (v151_apply x0 x1 _ b l h e).symm)
    rw [show n = (⟨n, hn⟩ : Fin 8).val from rfl, termN_fin, termN_fin, weights_eq H hq hk, picks_eq H hq hk]
  refine funext fun i : S4x4096x12x64.Idx => ?_
  rw [eq_ix4 i]
  exact key (i 0) (i 1) (i 2) (i 3)

end Cert.Alg

end
-- ==== Proof.Alg.Finite.lean ====
/- What the precondition gives: every query and key is a real number. -/
module

public import proofs.«01_k».proof.Pre_finite
public import Idealize.ShloMosaic.Lib.ReduceAll
public import Idealize.ShloMosaic.Lib.Affine
public import Idealize.ShloMosaic.PureOps.Ideal

@[expose] public section

noncomputable section

namespace Cert.Alg

open Cert.Pre_finite
open Idealize.ShloMosaic

/-- A number whose absolute value is below infinity is a real. -/
theorem real_of_lt (x : EReal) (h : max x (-x) < ⊤) : x = ((x.toReal : ℝ) : EReal) := by
  induction x with
  | bot => simp at h
  | coe r => rfl
  | top => simp at h

theorem ofBits_top : Ideal.ofBits .f32 0x7F800000#32 = ⊤ := by simp [Ideal.ofBits, Ideal.ieee]

theorem lt_of_bit (x y : EReal) (h : BitVec.ofBool (decide (x < y)) = 1#1) : x < y := by
  by_contra hn
  simp [hn] at h

/-- All finite, as the comparison states it. -/
theorem real_of_all (x : FVec Ideal S4x4096x12x64 .f32) (hb : S_.BroadcastsInDim S4x4096x12x64 (![] : Fin 0 → Fin S4x4096x12x64.rank))
    (hr : S4x4096x12x64.ReducesTo [0, 1, 2, 3] S_) (hs : 0 < S_.numel) (j : S_.Idx)
    (h : Host.reduce IntOp.andi (cmpf .olt (Host.absf x) (broadcastInDim S4x4096x12x64 ![] hb (constant (F := Ideal) S_ .f32 0x7F800000#32))) (constantI S_ 1 1#1) hr hs j = 1#1)
    (i : S4x4096x12x64.Idx) : (x i : EReal) = (((x i : EReal).toReal : ℝ) : EReal) := by
  haveI : Subsingleton S_.Idx := ⟨fun a b => funext fun k => k.elim0⟩
  have e := Host.reduce_andi_all _ _ hr hs j h i
  refine real_of_lt _ ?_
  have e' : BitVec.ofBool (decide (max (x i : EReal) (-(x i : EReal)) < Ideal.ofBits .f32 0x7F800000#32)) = 1#1 := e
  rw [ofBits_top] at e'
  exact lt_of_bit _ _ e'

/-- The precondition, query by query and key by key. -/
theorem real_of_pre [Facts] (x0 x1 x2 : FVec Ideal S4x4096x12x64 .f32) (h : Cert.Pre_finite.fn (F := Ideal) x0 x1 x2 = fun _ => 1#1) :
    (∀ i, (x0 i : EReal) = (((x0 i : EReal).toReal : ℝ) : EReal)) ∧ ∀ i, (x1 i : EReal) = (((x1 i : EReal).toReal : ℝ) : EReal) := by
  let j : S_.Idx := fun a => a.elim0
  have hj := congrFun h j
  obtain ⟨h0, h1⟩ := IntOp.andi_eq_one.mp hj
  exact ⟨real_of_all x0 _ _ _ j h0, real_of_all x1 _ _ _ j h1⟩

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Alg.Join
public import proofs.«01_k».proof.Proof.Alg.Finite

@[expose] public section

noncomputable section

namespace Cert.Proof

open Idealize.ShloMosaic Idealize.ShloMosaic.TcCoe Idealize.SL.Sem

/-- The reference declares no semaphore. -/
theorem noSem (sm : SemLoc Cert.ReferenceIdeal.sig) : False := by
  revert sm; decide

theorem preFacts : Cert.Pre_finite.Facts where
  bcast_S_S4x4096x12x64 := by decide
  reducesTo_S4x4096x12x64_S_d0_1_2_3 := by decide
  h_S_ := by decide

theorem frameKernel : Cert.quiescent_Kernel (hKernel := Cert.Kernel.Gen.facts) := fun m g _ =>
  Idealize.ShloMosaic.θ_run_mono (Cert.Kernel.Own.run_result m g) fun _ h => ⟨fun c => (h.1 c).2, h.2⟩

theorem frameIdeal : Cert.quiescent_KernelIdeal (hKernelIdeal := Cert.KernelIdeal.Gen.facts) := fun m g _ =>
  Idealize.ShloMosaic.θ_run_mono (Cert.KernelIdeal.Own.run_result m g) fun _ h => ⟨fun c => (h.1 c).2, h.2⟩

theorem frameReference : Cert.quiescent_ReferenceIdeal (hReferenceIdeal := Cert.ReferenceIdeal.Gen.facts) := fun m g _ =>
  Idealize.ShloMosaic.θ_run_mono (Cert.ReferenceIdeal.Value.run m g) fun _ h => ⟨fun c => (h c).2, funext fun g => (noSem g.2).elim⟩

/-- From equal finite arguments both programs leave the same result. -/
theorem results : Cert.algebraic_KernelIdeal_ReferenceIdeal_pre_finite (hKernelIdeal := Cert.KernelIdeal.Gen.facts) (hReferenceIdeal := Cert.ReferenceIdeal.Gen.facts) (hPre_finite := preFacts) := by
  intro m g m' g' hpre hargs
  refine ⟨fun c => Cert.KernelIdeal.Own.result m c,
    Idealize.ShloMosaic.θ_run_mono (Cert.KernelIdeal.Own.run_result m g) fun _ h c => h.1 c,
    Idealize.ShloMosaic.θ_run_mono (Cert.ReferenceIdeal.Value.run m' g') fun r h c => ⟨?_, (h c).2⟩⟩
  obtain ⟨hq, hk⟩ := @Cert.Alg.real_of_pre preFacts _ _ _ (hpre c)
  obtain ⟨a0, a1, a2⟩ := hargs c
  have H : Cert.Alg.RealArgs m c _ _ := ⟨hq, hk⟩
  have e := Cert.Alg.results_eq (c := c) H hq hk
  refine (h c).1.trans ((Cert.ReferenceIdeal.Read.val_main_v151_eq (F := Ideal) (Idealize.ShloMosaic.StableHlo.launchContents m' c)).trans (Eq.trans ?_ e.symm))
  show Cert.ReferenceIdeal.Read.val_main_v151 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) = _
  rw [a0, a1, a2]

theorem claim : Cert.Claim := ⟨Cert.Kernel.Gen.facts, Cert.KernelIdeal.Gen.facts, Cert.ReferenceIdeal.Gen.facts, preFacts,
  frameKernel, frameIdeal, fun m g _ => frameIdeal m g trivial, frameReference, fun m g _ => frameReference m g trivial,
  IdealRules.named_const.statement Cert.KernelIdeal.κ "inv_he" .f32 0x3AAAAAAB#32 ((1 / 768 : ℝ) : EReal) rfl, results⟩

end Cert.Proof

end
